-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel10_Kernel10Ideal : Prop :=
  IdealRules.named_const.Statement Cert.Kernel10Ideal.κ "c1" .f32 0x3FC48605#32 ((8388608 / 5463681 : ℝ) : EReal)
  ∧ IdealRules.named_const.Statement Cert.Kernel10Ideal.κ "c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "c1" .f32 0x3FC48605#32 ((8388608 / 5463681 : ℝ) : EReal)
  ∧ IdealRules.named_const.Statement Cert.Kernel11Ideal.κ "c2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v53) = v0 c
          ∧ r.2.mem ((c.tc : Thread Cert.Reference27Ideal.nD Cert.Reference27Ideal.τ).loc Cert.Reference27Ideal.main_v37) = v1 c
          ∧ r.2.mem ((c.tc : Thread Cert.Reference27Ideal.nD Cert.Reference27Ideal.τ).loc Cert.Reference27Ideal.main_v59) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v10) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v12) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v25) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v25) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def preserves_Kernel36_Kernel36Ideal : Prop :=
  True

def preserves_Kernel37_Kernel37Ideal : Prop :=
  True

def preserves_Kernel38_Kernel38Ideal : Prop :=
  True

def preserves_Kernel40_Kernel40Ideal : Prop :=
  True

def preserves_Kernel41_Kernel41Ideal : Prop :=
  True

def preserves_Kernel42_Kernel42Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hKernel36 : Cert.Kernel36.Facts) (hKernel36Ideal : Cert.Kernel36Ideal.Facts) (hKernel37 : Cert.Kernel37.Facts) (hKernel37Ideal : Cert.Kernel37Ideal.Facts) (hKernel38 : Cert.Kernel38.Facts) (hKernel38Ideal : Cert.Kernel38Ideal.Facts) (hKernel40 : Cert.Kernel40.Facts) (hKernel40Ideal : Cert.Kernel40Ideal.Facts) (hKernel41 : Cert.Kernel41.Facts) (hKernel41Ideal : Cert.Kernel41Ideal.Facts) (hKernel42 : Cert.Kernel42.Facts) (hKernel42Ideal : Cert.Kernel42Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel36 (hKernel36 := hKernel36)
    ∧ quiescent_Kernel36Ideal (hKernel36Ideal := hKernel36Ideal)
    ∧ quiescent_Kernel37 (hKernel37 := hKernel37)
    ∧ quiescent_Kernel37Ideal (hKernel37Ideal := hKernel37Ideal)
    ∧ quiescent_Kernel38 (hKernel38 := hKernel38)
    ∧ quiescent_Kernel38Ideal (hKernel38Ideal := hKernel38Ideal)
    ∧ quiescent_Kernel40 (hKernel40 := hKernel40)
    ∧ quiescent_Kernel40Ideal (hKernel40Ideal := hKernel40Ideal)
    ∧ quiescent_Kernel41 (hKernel41 := hKernel41)
    ∧ quiescent_Kernel41Ideal (hKernel41Ideal := hKernel41Ideal)
    ∧ quiescent_Kernel42 (hKernel42 := hKernel42)
    ∧ quiescent_Kernel42Ideal (hKernel42Ideal := hKernel42Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ preserves_Kernel36_Kernel36Ideal
    ∧ preserves_Kernel37_Kernel37Ideal
    ∧ preserves_Kernel38_Kernel38Ideal
    ∧ preserves_Kernel40_Kernel40Ideal
    ∧ preserves_Kernel41_Kernel41Ideal
    ∧ preserves_Kernel42_Kernel42Ideal
-- ==== Kernel.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x2048 : Shape := ⟨2, ![1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_25 : BitVec 32 := 0#32
  let v64 : BitVec 1 := Scalar.cmpi .ne v63 c0_i32_25
  v64

def k0_cond2 (i : grid0.Coords) : BitVec 1 :=
  let arg0 : BitVec 32 := BitVec.ofNat 32 (i 0).val
  let c0_i32_26 : BitVec 32 := 0#32
  let v65 : BitVec 1 := Scalar.cmpi .sgt arg0 c0_i32_26
  let v66 : BitVec 32 := Scalar.extui v65
  let c0_i32_27 : BitVec 32 := 0#32
  let v67 : BitVec 1 := Scalar.cmpi .ne v66 c0_i32_27
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1x1024 : Shape := ⟨2, ![1, 1024]⟩
abbrev S1x3072 : Shape := ⟨2, ![1, 3072]⟩
abbrev S1x3x1024 : Shape := ⟨3, ![1, 3, 1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S4096x1024, .f32⟩
  | .hbm, ⟨5, _⟩ => ⟨S4096x1024, .f32⟩
  | .hbm, ⟨6, _⟩ => ⟨S1x3072, .f32⟩
  | .hbm, ⟨7, _⟩ => ⟨S1x3x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1x1024, .f32⟩
  | .hbm, ⟨72, _⟩ => ⟨S_, .f32⟩
  | .hbm, ⟨73, _⟩ => ⟨S1x3x1024, .f32⟩
  | .hbm, ⟨74, _⟩ => ⟨S1x1x1024, .f32⟩
  | .hbm, ⟨75, _⟩ => ⟨S_, .f32⟩
  | .hbm, ⟨76, _⟩ => ⟨S1x3x1024, .f32⟩
  | .hbm, ⟨77, _⟩ => ⟨S1x3x1024, .f32⟩
  | .hbm, ⟨78, _⟩ => ⟨S1x3072, .f32⟩
  | .hbm, ⟨79, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel2.lean ====
abbrev S4096x1024 : Shape := ⟨2, ![4096, 1024]⟩
abbrev S4096x6144 : Shape := ⟨2, ![4096, 6144]⟩
abbrev S1024x6144 : Shape := ⟨2, ![1024, 6144]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x6144 : Shape := ⟨2, ![4096, 6144]⟩
abbrev S1024x6144 : Shape := ⟨2, ![1024, 6144]⟩
abbrev S4096x1024 : Shape := ⟨2, ![4096, 1024]⟩
abbrev S1024x3072 : Shape := ⟨2, ![1024, 3072]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x6144 : Shape := ⟨2, ![4096, 6144]⟩
abbrev S1024x6144 : Shape := ⟨2, ![1024, 6144]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x6144, .f32⟩
  | .hbm, ⟨6, _⟩ => ⟨S4096x6144, .f32⟩
  | .hbm, ⟨7, _⟩ => ⟨S4096x6144, .f32⟩
  | .hbm, ⟨8, _⟩ => ⟨S4096x1024, .f32⟩
  | .hbm, ⟨9, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x3072 : Shape := ⟨2, ![4096, 3072]⟩
abbrev S1024x2048 : Shape := ⟨2, ![1024, 2048]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x2048, .f32⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x3072 : Shape := ⟨2, ![4096, 3072]⟩
abbrev S1024x2048 : Shape := ⟨2, ![1024, 2048]⟩
abbrev S_ : Shape := ⟨0, ![]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x2048, .f32⟩
  | .hbm, ⟨3, _⟩ => ⟨S_, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S1024x1024, .f32⟩
  | .hbm, ⟨11, _⟩ => ⟨S1024x2048, .f32⟩
  | .hbm, ⟨12, _⟩ => ⟨S1024x2048, .f32⟩
  | .hbm, ⟨13, _⟩ => ⟨S1024x3072, .f32⟩
  | .hbm, ⟨14, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S4096x1024, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x6144 : Shape := ⟨2, ![1024, 6144]⟩
abbrev S4096x6144 : Shape := ⟨2, ![4096, 6144]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .bf16⟩
  | .local _ .vmem, ⟨4, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S4096x3072 : Shape := ⟨2, ![4096, 3072]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .f32⟩
  | .local _ .vmem, ⟨4, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S1x256x1024 : Shape := ⟨3, ![1, 256, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S2x128x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference10Ideal.lean ====
abbrev S1x256x1024 : Shape := ⟨3, ![1, 256, 1024]⟩
abbrev S2x128x1024 : Shape := ⟨3, ![2, 128, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S2x128x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel11.lean ====
abbrev S1x2312x1024 : Shape := ⟨3, ![1, 2312, 1024]⟩
abbrev S1x136x1024 : Shape := ⟨3, ![1, 136, 1024]⟩
abbrev S136x1024 : Shape := ⟨2, ![136, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2312x1024, .f32⟩
  | .hbm, ⟨1, _⟩ => ⟨S1x2312x1024, .f32⟩
  | .hbm, ⟨2, _⟩ => ⟨S1x2312x1024, .f32⟩
  | .hbm, ⟨3, _⟩ => ⟨S1x2312x1024, .f32⟩
  | .hbm, ⟨4, _⟩ => ⟨S1x2312x1024, .f32⟩
  | .hbm, ⟨5, _⟩ => ⟨S1x2312x1024, .f32⟩
  | .hbm, ⟨6, _⟩ => ⟨S1x2312x1024, .f32⟩
  | .hbm, ⟨7, _⟩ => ⟨S1x2312x1024, .f32⟩
  | .local _ .vmem, ⟨0, _⟩ => ⟨S1x136x1024, .f32⟩
  | .local _ .vmem, ⟨1, _⟩ => ⟨S1x136x1024, .f32⟩
  | .local _ .vmem, ⟨2, _⟩ => ⟨S1x136x1024, .f32⟩
  | .local _ .vmem, ⟨3, _⟩ => ⟨S1x136x1024, .f32⟩
  | .local _ .vmem, ⟨4, _⟩ => ⟨S1x136x1024, .f32⟩
  | .local _ .vmem, ⟨5, _⟩ => ⟨S1x136x1024, .f32⟩
  | .local _ .vmem, ⟨6, _⟩ => ⟨S1x136x1024, .f32⟩
  | .local _ .vmem, ⟨7, _⟩ => ⟨S1x136x1024, .f32⟩
  | .local _ .vmem, ⟨8, _⟩ => ⟨S1x136x1024, .f32⟩
  | .local _ .vmem, ⟨9, _⟩ => ⟨S1x136x1024, .f32⟩
  | .local _ .vmem, ⟨10, _⟩ => ⟨S1x136x1024, .f32⟩
  | .local _ .vmem, ⟨11, _⟩ => ⟨S1x136x1024, .f32⟩
  | .local _ .vmem, ⟨12, _⟩ => ⟨S1x136x1024, .f32⟩
  | .local _ .vmem, ⟨13, _⟩ => ⟨S1x136x1024, .f32⟩
  | .local _ .vmem, ⟨14, _⟩ => ⟨S1x136x1024, .f32⟩
  | .local _ .vmem, ⟨15, _⟩ => ⟨S1x136x1024, .f32⟩
  | _, _ => ⟨S1x2312x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x136x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference11Ideal.lean ====
abbrev S1x2312x1024 : Shape := ⟨3, ![1, 2312, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2312x1024, .f32⟩
  | .hbm, ⟨1, _⟩ => ⟨S1x2312x1024, .f32⟩
  | .hbm, ⟨2, _⟩ => ⟨S1x2312x1024, .f32⟩
  | .hbm, ⟨3, _⟩ => ⟨S1x2312x1024, .f32⟩
  | .hbm, ⟨4, _⟩ => ⟨S_, .f32⟩
  | .hbm, ⟨5, _⟩ => ⟨S1x2312x1024, .f32⟩
  | .hbm, ⟨6, _⟩ => ⟨S1x2312x1024, .f32⟩
  | .hbm, ⟨7, _⟩ => ⟨S_, .f32⟩
  | .hbm, ⟨8, _⟩ => ⟨S1x2312x1024, .f32⟩
  | .hbm, ⟨9, _⟩ => ⟨S1x2312x1024, .f32⟩
  | .hbm, ⟨10, _⟩ => ⟨S1x2312x1024, .f32⟩
  | .hbm, ⟨11, _⟩ => ⟨S_, .f32⟩
  | .hbm, ⟨12, _⟩ => ⟨S1x2312x1024, .f32⟩
  | .hbm, ⟨13, _⟩ => ⟨S1x2312x1024, .f32⟩
  | .hbm, ⟨14, _⟩ => ⟨S1x2312x1024, .f32⟩
  | .hbm, ⟨15, _⟩ => ⟨S_, .f32⟩
  | .hbm, ⟨16, _⟩ => ⟨S1x2312x1024, .f32⟩
  | .hbm, ⟨17, _⟩ => ⟨S1x2312x1024, .f32⟩
  | .hbm, ⟨18, _⟩ => ⟨S1x2312x1024, .f32⟩
  | .hbm, ⟨19, _⟩ => ⟨S_, .f32⟩
  | .hbm, ⟨20, _⟩ => ⟨S1x2312x1024, .f32⟩
  | .hbm, ⟨21, _⟩ => ⟨S1x2312x1024, .f32⟩
  | .hbm, ⟨22, _⟩ => ⟨S_, .f32⟩
  | .hbm, ⟨23, _⟩ => ⟨S1x2312x1024, .f32⟩
  | .hbm, ⟨24, _⟩ => ⟨S1x2312x1024, .f32⟩
  | .hbm, ⟨25, _⟩ => ⟨S1x2312x1024, .f32⟩
  | .hbm, ⟨26, _⟩ => ⟨S_, .f32⟩
  | .hbm, ⟨27, _⟩ => ⟨S1x2312x1024, .f32⟩
  | .hbm, ⟨28, _⟩ => ⟨S1x2312x1024, .f32⟩
  | .hbm, ⟨29, _⟩ => ⟨S1x2312x1024, .f32⟩
  | .hbm, ⟨30, _⟩ => ⟨S_, .f32⟩
  | .hbm, ⟨31, _⟩ => ⟨S1x2312x1024, .f32⟩
  | .hbm, ⟨32, _⟩ => ⟨S1x2312x1024, .f32⟩
  | .hbm, ⟨33, _⟩ => ⟨S1x2312x1024, .f32⟩
  | .hbm, ⟨34, _⟩ => ⟨S_, .f32⟩
  | .hbm, ⟨35, _⟩ => ⟨S1x2312x1024, .f32⟩
  | .hbm, ⟨36, _⟩ => ⟨S1x2312x1024, .f32⟩
  | _, _ => ⟨S1x2312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference12Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x128x128 : Shape := ⟨3, ![8, 128, 128]⟩
abbrev S2944x128 : Shape := ⟨2, ![2944, 128]⟩
abbrev S1024x128 : Shape := ⟨2, ![1024, 128]⟩
abbrev S256x128 : Shape := ⟨2, ![256, 128]⟩

abbrev nBuf : Space → Nat
  | .hbm => 11
  | .vmem => 16
  | .smem => 0
  | _ => 0

abbrev bufTy : (tb : Table) → Fin (tcTables nBuf tb) → BufTy
  | .hbm, ⟨0, _⟩ => ⟨S8x128x128, .f32⟩
  | .hbm, ⟨1, _⟩ => ⟨S2944x128, .f32⟩
  | .hbm, ⟨2, _⟩ => ⟨S8x128x128, .f32⟩
  | .hbm, ⟨3, _⟩ => ⟨S8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference13Ideal.lean ====
abbrev S8x128x128 : Shape := ⟨3, ![8, 128, 128]⟩
abbrev S2944x128 : Shape := ⟨2, ![2944, 128]⟩
abbrev S1024x128 : Shape := ⟨2, ![1024, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S2944x128, .f32⟩
  | .hbm, ⟨2, _⟩ => ⟨S8x128x128, .f32⟩
  | .hbm, ⟨3, _⟩ => ⟨S8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S_, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S80x128 : Shape := ⟨2, ![80, 128]⟩

abbrev nBuf : Space → Nat
  | .hbm => 8
  | .vmem => 8
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S80x128, .f32⟩
  | .hbm, ⟨5, _⟩ => ⟨S80x128, .f32⟩
  | .hbm, ⟨6, _⟩ => ⟨S80x128, .f32⟩
  | .hbm, ⟨7, _⟩ => ⟨S80x128, .f32⟩
  | .local _ .vmem, ⟨0, _⟩ => ⟨S80x128, .f32⟩
  | .local _ .vmem, ⟨1, _⟩ => ⟨S80x128, .f32⟩
  | .local _ .vmem, ⟨2, _⟩ => ⟨S80x128, .f32⟩
  | .local _ .vmem, ⟨3, _⟩ => ⟨S80x128, .f32⟩
  | .local _ .vmem, ⟨4, _⟩ => ⟨S80x128, .f32⟩
  | .local _ .vmem, ⟨5, _⟩ => ⟨S80x128, .f32⟩
  | .local _ .vmem, ⟨6, _⟩ => ⟨S80x128, .f32⟩
  | .local _ .vmem, ⟨7, _⟩ => ⟨S80x128, .f32⟩
  | _, _ => ⟨S80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S80x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel14Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference14Ideal.lean ====
abbrev S80x128 : Shape := ⟨2, ![80, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S_, .f32⟩
  | .hbm, ⟨5, _⟩ => ⟨S80x128, .f32⟩
  | .hbm, ⟨6, _⟩ => ⟨S80x128, .f32⟩
  | .hbm, ⟨7, _⟩ => ⟨S_, .f32⟩
  | .hbm, ⟨8, _⟩ => ⟨S80x128, .f32⟩
  | .hbm, ⟨9, _⟩ => ⟨S80x128, .f32⟩
  | .hbm, ⟨10, _⟩ => ⟨S80x128, .f32⟩
  | .hbm, ⟨11, _⟩ => ⟨S_, .f32⟩
  | .hbm, ⟨12, _⟩ => ⟨S80x128, .f32⟩
  | .hbm, ⟨13, _⟩ => ⟨S80x128, .f32⟩
  | .hbm, ⟨14, _⟩ => ⟨S80x128, .f32⟩
  | .hbm, ⟨15, _⟩ => ⟨S_, .f32⟩
  | .hbm, ⟨16, _⟩ => ⟨S80x128, .f32⟩
  | .hbm, ⟨17, _⟩ => ⟨S80x128, .f32⟩
  | .hbm, ⟨18, _⟩ => ⟨S80x128, .f32⟩
  | .hbm, ⟨19, _⟩ => ⟨S_, .f32⟩
  | .hbm, ⟨20, _⟩ => ⟨S80x128, .f32⟩
  | .hbm, ⟨21, _⟩ => ⟨S80x128, .f32⟩
  | .hbm, ⟨22, _⟩ => ⟨S_, .f32⟩
  | .hbm, ⟨23, _⟩ => ⟨S80x128, .f32⟩
  | .hbm, ⟨24, _⟩ => ⟨S80x128, .f32⟩
  | .hbm, ⟨25, _⟩ => ⟨S80x128, .f32⟩
  | .hbm, ⟨26, _⟩ => ⟨S_, .f32⟩
  | .hbm, ⟨27, _⟩ => ⟨S80x128, .f32⟩
  | .hbm, ⟨28, _⟩ => ⟨S80x128, .f32⟩
  | .hbm, ⟨29, _⟩ => ⟨S80x128, .f32⟩
  | .hbm, ⟨30, _⟩ => ⟨S_, .f32⟩
  | .hbm, ⟨31, _⟩ => ⟨S80x128, .f32⟩
  | .hbm, ⟨32, _⟩ => ⟨S80x128, .f32⟩
  | .hbm, ⟨33, _⟩ => ⟨S80x128, .f32⟩
  | .hbm, ⟨34, _⟩ => ⟨S_, .f32⟩
  | .hbm, ⟨35, _⟩ => ⟨S80x128, .f32⟩
  | .hbm, ⟨36, _⟩ => ⟨S80x128, .f32⟩
  | _, _ => ⟨S80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x768 : Shape := ⟨2, ![8, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel15Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference15Ideal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S1024x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S256x2048 : Shape := ⟨2, ![256, 2048]⟩
abbrev S1024x2048 : Shape := ⟨2, ![1024, 2048]⟩
abbrev S256x1024 : Shape := ⟨2, ![256, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S1024x2048, .bf16⟩
  | .hbm, ⟨2, _⟩ => ⟨S256x1024, .f32⟩
  | .hbm, ⟨3, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference18Ideal.lean ====
abbrev S256x2048 : Shape := ⟨2, ![256, 2048]⟩
abbrev S1024x2048 : Shape := ⟨2, ![1024, 2048]⟩
abbrev S256x1024 : Shape := ⟨2, ![256, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1024x2048, .bf16⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1024x2048, .f32⟩
  | .hbm, ⟨6, _⟩ => ⟨S256x2048, .f32⟩
  | .hbm, ⟨7, _⟩ => ⟨S256x2048, .f32⟩
  | .hbm, ⟨8, _⟩ => ⟨S256x1024, .f32⟩
  | .hbm, ⟨9, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S256x1024 : Shape := ⟨2, ![256, 1024]⟩
abbrev S1024x128 : Shape := ⟨2, ![1024, 128]⟩
abbrev S256x128 : Shape := ⟨2, ![256, 128]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x128, .bf16⟩
  | .hbm, ⟨2, _⟩ => ⟨S256x128, .f32⟩
  | .local _ .vmem, ⟨0, _⟩ => ⟨S256x1024, .bf16⟩
  | .local _ .vmem, ⟨1, _⟩ => ⟨S1024x128, .bf16⟩
  | .local _ .vmem, ⟨2, _⟩ => ⟨S256x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S256x1024 : Shape := ⟨2, ![256, 1024]⟩
abbrev S1024x128 : Shape := ⟨2, ![1024, 128]⟩
abbrev S256x128 : Shape := ⟨2, ![256, 128]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x128, .bf16⟩
  | .hbm, ⟨2, _⟩ => ⟨S256x1024, .f32⟩
  | .hbm, ⟨3, _⟩ => ⟨S1024x128, .f32⟩
  | .hbm, ⟨4, _⟩ => ⟨S256x128, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .hbm, ⟨3, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .bf16⟩
  | .local _ .vmem, ⟨6, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference21Ideal.lean ====
abbrev S4096x1024 : Shape := ⟨2, ![4096, 1024]⟩
abbrev S4096x128 : Shape := ⟨2, ![4096, 128]⟩
abbrev S1024x128 : Shape := ⟨2, ![1024, 128]⟩
abbrev S_ : Shape := ⟨0, ![]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .hbm, ⟨3, _⟩ => ⟨S_, .f32⟩
  | .hbm, ⟨4, _⟩ => ⟨S1024x128, .f32⟩
  | .hbm, ⟨5, _⟩ => ⟨S4096x1024, .f32⟩
  | .hbm, ⟨6, _⟩ => ⟨S4096x128, .f32⟩
  | .hbm, ⟨7, _⟩ => ⟨S4096x128, .f32⟩
  | .hbm, ⟨8, _⟩ => ⟨S128x1024, .f32⟩
  | .hbm, ⟨9, _⟩ => ⟨S1024x128, .f32⟩
  | .hbm, ⟨10, _⟩ => ⟨S1024x128, .f32⟩
  | .hbm, ⟨11, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel22.lean ====
abbrev S256x1024 : Shape := ⟨2, ![256, 1024]⟩
abbrev S256x128 : Shape := ⟨2, ![256, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x128, .bf16⟩
  | .hbm, ⟨2, _⟩ => ⟨S1024x128, .f32⟩
  | .local _ .vmem, ⟨0, _⟩ => ⟨S256x1024, .bf16⟩
  | .local _ .vmem, ⟨1, _⟩ => ⟨S256x128, .bf16⟩
  | .local _ .vmem, ⟨2, _⟩ => ⟨S1024x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S256x128 : Shape := ⟨2, ![256, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x128, .bf16⟩
  | .hbm, ⟨2, _⟩ => ⟨S_, .f32⟩
  | .hbm, ⟨3, _⟩ => ⟨S1024x128, .f32⟩
  | .hbm, ⟨4, _⟩ => ⟨S256x1024, .f32⟩
  | .hbm, ⟨5, _⟩ => ⟨S256x128, .f32⟩
  | .hbm, ⟨6, _⟩ => ⟨S256x128, .f32⟩
  | .hbm, ⟨7, _⟩ => ⟨S128x1024, .f32⟩
  | .hbm, ⟨8, _⟩ => ⟨S1024x128, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x128 : Shape := ⟨2, ![4096, 128]⟩
abbrev S1024x128 : Shape := ⟨2, ![1024, 128]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S_, .f32⟩
  | .hbm, ⟨3, _⟩ => ⟨S4096x1024, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S256x128 : Shape := ⟨2, ![256, 128]⟩
abbrev S1024x128 : Shape := ⟨2, ![1024, 128]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x128, .bf16⟩
  | .hbm, ⟨1, _⟩ => ⟨S1024x128, .bf16⟩
  | .hbm, ⟨2, _⟩ => ⟨S256x1024, .f32⟩
  | .local _ .vmem, ⟨0, _⟩ => ⟨S256x128, .bf16⟩
  | .local _ .vmem, ⟨1, _⟩ => ⟨S1024x128, .bf16⟩
  | .local _ .vmem, ⟨2, _⟩ => ⟨S256x1024, .f32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S256x128 : Shape := ⟨2, ![256, 128]⟩
abbrev S1024x128 : Shape := ⟨2, ![1024, 128]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S1024x128, .bf16⟩
  | .hbm, ⟨2, _⟩ => ⟨S_, .f32⟩
  | .hbm, ⟨3, _⟩ => ⟨S256x1024, .f32⟩
  | .hbm, ⟨4, _⟩ => ⟨S1024x128, .f32⟩
  | .hbm, ⟨5, _⟩ => ⟨S256x128, .f32⟩
  | .hbm, ⟨6, _⟩ => ⟨S256x128, .f32⟩
  | .hbm, ⟨7, _⟩ => ⟨S256x1024, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S4096x1024 : Shape := ⟨2, ![4096, 1024]⟩
abbrev S1x1024 : Shape := ⟨2, ![1, 1024]⟩
abbrev S1x3072 : Shape := ⟨2, ![1, 3072]⟩
abbrev S1x3x1024 : Shape := ⟨3, ![1, 3, 1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3x1024, .f32⟩
  | .hbm, ⟨6, _⟩ => ⟨S1x1x1024, .f32⟩
  | .hbm, ⟨7, _⟩ => ⟨S1x1024, .f32⟩
  | .hbm, ⟨8, _⟩ => ⟨S1x1x1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel26.lean ====
abbrev S256x1024 : Shape := ⟨2, ![256, 1024]⟩
abbrev S1x1024 : Shape := ⟨2, ![1, 1024]⟩
abbrev S1x3072 : Shape := ⟨2, ![1, 3072]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1x3072, .f32⟩
  | .local _ .vmem, ⟨3, _⟩ => ⟨S1x3072, .f32⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference26Ideal.lean ====
abbrev S256x1024 : Shape := ⟨2, ![256, 1024]⟩
abbrev S1x1024 : Shape := ⟨2, ![1, 1024]⟩
abbrev S1x3072 : Shape := ⟨2, ![1, 3072]⟩
abbrev S1x3x1024 : Shape := ⟨3, ![1, 3, 1024]⟩
abbrev S1x1x1024 : Shape := ⟨3, ![1, 1, 1024]⟩
abbrev S_ : Shape := ⟨0, ![]⟩
abbrev S256 : Shape := ⟨1, ![256]⟩
abbrev S256x1 : Shape := ⟨2, ![256, 1]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3x1024, .f32⟩
  | .hbm, ⟨6, _⟩ => ⟨S1x1x1024, .f32⟩
  | .hbm, ⟨7, _⟩ => ⟨S1x1024, .f32⟩
  | .hbm, ⟨8, _⟩ => ⟨S1x1x1024, .f32⟩
  | .hbm, ⟨9, _⟩ => ⟨S1x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel27.lean ====
abbrev S256x1024 : Shape := ⟨2, ![256, 1024]⟩
abbrev S1x1024 : Shape := ⟨2, ![1, 1024]⟩
abbrev S1x3072 : Shape := ⟨2, ![1, 3072]⟩
abbrev S256 : Shape := ⟨1, ![256]⟩
abbrev S256x1 : Shape := ⟨2, ![256, 1]⟩
abbrev S1024 : Shape := ⟨1, ![1024]⟩
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S256x1024, .f32⟩
  | .hbm, ⟨5, _⟩ => ⟨S256x1024, .f32⟩
  | .hbm, ⟨6, _⟩ => ⟨S1x1024, .f32⟩
  | .hbm, ⟨7, _⟩ => ⟨S1x3072, .f32⟩
  | .local _ .vmem, ⟨0, _⟩ => ⟨S256x1024, .f32⟩
  | .local _ .vmem, ⟨1, _⟩ => ⟨S1x1024, .f32⟩
  | .local _ .vmem, ⟨2, _⟩ => ⟨S1x3072, .f32⟩
  | .local _ .vmem, ⟨3, _⟩ => ⟨S1x3072, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x3072, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_23 : BitVec 32 := 0#32
  let v62 : BitVec 1 := Scalar.cmpi .ne v61 c0_i32_23
  v62

def k0_cond2 (i : grid0.Coords) : BitVec 1 :=
  let arg0 : BitVec 32 := BitVec.ofNat 32 (i 0).val
  let c0_i32_24 : BitVec 32 := 0#32
  let v63 : BitVec 1 := Scalar.cmpi .sgt arg0 c0_i32_24
  let v64 : BitVec 32 := Scalar.extui v63
  let c0_i32_25 : BitVec 32 := 0#32
  let v65 : BitVec 1 := Scalar.cmpi .ne v64 c0_i32_25
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference27Ideal.lean ====
abbrev S256x1024 : Shape := ⟨2, ![256, 1024]⟩
abbrev S1x1024 : Shape := ⟨2, ![1, 1024]⟩
abbrev S1x3072 : Shape := ⟨2, ![1, 3072]⟩
abbrev S1x3x1024 : Shape := ⟨3, ![1, 3, 1024]⟩
abbrev S1x1x1024 : Shape := ⟨3, ![1, 1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S256x1024, .f32⟩
  | .hbm, ⟨5, _⟩ => ⟨S1x3072, .f32⟩
  | .hbm, ⟨6, _⟩ => ⟨S1x3x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S256x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S256x1024, .f32⟩
  | .hbm, ⟨58, _⟩ => ⟨S256x1024, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S_, .f32⟩
  | .hbm, ⟨64, _⟩ => ⟨S256, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S1x1x1024, .f32⟩
  | .hbm, ⟨71, _⟩ => ⟨S_, .f32⟩
  | .hbm, ⟨72, _⟩ => ⟨S1x3x1024, .f32⟩
  | .hbm, ⟨73, _⟩ => ⟨S1x1x1024, .f32⟩
  | .hbm, ⟨74, _⟩ => ⟨S_, .f32⟩
  | .hbm, ⟨75, _⟩ => ⟨S1x3x1024, .f32⟩
  | .hbm, ⟨76, _⟩ => ⟨S1x3x1024, .f32⟩
  | .hbm, ⟨77, _⟩ => ⟨S1x3072, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel28.lean ====
abbrev S16x1024 : Shape := ⟨2, ![16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .local _ .vmem, ⟨0, _⟩ => ⟨S16x1024, .f32⟩
  | .local _ .vmem, ⟨1, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference28Ideal.lean ====
abbrev S16x1024 : Shape := ⟨2, ![16, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Kernel29.lean ====
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference29Ideal.lean ====
abbrev S8x1024 : Shape := ⟨2, ![8, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== Kernel30.lean ====
abbrev S16x1024 : Shape := ⟨2, ![16, 1024]⟩
abbrev S4x1024x768 : Shape := ⟨3, ![4, 1024, 768]⟩
abbrev S16x3072 : Shape := ⟨2, ![16, 3072]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x768, .bf16⟩
  | .hbm, ⟨2, _⟩ => ⟨S16x3072, .f32⟩
  | .local _ .vmem, ⟨0, _⟩ => ⟨S16x1024, .f32⟩
  | .local _ .vmem, ⟨1, _⟩ => ⟨S1x1024x768, .bf16⟩
  | .local _ .vmem, ⟨2, _⟩ => ⟨S1x1024x768, .bf16⟩
  | .local _ .vmem, ⟨3, _⟩ => ⟨S16x768, .f32⟩
  | .local _ .vmem, ⟨4, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S16x1024 : Shape := ⟨2, ![16, 1024]⟩
abbrev S4x1024x768 : Shape := ⟨3, ![4, 1024, 768]⟩
abbrev S1x1024x768 : Shape := ⟨3, ![1, 1024, 768]⟩
abbrev S1024x768 : Shape := ⟨2, ![1024, 768]⟩
abbrev S1024x3072 : Shape := ⟨2, ![1024, 3072]⟩
abbrev S16x3072 : Shape := ⟨2, ![16, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .bf16⟩
  | .hbm, ⟨2, _⟩ => ⟨S1x1024x768, .bf16⟩
  | .hbm, ⟨3, _⟩ => ⟨S1024x768, .bf16⟩
  | .hbm, ⟨4, _⟩ => ⟨S1x1024x768, .bf16⟩
  | .hbm, ⟨5, _⟩ => ⟨S1024x768, .bf16⟩
  | .hbm, ⟨6, _⟩ => ⟨S1x1024x768, .bf16⟩
  | .hbm, ⟨7, _⟩ => ⟨S1024x768, .bf16⟩
  | .hbm, ⟨8, _⟩ => ⟨S1x1024x768, .bf16⟩
  | .hbm, ⟨9, _⟩ => ⟨S1024x768, .bf16⟩
  | .hbm, ⟨10, _⟩ => ⟨S1024x3072, .bf16⟩
  | .hbm, ⟨11, _⟩ => ⟨S1024x3072, .f32⟩
  | .hbm, ⟨12, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel31.lean ====
abbrev S16x3072 : Shape := ⟨2, ![16, 3072]⟩
abbrev S4x1024x768 : Shape := ⟨3, ![4, 1024, 768]⟩
abbrev S16x1024 : Shape := ⟨2, ![16, 1024]⟩
abbrev S16x768 : Shape := ⟨2, ![16, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x3072, .f32⟩
  | .hbm, ⟨1, _⟩ => ⟨S4x1024x768, .bf16⟩
  | .hbm, ⟨2, _⟩ => ⟨S16x1024, .f32⟩
  | .local _ .vmem, ⟨0, _⟩ => ⟨S16x768, .f32⟩
  | .local _ .vmem, ⟨1, _⟩ => ⟨S16x768, .f32⟩
  | .local _ .vmem, ⟨2, _⟩ => ⟨S1x1024x768, .bf16⟩
  | .local _ .vmem, ⟨3, _⟩ => ⟨S1x1024x768, .bf16⟩
  | .local _ .vmem, ⟨4, _⟩ => ⟨S16x1024, .f32⟩
  | .local _ .vmem, ⟨5, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S16x3072 : Shape := ⟨2, ![16, 3072]⟩
abbrev S4x1024x768 : Shape := ⟨3, ![4, 1024, 768]⟩
abbrev S1x1024x768 : Shape := ⟨3, ![1, 1024, 768]⟩
abbrev S1024x768 : Shape := ⟨2, ![1024, 768]⟩
abbrev S1024x3072 : Shape := ⟨2, ![1024, 3072]⟩
abbrev S_ : Shape := ⟨0, ![]⟩
abbrev S16x1024 : Shape := ⟨2, ![16, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S4x1024x768, .bf16⟩
  | .hbm, ⟨2, _⟩ => ⟨S1x1024x768, .bf16⟩
  | .hbm, ⟨3, _⟩ => ⟨S1024x768, .bf16⟩
  | .hbm, ⟨4, _⟩ => ⟨S1x1024x768, .bf16⟩
  | .hbm, ⟨5, _⟩ => ⟨S1024x768, .bf16⟩
  | .hbm, ⟨6, _⟩ => ⟨S1x1024x768, .bf16⟩
  | .hbm, ⟨7, _⟩ => ⟨S1024x768, .bf16⟩
  | .hbm, ⟨8, _⟩ => ⟨S1x1024x768, .bf16⟩
  | .hbm, ⟨9, _⟩ => ⟨S1024x768, .bf16⟩
  | .hbm, ⟨10, _⟩ => ⟨S1024x3072, .bf16⟩
  | .hbm, ⟨11, _⟩ => ⟨S_, .f32⟩
  | .hbm, ⟨12, _⟩ => ⟨S16x1024, .f32⟩
  | .hbm, ⟨13, _⟩ => ⟨S1024x3072, .f32⟩
  | .hbm, ⟨14, _⟩ => ⟨S16x3072, .f32⟩
  | .hbm, ⟨15, _⟩ => ⟨S16x1024, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel32.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x768, .f32⟩
  | .hbm, ⟨5, _⟩ => ⟨S768x1024, .f32⟩
  | .hbm, ⟨6, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel33.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S4096x128 : Shape := ⟨2, ![4096, 128]⟩
abbrev S1x128 : Shape := ⟨2, ![1, 128]⟩
abbrev S1x16 : Shape := ⟨2, ![1, 16]⟩
abbrev S4096x16 : Shape := ⟨2, ![4096, 16]⟩
abbrev S_ : Shape := ⟨0, ![]⟩
abbrev S64x64x16 : Shape := ⟨3, ![64, 64, 16]⟩
abbrev S64x64x8 : Shape := ⟨3, ![64, 64, 8]⟩
abbrev S4096x96 : Shape := ⟨2, ![4096, 96]⟩

abbrev nBuf : Space → Nat
  | .hbm => 49
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S4096x16, .f32⟩
  | .hbm, ⟨7, _⟩ => ⟨S1x16, .f32⟩
  | .hbm, ⟨8, _⟩ => ⟨S4096x16, .f32⟩
  | .hbm, ⟨9, _⟩ => ⟨S4096x16, .f32⟩
  | .hbm, ⟨10, _⟩ => ⟨S_, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .i1⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S64x64x16, .f32⟩
  | .hbm, ⟨27, _⟩ => ⟨S64x64x8, .f32⟩
  | .hbm, ⟨28, _⟩ => ⟨S_, .f32⟩
  | .hbm, ⟨29, _⟩ => ⟨S_, .f32⟩
  | .hbm, ⟨30, _⟩ => ⟨S64x64x8, .f32⟩
  | .hbm, ⟨31, _⟩ => ⟨S64x64x8, .f32⟩
  | .hbm, ⟨32, _⟩ => ⟨S_, .f32⟩
  | .hbm, ⟨33, _⟩ => ⟨S_, .f32⟩
  | .hbm, ⟨34, _⟩ => ⟨S64x64x8, .f32⟩
  | .hbm, ⟨35, _⟩ => ⟨S64x64x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S_, .f32⟩
  | .hbm, ⟨41, _⟩ => ⟨S4096x16, .f32⟩
  | .hbm, ⟨42, _⟩ => ⟨S4096x16, .f32⟩
  | .hbm, ⟨43, _⟩ => ⟨S_, .f32⟩
  | .hbm, ⟨44, _⟩ => ⟨S4096x16, .f32⟩
  | .hbm, ⟨45, _⟩ => ⟨S4096x16, .f32⟩
  | .hbm, ⟨46, _⟩ => ⟨S_, .f32⟩
  | .hbm, ⟨47, _⟩ => ⟨S4096x96, .f32⟩
  | .hbm, ⟨48, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_cst : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Kernel34.lean ====
abbrev S256x128 : Shape := ⟨2, ![256, 128]⟩
abbrev S1x128 : Shape := ⟨2, ![1, 128]⟩
abbrev S256x256 : Shape := ⟨2, ![256, 256]⟩

abbrev nBuf : Space → Nat
  | .hbm => 4
  | .vmem => 4
  | .smem => 0
  | _ => 0

abbrev bufTy : (tb : Table) → Fin (tcTables nBuf tb) → BufTy
  | .hbm, ⟨0, _⟩ => ⟨S256x128, .f32⟩
  | .hbm, ⟨1, _⟩ => ⟨S1x128, .f32⟩
  | .hbm, ⟨2, _⟩ => ⟨S1x128, .f32⟩
  | .hbm, ⟨3, _⟩ => ⟨S256x128, .f32⟩
  | .local _ .vmem, ⟨0, _⟩ => ⟨S256x128, .f32⟩
  | .local _ .vmem, ⟨1, _⟩ => ⟨S1x128, .f32⟩
  | .local _ .vmem, ⟨2, _⟩ => ⟨S1x128, .f32⟩
  | .local _ .vmem, ⟨3, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference34Ideal.lean ====
abbrev S256x128 : Shape := ⟨2, ![256, 128]⟩
abbrev S1x128 : Shape := ⟨2, ![1, 128]⟩
abbrev S1x16 : Shape := ⟨2, ![1, 16]⟩
abbrev S256x16 : Shape := ⟨2, ![256, 16]⟩
abbrev S_ : Shape := ⟨0, ![]⟩
abbrev S4x64x16 : Shape := ⟨3, ![4, 64, 16]⟩
abbrev S4x64x8 : Shape := ⟨3, ![4, 64, 8]⟩
abbrev S256x96 : Shape := ⟨2, ![256, 96]⟩

abbrev nBuf : Space → Nat
  | .hbm => 49
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S1x128, .f32⟩
  | .hbm, ⟨2, _⟩ => ⟨S1x128, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S256x16, .f32⟩
  | .hbm, ⟨7, _⟩ => ⟨S1x16, .f32⟩
  | .hbm, ⟨8, _⟩ => ⟨S256x16, .f32⟩
  | .hbm, ⟨9, _⟩ => ⟨S256x16, .f32⟩
  | .hbm, ⟨10, _⟩ => ⟨S_, .f32⟩
  | .hbm, ⟨11, _⟩ => ⟨S256x16, .f32⟩
  | .hbm, ⟨12, _⟩ => ⟨S256x16, .f32⟩
  | .hbm, ⟨13, _⟩ => ⟨S256x16, .f32⟩
  | .hbm, ⟨14, _⟩ => ⟨S256x16, .f32⟩
  | .hbm, ⟨15, _⟩ => ⟨S256x16, .i1⟩
  | .hbm, ⟨16, _⟩ => ⟨S256x16, .f32⟩
  | .hbm, ⟨17, _⟩ => ⟨S256x16, .f32⟩
  | .hbm, ⟨18, _⟩ => ⟨S256x16, .f32⟩
  | .hbm, ⟨19, _⟩ => ⟨S256x16, .f32⟩
  | .hbm, ⟨20, _⟩ => ⟨S256x16, .f32⟩
  | .hbm, ⟨21, _⟩ => ⟨S256x16, .f32⟩
  | .hbm, ⟨22, _⟩ => ⟨S256x16, .f32⟩
  | .hbm, ⟨23, _⟩ => ⟨S256x16, .f32⟩
  | .hbm, ⟨24, _⟩ => ⟨S256x16, .f32⟩
  | .hbm, ⟨25, _⟩ => ⟨S256x16, .f32⟩
  | .hbm, ⟨26, _⟩ => ⟨S4x64x16, .f32⟩
  | .hbm, ⟨27, _⟩ => ⟨S4x64x8, .f32⟩
  | .hbm, ⟨28, _⟩ => ⟨S_, .f32⟩
  | .hbm, ⟨29, _⟩ => ⟨S_, .f32⟩
  | .hbm, ⟨30, _⟩ => ⟨S4x64x8, .f32⟩
  | .hbm, ⟨31, _⟩ => ⟨S4x64x8, .f32⟩
  | .hbm, ⟨32, _⟩ => ⟨S_, .f32⟩
  | .hbm, ⟨33, _⟩ => ⟨S_, .f32⟩
  | .hbm, ⟨34, _⟩ => ⟨S4x64x8, .f32⟩
  | .hbm, ⟨35, _⟩ => ⟨S4x64x16, .f32⟩
  | .hbm, ⟨36, _⟩ => ⟨S256x16, .f32⟩
  | .hbm, ⟨37, _⟩ => ⟨S256x16, .f32⟩
  | .hbm, ⟨38, _⟩ => ⟨S256x16, .f32⟩
  | .hbm, ⟨39, _⟩ => ⟨S256x16, .f32⟩
  | .hbm, ⟨40, _⟩ => ⟨S_, .f32⟩
  | .hbm, ⟨41, _⟩ => ⟨S256x16, .f32⟩
  | .hbm, ⟨42, _⟩ => ⟨S256x16, .f32⟩
  | .hbm, ⟨43, _⟩ => ⟨S_, .f32⟩
  | .hbm, ⟨44, _⟩ => ⟨S256x16, .f32⟩
  | .hbm, ⟨45, _⟩ => ⟨S256x16, .f32⟩
  | .hbm, ⟨46, _⟩ => ⟨S_, .f32⟩
  | .hbm, ⟨47, _⟩ => ⟨S256x96, .f32⟩
  | .hbm, ⟨48, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_cst : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Kernel35.lean ====
abbrev S24x4096x128 : Shape := ⟨3, ![24, 4096, 128]⟩
abbrev S4096x128 : Shape := ⟨2, ![4096, 128]⟩
abbrev S8x128x128 : Shape := ⟨3, ![8, 128, 128]⟩
abbrev S8x4096x128 : Shape := ⟨3, ![8, 4096, 128]⟩
abbrev S32x8x128x128 : Shape := ⟨4, ![32, 8, 128, 128]⟩
abbrev S24x128x128 : Shape := ⟨3, ![24, 128, 128]⟩
abbrev S128x128 : Shape := ⟨2, ![128, 128]⟩
abbrev S1x8x128x128 : Shape := ⟨4, ![1, 8, 128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S64x128 : Shape := ⟨2, ![64, 128]⟩
abbrev S1 : Shape := ⟨1, ![1]⟩
abbrev S1x1 : Shape := ⟨2, ![1, 1]⟩
abbrev S1x1x128x128 : Shape := ⟨4, ![1, 1, 128, 128]⟩

abbrev nBuf : Space → Nat
  | .hbm => 12
  | .vmem => 24
  | .smem => 0
  | _ => 0

abbrev bufTy : (tb : Table) → Fin (tcTables nBuf tb) → BufTy
  | .hbm, ⟨0, _⟩ => ⟨S24x4096x128, .f32⟩
  | .hbm, ⟨1, _⟩ => ⟨S4096x128, .f32⟩
  | .hbm, ⟨2, _⟩ => ⟨S8x128x128, .f32⟩
  | .hbm, ⟨3, _⟩ => ⟨S8x128x128, .f32⟩
  | .hbm, ⟨4, _⟩ => ⟨S8x4096x128, .f32⟩
  | .hbm, ⟨5, _⟩ => ⟨S8x4096x128, .f32⟩
  | .hbm, ⟨6, _⟩ => ⟨S32x8x128x128, .f32⟩
  | .hbm, ⟨7, _⟩ => ⟨S32x8x128x128, .f32⟩
  | .hbm, ⟨8, _⟩ => ⟨S32x8x128x128, .f32⟩
  | .hbm, ⟨9, _⟩ => ⟨S32x8x128x128, .f32⟩
  | .hbm, ⟨10, _⟩ => ⟨S8x128x128, .f32⟩
  | .hbm, ⟨11, _⟩ => ⟨S8x128x128, .f32⟩
  | .local _ .vmem, ⟨0, _⟩ => ⟨S24x128x128, .f32⟩
  | .local _ .vmem, ⟨1, _⟩ => ⟨S24x128x128, .f32⟩
  | .local _ .vmem, ⟨2, _⟩ => ⟨S24x128x128, .f32⟩
  | .local _ .vmem, ⟨3, _⟩ => ⟨S24x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S8x128x128, .f32⟩
  | .local _ .vmem, ⟨14, _⟩ => ⟨S1x8x128x128, .f32⟩
  | .local _ .vmem, ⟨15, _⟩ => ⟨S1x8x128x128, .f32⟩
  | .local _ .vmem, ⟨16, _⟩ => ⟨S1x8x128x128, .f32⟩
  | .local _ .vmem, ⟨17, _⟩ => ⟨S1x8x128x128, .f32⟩
  | .local _ .vmem, ⟨18, _⟩ => ⟨S1x8x128x128, .f32⟩
  | .local _ .vmem, ⟨19, _⟩ => ⟨S1x8x128x128, .f32⟩
  | .local _ .vmem, ⟨20, _⟩ => ⟨S1x8x128x128, .f32⟩
  | .local _ .vmem, ⟨21, _⟩ => ⟨S1x8x128x128, .f32⟩
  | .local _ .vmem, ⟨22, _⟩ => ⟨S8x128x128, .f32⟩
  | .local _ .vmem, ⟨23, _⟩ => ⟨S8x128x128, .f32⟩
  | _, _ => ⟨S24x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S24x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel36.lean ====
abbrev S16x256x128 : Shape := ⟨3, ![16, 256, 128]⟩
abbrev S256x128 : Shape := ⟨2, ![256, 128]⟩
abbrev S8x128x128 : Shape := ⟨3, ![8, 128, 128]⟩
abbrev S8x256x128 : Shape := ⟨3, ![8, 256, 128]⟩
abbrev S2x8x128x128 : Shape := ⟨4, ![2, 8, 128, 128]⟩
abbrev S16x128x128 : Shape := ⟨3, ![16, 128, 128]⟩
abbrev S128x128 : Shape := ⟨2, ![128, 128]⟩
abbrev S1x8x128x128 : Shape := ⟨4, ![1, 8, 128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S1 : Shape := ⟨1, ![1]⟩
abbrev S1x1 : Shape := ⟨2, ![1, 1]⟩
abbrev S64x128 : Shape := ⟨2, ![64, 128]⟩
abbrev S1x1x128x128 : Shape := ⟨4, ![1, 1, 128, 128]⟩

abbrev nBuf : Space → Nat
  | .hbm => 12
  | .vmem => 24
  | .smem => 0
  | _ => 0

abbrev bufTy : (tb : Table) → Fin (tcTables nBuf tb) → BufTy
  | .hbm, ⟨0, _⟩ => ⟨S16x256x128, .f32⟩
  | .hbm, ⟨1, _⟩ => ⟨S256x128, .f32⟩
  | .hbm, ⟨2, _⟩ => ⟨S8x128x128, .f32⟩
  | .hbm, ⟨3, _⟩ => ⟨S8x128x128, .f32⟩
  | .hbm, ⟨4, _⟩ => ⟨S8x256x128, .f32⟩
  | .hbm, ⟨5, _⟩ => ⟨S8x256x128, .f32⟩
  | .hbm, ⟨6, _⟩ => ⟨S2x8x128x128, .f32⟩
  | .hbm, ⟨7, _⟩ => ⟨S2x8x128x128, .f32⟩
  | .hbm, ⟨8, _⟩ => ⟨S2x8x128x128, .f32⟩
  | .hbm, ⟨9, _⟩ => ⟨S2x8x128x128, .f32⟩
  | .hbm, ⟨10, _⟩ => ⟨S8x128x128, .f32⟩
  | .hbm, ⟨11, _⟩ => ⟨S8x128x128, .f32⟩
  | .local _ .vmem, ⟨0, _⟩ => ⟨S16x128x128, .f32⟩
  | .local _ .vmem, ⟨1, _⟩ => ⟨S16x128x128, .f32⟩
  | .local _ .vmem, ⟨2, _⟩ => ⟨S16x128x128, .f32⟩
  | .local _ .vmem, ⟨3, _⟩ => ⟨S16x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S8x128x128, .f32⟩
  | .local _ .vmem, ⟨14, _⟩ => ⟨S1x8x128x128, .f32⟩
  | .local _ .vmem, ⟨15, _⟩ => ⟨S1x8x128x128, .f32⟩
  | .local _ .vmem, ⟨16, _⟩ => ⟨S1x8x128x128, .f32⟩
  | .local _ .vmem, ⟨17, _⟩ => ⟨S1x8x128x128, .f32⟩
  | .local _ .vmem, ⟨18, _⟩ => ⟨S1x8x128x128, .f32⟩
  | .local _ .vmem, ⟨19, _⟩ => ⟨S1x8x128x128, .f32⟩
  | .local _ .vmem, ⟨20, _⟩ => ⟨S1x8x128x128, .f32⟩
  | .local _ .vmem, ⟨21, _⟩ => ⟨S1x8x128x128, .f32⟩
  | .local _ .vmem, ⟨22, _⟩ => ⟨S8x128x128, .f32⟩
  | .local _ .vmem, ⟨23, _⟩ => ⟨S8x128x128, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel37.lean ====
abbrev S4096x3072 : Shape := ⟨2, ![4096, 3072]⟩
abbrev S3x3072 : Shape := ⟨2, ![3, 3072]⟩
abbrev S24x4096x128 : Shape := ⟨3, ![24, 4096, 128]⟩
abbrev S4096x128 : Shape := ⟨2, ![4096, 128]⟩
abbrev S3x128 : Shape := ⟨2, ![3, 128]⟩
abbrev S1x4096x128 : Shape := ⟨3, ![1, 4096, 128]⟩
abbrev S1x128 : Shape := ⟨2, ![1, 128]⟩
abbrev S512x128 : Shape := ⟨2, ![512, 128]⟩
abbrev S8x128 : Shape := ⟨2, ![8, 128]⟩
abbrev S128 : Shape := ⟨1, ![128]⟩
abbrev S512 : Shape := ⟨1, ![512]⟩
abbrev S512x1 : Shape := ⟨2, ![512, 1]⟩
abbrev S1x512x128 : Shape := ⟨3, ![1, 512, 128]⟩

abbrev nBuf : Space → Nat
  | .hbm => 4
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S3x3072, .f32⟩
  | .hbm, ⟨2, _⟩ => ⟨S24x4096x128, .f32⟩
  | .hbm, ⟨3, _⟩ => ⟨S24x4096x128, .f32⟩
  | .local _ .vmem, ⟨0, _⟩ => ⟨S4096x128, .f32⟩
  | .local _ .vmem, ⟨1, _⟩ => ⟨S4096x128, .f32⟩
  | .local _ .vmem, ⟨2, _⟩ => ⟨S3x128, .f32⟩
  | .local _ .vmem, ⟨3, _⟩ => ⟨S3x128, .f32⟩
  | .local _ .vmem, ⟨4, _⟩ => ⟨S1x4096x128, .f32⟩
  | .local _ .vmem, ⟨5, _⟩ => ⟨S1x4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S1x4096x128, .f32⟩
  | .local _ .vmem, ⟨11, _⟩ => ⟨S1x4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  v4
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  let v5 : BitVec 32 := v4
  let v6 : Index := Scalar.indexCast v5
  let c0_4 : Index := 0#32
  ![v6.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  let v5 : BitVec 32 := v4
  let c8_i32_5 : BitVec 32 := 8#32
  let v8 : BitVec 32 := Scalar.subi v5 c8_i32_5
  let c0_i32_6 : BitVec 32 := 0#32
  let v9 : BitVec 32 := Scalar.maxsi v8 c0_i32_6
  v9
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  let v5 : BitVec 32 := v4
  let c8_i32_5 : BitVec 32 := 8#32
  let v8 : BitVec 32 := Scalar.subi v5 c8_i32_5
  let c0_i32_6 : BitVec 32 := 0#32
  let v9 : BitVec 32 := Scalar.maxsi v8 c0_i32_6
  let v10 : BitVec 32 := v9
  let v11 : Index := Scalar.indexCast v10
  let c0_7 : Index := 0#32
  ![v11.toNat, 0]
def k0_mult3 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  let v5 : BitVec 32 := v4
  let c512_i32_8 : BitVec 32 := 512#32
  let v13 : BitVec 32 := Scalar.addi v5 c512_i32_8
  let c4088_i32 : BitVec 32 := 4088#32
  let v14 : BitVec 32 := Scalar.minsi v13 c4088_i32
  v14
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  let v5 : BitVec 32 := v4
  let c512_i32_8 : BitVec 32 := 512#32
  let v13 : BitVec 32 := Scalar.addi v5 c512_i32_8
  let c4088_i32 : BitVec 32 := 4088#32
  let v14 : BitVec 32 := Scalar.minsi v13 c4088_i32
  let v15 : BitVec 32 := v14
  let v16 : Index := Scalar.indexCast v15
  let c0_9 : Index := 0#32
  ![v16.toNat, 0]
def k0_off4 (k0_t1 : Fin k0_t1_loop.trips) : Fin 3 → Nat :=
  let c0_23 : Index := 0#32
  let c0_i32 : BitVec 32 := 0#32
  let c1_i32 : BitVec 32 := 1#32
  let arg4 : BitVec 32 := Scf.iv c0_i32 c1_i32 k0_t1
  let c512_i32 : BitVec 32 := 512#32
  let v4 : BitVec 32 := Scalar.muli arg4 c512_i32
  let v5 : BitVec 32 := v4
  let v69 : Index := Scalar.indexCast v5
  let c0_24 : Index := 0#32
  ![0, v69.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  v4
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let v6 : Index := Scalar.indexCast v5
  let c0_4 : Index := 0#32
  ![v6.toNat, 0]
def k1_mult2 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let c8_i32_5 : BitVec 32 := 8#32
  let v8 : BitVec 32 := Scalar.subi v5 c8_i32_5
  let c0_i32_6 : BitVec 32 := 0#32
  let v9 : BitVec 32 := Scalar.maxsi v8 c0_i32_6
  v9
def k1_off2 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let c8_i32_5 : BitVec 32 := 8#32
  let v8 : BitVec 32 := Scalar.subi v5 c8_i32_5
  let c0_i32_6 : BitVec 32 := 0#32
  let v9 : BitVec 32 := Scalar.maxsi v8 c0_i32_6
  let v10 : BitVec 32 := v9
  let v11 : Index := Scalar.indexCast v10
  let c0_7 : Index := 0#32
  ![v11.toNat, 0]
def k1_mult3 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let c512_i32_8 : BitVec 32 := 512#32
  let v13 : BitVec 32 := Scalar.addi v5 c512_i32_8
  let c4088_i32 : BitVec 32 := 4088#32
  let v14 : BitVec 32 := Scalar.minsi v13 c4088_i32
  v14
def k1_off3 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let c512_i32_8 : BitVec 32 := 512#32
  let v13 : BitVec 32 := Scalar.addi v5 c512_i32_8
  let c4088_i32 : BitVec 32 := 4088#32
  let v14 : BitVec 32 := Scalar.minsi v13 c4088_i32
  let v15 : BitVec 32 := v14
  let v16 : Index := Scalar.indexCast v15
  let c0_9 : Index := 0#32
  ![v16.toNat, 0]
def k1_off4 (k1_t1 : Fin k1_t1_loop.trips) : Fin 3 → Nat :=
  let c0_21 : Index := 0#32
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let v61 : Index := Scalar.indexCast v5
  let c0_22 : Index := 0#32
  ![0, v61.toNat, 0]
def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Kernel38.lean ====
abbrev S256x2048 : Shape := ⟨2, ![256, 2048]⟩
abbrev S3x2048 : Shape := ⟨2, ![3, 2048]⟩
abbrev S16x256x128 : Shape := ⟨3, ![16, 256, 128]⟩
abbrev S256x128 : Shape := ⟨2, ![256, 128]⟩
abbrev S3x128 : Shape := ⟨2, ![3, 128]⟩
abbrev S1x256x128 : Shape := ⟨3, ![1, 256, 128]⟩
abbrev S1x128 : Shape := ⟨2, ![1, 128]⟩
abbrev S8x128 : Shape := ⟨2, ![8, 128]⟩
abbrev S128 : Shape := ⟨1, ![128]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S256x2048, .f32⟩
  | .hbm, ⟨1, _⟩ => ⟨S3x2048, .f32⟩
  | .hbm, ⟨2, _⟩ => ⟨S16x256x128, .f32⟩
  | .hbm, ⟨3, _⟩ => ⟨S16x256x128, .f32⟩
  | .local _ .vmem, ⟨0, _⟩ => ⟨S256x128, .f32⟩
  | .local _ .vmem, ⟨1, _⟩ => ⟨S256x128, .f32⟩
  | .local _ .vmem, ⟨2, _⟩ => ⟨S3x128, .f32⟩
  | .local _ .vmem, ⟨3, _⟩ => ⟨S3x128, .f32⟩
  | .local _ .vmem, ⟨4, _⟩ => ⟨S1x256x128, .f32⟩
  | .local _ .vmem, ⟨5, _⟩ => ⟨S1x256x128, .f32⟩
  | .local _ .vmem, ⟨6, _⟩ => ⟨S256x128, .f32⟩
  | .local _ .vmem, ⟨7, _⟩ => ⟨S256x128, .f32⟩
  | .local _ .vmem, ⟨8, _⟩ => ⟨S3x128, .f32⟩
  | .local _ .vmem, ⟨9, _⟩ => ⟨S3x128, .f32⟩
  | .local _ .vmem, ⟨10, _⟩ => ⟨S1x256x128, .f32⟩
  | .local _ .vmem, ⟨11, _⟩ => ⟨S1x256x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v3 : BitVec 32 := Scalar.muli c0_i32 c256_i32
  v3
def k0_off1 : Fin 2 → Nat :=
  let c0_i32 : BitVec 32 := 0#32
  let c256_i32 : BitVec 32 := 256#32
  let v3 : BitVec 32 := Scalar.muli c0_i32 c256_i32
  let v4 : BitVec 32 := v3
  let v5 : Index := Scalar.indexCast v4
  let c0_3 : Index := 0#32
  ![v5.toNat, 0]
def k0_mult2 : BitVec 32 :=
  let c0_i32 : BitVec 32 := 0#32
  let c256_i32 : BitVec 32 := 256#32
  let v3 : BitVec 32 := Scalar.muli c0_i32 c256_i32
  let v4 : BitVec 32 := v3
  let c8_i32 : BitVec 32 := 8#32
  let v7 : BitVec 32 := Scalar.subi v4 c8_i32
  let c0_i32_4 : BitVec 32 := 0#32
  let v8 : BitVec 32 := Scalar.maxsi v7 c0_i32_4
  v8
def k0_off2 : Fin 2 → Nat :=
  let c0_i32 : BitVec 32 := 0#32
  let c256_i32 : BitVec 32 := 256#32
  let v3 : BitVec 32 := Scalar.muli c0_i32 c256_i32
  let v4 : BitVec 32 := v3
  let c8_i32 : BitVec 32 := 8#32
  let v7 : BitVec 32 := Scalar.subi v4 c8_i32
  let c0_i32_4 : BitVec 32 := 0#32
  let v8 : BitVec 32 := Scalar.maxsi v7 c0_i32_4
  let v9 : BitVec 32 := v8
  let v10 : Index := Scalar.indexCast v9
  let c0_5 : Index := 0#32
  ![v10.toNat, 0]
def k0_mult3 : BitVec 32 :=
  let c0_i32 : BitVec 32 := 0#32
  let c256_i32 : BitVec 32 := 256#32
  let v3 : BitVec 32 := Scalar.muli c0_i32 c256_i32
  let v4 : BitVec 32 := v3
  let c256_i32_6 : BitVec 32 := 256#32
  let v12 : BitVec 32 := Scalar.addi v4 c256_i32_6
  let c248_i32 : BitVec 32 := 248#32
  let v13 : BitVec 32 := Scalar.minsi v12 c248_i32
  v13
def k0_off3 : Fin 2 → Nat :=
  let c0_i32 : BitVec 32 := 0#32
  let c256_i32 : BitVec 32 := 256#32
  let v3 : BitVec 32 := Scalar.muli c0_i32 c256_i32
  let v4 : BitVec 32 := v3
  let c256_i32_6 : BitVec 32 := 256#32
  let v12 : BitVec 32 := Scalar.addi v4 c256_i32_6
  let c248_i32 : BitVec 32 := 248#32
  let v13 : BitVec 32 := Scalar.minsi v12 c248_i32
  let v14 : BitVec 32 := v13
  let v15 : Index := Scalar.indexCast v14
  let c0_7 : Index := 0#32
  ![v15.toNat, 0]
def k0_off4 : Fin 3 → Nat :=
  let c0_21 : Index := 0#32
  let c0_i32 : BitVec 32 := 0#32
  let c256_i32 : BitVec 32 := 256#32
  let v3 : BitVec 32 := Scalar.muli c0_i32 c256_i32
  let v4 : BitVec 32 := v3
  let v68 : Index := Scalar.indexCast v4
  let c0_22 : Index := 0#32
  ![0, v68.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_mult1 : BitVec 32 :=
  let c0_i32 : BitVec 32 := 0#32
  let c256_i32 : BitVec 32 := 256#32
  let v3 : BitVec 32 := Scalar.muli c0_i32 c256_i32
  v3
def k1_off1 : Fin 2 → Nat :=
  let c0_i32 : BitVec 32 := 0#32
  let c256_i32 : BitVec 32 := 256#32
  let v3 : BitVec 32 := Scalar.muli c0_i32 c256_i32
  let v4 : BitVec 32 := v3
  let v5 : Index := Scalar.indexCast v4
  let c0_3 : Index := 0#32
  ![v5.toNat, 0]
def k1_mult2 : BitVec 32 :=
  let c0_i32 : BitVec 32 := 0#32
  let c256_i32 : BitVec 32 := 256#32
  let v3 : BitVec 32 := Scalar.muli c0_i32 c256_i32
  let v4 : BitVec 32 := v3
  let c8_i32 : BitVec 32 := 8#32
  let v7 : BitVec 32 := Scalar.subi v4 c8_i32
  let c0_i32_4 : BitVec 32 := 0#32
  let v8 : BitVec 32 := Scalar.maxsi v7 c0_i32_4
  v8
def k1_off2 : Fin 2 → Nat :=
  let c0_i32 : BitVec 32 := 0#32
  let c256_i32 : BitVec 32 := 256#32
  let v3 : BitVec 32 := Scalar.muli c0_i32 c256_i32
  let v4 : BitVec 32 := v3
  let c8_i32 : BitVec 32 := 8#32
  let v7 : BitVec 32 := Scalar.subi v4 c8_i32
  let c0_i32_4 : BitVec 32 := 0#32
  let v8 : BitVec 32 := Scalar.maxsi v7 c0_i32_4
  let v9 : BitVec 32 := v8
  let v10 : Index := Scalar.indexCast v9
  let c0_5 : Index := 0#32
  ![v10.toNat, 0]
def k1_mult3 : BitVec 32 :=
  let c0_i32 : BitVec 32 := 0#32
  let c256_i32 : BitVec 32 := 256#32
  let v3 : BitVec 32 := Scalar.muli c0_i32 c256_i32
  let v4 : BitVec 32 := v3
  let c256_i32_6 : BitVec 32 := 256#32
  let v12 : BitVec 32 := Scalar.addi v4 c256_i32_6
  let c248_i32 : BitVec 32 := 248#32
  let v13 : BitVec 32 := Scalar.minsi v12 c248_i32
  v13
def k1_off3 : Fin 2 → Nat :=
  let c0_i32 : BitVec 32 := 0#32
  let c256_i32 : BitVec 32 := 256#32
  let v3 : BitVec 32 := Scalar.muli c0_i32 c256_i32
  let v4 : BitVec 32 := v3
  let c256_i32_6 : BitVec 32 := 256#32
  let v12 : BitVec 32 := Scalar.addi v4 c256_i32_6
  let c248_i32 : BitVec 32 := 248#32
  let v13 : BitVec 32 := Scalar.minsi v12 c248_i32
  let v14 : BitVec 32 := v13
  let v15 : Index := Scalar.indexCast v14
  let c0_7 : Index := 0#32
  ![v15.toNat, 0]
def k1_off4 : Fin 3 → Nat :=
  let c0_19 : Index := 0#32
  let c0_i32 : BitVec 32 := 0#32
  let c256_i32 : BitVec 32 := 256#32
  let v3 : BitVec 32 := Scalar.muli c0_i32 c256_i32
  let v4 : BitVec 32 := v3
  let v60 : Index := Scalar.indexCast v4
  let c0_20 : Index := 0#32
  ![0, v60.toNat, 0]
def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Kernel40.lean ====
abbrev S256x2048 : Shape := ⟨2, ![256, 2048]⟩
abbrev S3x2048 : Shape := ⟨2, ![3, 2048]⟩
abbrev S16x256x128 : Shape := ⟨3, ![16, 256, 128]⟩
abbrev S256x128 : Shape := ⟨2, ![256, 128]⟩
abbrev S3x128 : Shape := ⟨2, ![3, 128]⟩
abbrev S1x256x128 : Shape := ⟨3, ![1, 256, 128]⟩
abbrev S1x128 : Shape := ⟨2, ![1, 128]⟩
abbrev S8x128 : Shape := ⟨2, ![8, 128]⟩
abbrev S128 : Shape := ⟨1, ![128]⟩
abbrev S256 : Shape := ⟨1, ![256]⟩
abbrev S256x1 : Shape := ⟨2, ![256, 1]⟩

abbrev nBuf : Space → Nat
  | .hbm => 8
  | .vmem => 26
  | .smem => 0
  | _ => 0

abbrev bufTy : (tb : Table) → Fin (tcTables nBuf tb) → BufTy
  | .hbm, ⟨0, _⟩ => ⟨S256x2048, .f32⟩
  | .hbm, ⟨1, _⟩ => ⟨S3x2048, .f32⟩
  | .hbm, ⟨2, _⟩ => ⟨S16x256x128, .f32⟩
  | .hbm, ⟨3, _⟩ => ⟨S16x256x128, .f32⟩
  | .hbm, ⟨4, _⟩ => ⟨S256x2048, .bf16⟩
  | .hbm, ⟨5, _⟩ => ⟨S3x2048, .f32⟩
  | .hbm, ⟨6, _⟩ => ⟨S256x2048, .bf16⟩
  | .hbm, ⟨7, _⟩ => ⟨S3x2048, .f32⟩
  | .local _ .vmem, ⟨0, _⟩ => ⟨S256x128, .f32⟩
  | .local _ .vmem, ⟨1, _⟩ => ⟨S256x128, .f32⟩
  | .local _ .vmem, ⟨2, _⟩ => ⟨S3x128, .f32⟩
  | .local _ .vmem, ⟨3, _⟩ => ⟨S3x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S256x128, .bf16⟩
  | .local _ .vmem, ⟨9, _⟩ => ⟨S256x128, .bf16⟩
  | .local _ .vmem, ⟨10, _⟩ => ⟨S3x128, .f32⟩
  | .local _ .vmem, ⟨11, _⟩ => ⟨S3x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S3x128, .f32⟩
  | .local _ .vmem, ⟨16, _⟩ => ⟨S3x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S256x128, .bf16⟩
  | .local _ .vmem, ⟨22, _⟩ => ⟨S256x128, .bf16⟩
  | .local _ .vmem, ⟨23, _⟩ => ⟨S3x128, .f32⟩
  | .local _ .vmem, ⟨24, _⟩ => ⟨S3x128, .f32⟩
  | .local _ .vmem, ⟨25, _⟩ => ⟨S256x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v4 : BitVec 32 := Scalar.muli c0_i32 c256_i32
  v4
def k0_off1 : Fin 2 → Nat :=
  let c0_i32 : BitVec 32 := 0#32
  let c256_i32 : BitVec 32 := 256#32
  let v4 : BitVec 32 := Scalar.muli c0_i32 c256_i32
  let v5 : BitVec 32 := v4
  let v6 : Index := Scalar.indexCast v5
  let c0_3 : Index := 0#32
  ![v6.toNat, 0]
def k0_mult2 : BitVec 32 :=
  let c0_i32 : BitVec 32 := 0#32
  let c256_i32 : BitVec 32 := 256#32
  let v4 : BitVec 32 := Scalar.muli c0_i32 c256_i32
  let v5 : BitVec 32 := v4
  let c8_i32 : BitVec 32 := 8#32
  let v8 : BitVec 32 := Scalar.subi v5 c8_i32
  let c0_i32_4 : BitVec 32 := 0#32
  let v9 : BitVec 32 := Scalar.maxsi v8 c0_i32_4
  v9
def k0_off2 : Fin 2 → Nat :=
  let c0_i32 : BitVec 32 := 0#32
  let c256_i32 : BitVec 32 := 256#32
  let v4 : BitVec 32 := Scalar.muli c0_i32 c256_i32
  let v5 : BitVec 32 := v4
  let c8_i32 : BitVec 32 := 8#32
  let v8 : BitVec 32 := Scalar.subi v5 c8_i32
  let c0_i32_4 : BitVec 32 := 0#32
  let v9 : BitVec 32 := Scalar.maxsi v8 c0_i32_4
  let v10 : BitVec 32 := v9
  let v11 : Index := Scalar.indexCast v10
  let c0_5 : Index := 0#32
  ![v11.toNat, 0]
def k0_mult3 : BitVec 32 :=
  let c0_i32 : BitVec 32 := 0#32
  let c256_i32 : BitVec 32 := 256#32
  let v4 : BitVec 32 := Scalar.muli c0_i32 c256_i32
  let v5 : BitVec 32 := v4
  let c256_i32_6 : BitVec 32 := 256#32
  let v13 : BitVec 32 := Scalar.addi v5 c256_i32_6
  let c248_i32 : BitVec 32 := 248#32
  let v14 : BitVec 32 := Scalar.minsi v13 c248_i32
  v14
def k0_off3 : Fin 2 → Nat :=
  let c0_i32 : BitVec 32 := 0#32
  let c256_i32 : BitVec 32 := 256#32
  let v4 : BitVec 32 := Scalar.muli c0_i32 c256_i32
  let v5 : BitVec 32 := v4
  let c256_i32_6 : BitVec 32 := 256#32
  let v13 : BitVec 32 := Scalar.addi v5 c256_i32_6
  let c248_i32 : BitVec 32 := 248#32
  let v14 : BitVec 32 := Scalar.minsi v13 c248_i32
  let v15 : BitVec 32 := v14
  let v16 : Index := Scalar.indexCast v15
  let c0_7 : Index := 0#32
  ![v16.toNat, 0]
def k0_off4 : Fin 3 → Nat :=
  let c0_24 : Index := 0#32
  let c0_i32 : BitVec 32 := 0#32
  let c256_i32 : BitVec 32 := 256#32
  let v4 : BitVec 32 := Scalar.muli c0_i32 c256_i32
  let v5 : BitVec 32 := v4
  let v73 : Index := Scalar.indexCast v5
  let c0_25 : Index := 0#32
  ![0, v73.toNat, 0]
def k0_mult4 : BitVec 32 :=
  let c0_i32_41 : BitVec 32 := 0#32
  let c256_i32_42 : BitVec 32 := 256#32
  let v116 : BitVec 32 := Scalar.muli c0_i32_41 c256_i32_42
  v116
def k0_mult5 : BitVec 32 :=
  let c0_i32_41 : BitVec 32 := 0#32
  let c256_i32_42 : BitVec 32 := 256#32
  let v116 : BitVec 32 := Scalar.muli c0_i32_41 c256_i32_42
  let v117 : BitVec 32 := v116
  let c8_i32_44 : BitVec 32 := 8#32
  let v120 : BitVec 32 := Scalar.subi v117 c8_i32_44
  let c0_i32_45 : BitVec 32 := 0#32
  let v121 : BitVec 32 := Scalar.maxsi v120 c0_i32_45
  v121
def k0_mult6 : BitVec 32 :=
  let c0_i32_41 : BitVec 32 := 0#32
  let c256_i32_42 : BitVec 32 := 256#32
  let v116 : BitVec 32 := Scalar.muli c0_i32_41 c256_i32_42
  let v117 : BitVec 32 := v116
  let c256_i32_47 : BitVec 32 := 256#32
  let v125 : BitVec 32 := Scalar.addi v117 c256_i32_47
  let c248_i32_48 : BitVec 32 := 248#32
  let v126 : BitVec 32 := Scalar.minsi v125 c248_i32_48
  v126
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def k1_mult1 : BitVec 32 :=
  let c0_i32 : BitVec 32 := 0#32
  let c256_i32 : BitVec 32 := 256#32
  let v4 : BitVec 32 := Scalar.muli c0_i32 c256_i32
  v4
def k1_off1 : Fin 2 → Nat :=
  let c0_i32 : BitVec 32 := 0#32
  let c256_i32 : BitVec 32 := 256#32
  let v4 : BitVec 32 := Scalar.muli c0_i32 c256_i32
  let v5 : BitVec 32 := v4
  let v6 : Index := Scalar.indexCast v5
  let c0_3 : Index := 0#32
  ![v6.toNat, 0]
def k1_mult2 : BitVec 32 :=
  let c0_i32 : BitVec 32 := 0#32
  let c256_i32 : BitVec 32 := 256#32
  let v4 : BitVec 32 := Scalar.muli c0_i32 c256_i32
  let v5 : BitVec 32 := v4
  let c8_i32 : BitVec 32 := 8#32
  let v8 : BitVec 32 := Scalar.subi v5 c8_i32
  let c0_i32_4 : BitVec 32 := 0#32
  let v9 : BitVec 32 := Scalar.maxsi v8 c0_i32_4
  v9
def k1_off2 : Fin 2 → Nat :=
  let c0_i32 : BitVec 32 := 0#32
  let c256_i32 : BitVec 32 := 256#32
  let v4 : BitVec 32 := Scalar.muli c0_i32 c256_i32
  let v5 : BitVec 32 := v4
  let c8_i32 : BitVec 32 := 8#32
  let v8 : BitVec 32 := Scalar.subi v5 c8_i32
  let c0_i32_4 : BitVec 32 := 0#32
  let v9 : BitVec 32 := Scalar.maxsi v8 c0_i32_4
  let v10 : BitVec 32 := v9
  let v11 : Index := Scalar.indexCast v10
  let c0_5 : Index := 0#32
  ![v11.toNat, 0]
def k1_mult3 : BitVec 32 :=
  let c0_i32 : BitVec 32 := 0#32
  let c256_i32 : BitVec 32 := 256#32
  let v4 : BitVec 32 := Scalar.muli c0_i32 c256_i32
  let v5 : BitVec 32 := v4
  let c256_i32_6 : BitVec 32 := 256#32
  let v13 : BitVec 32 := Scalar.addi v5 c256_i32_6
  let c248_i32 : BitVec 32 := 248#32
  let v14 : BitVec 32 := Scalar.minsi v13 c248_i32
  v14
def k1_off3 : Fin 2 → Nat :=
  let c0_i32 : BitVec 32 := 0#32
  let c256_i32 : BitVec 32 := 256#32
  let v4 : BitVec 32 := Scalar.muli c0_i32 c256_i32
  let v5 : BitVec 32 := v4
  let c256_i32_6 : BitVec 32 := 256#32
  let v13 : BitVec 32 := Scalar.addi v5 c256_i32_6
  let c248_i32 : BitVec 32 := 248#32
  let v14 : BitVec 32 := Scalar.minsi v13 c248_i32
  let v15 : BitVec 32 := v14
  let v16 : Index := Scalar.indexCast v15
  let c0_7 : Index := 0#32
  ![v16.toNat, 0]
def k1_off4 : Fin 3 → Nat :=
  let c0_21 : Index := 0#32
  let c0_i32 : BitVec 32 := 0#32
  let c256_i32 : BitVec 32 := 256#32
  let v4 : BitVec 32 := Scalar.muli c0_i32 c256_i32
  let v5 : BitVec 32 := v4
  let v63 : Index := Scalar.indexCast v5
  let c0_22 : Index := 0#32
  ![0, v63.toNat, 0]
def k1_mult4 : BitVec 32 :=
  let c0_i32_36 : BitVec 32 := 0#32
  let c256_i32_37 : BitVec 32 := 256#32
  let v93 : BitVec 32 := Scalar.muli c0_i32_36 c256_i32_37
  v93
def k1_mult5 : BitVec 32 :=
  let c0_i32_36 : BitVec 32 := 0#32
  let c256_i32_37 : BitVec 32 := 256#32
  let v93 : BitVec 32 := Scalar.muli c0_i32_36 c256_i32_37
  let v94 : BitVec 32 := v93
  let c8_i32_39 : BitVec 32 := 8#32
  let v97 : BitVec 32 := Scalar.subi v94 c8_i32_39
  let c0_i32_40 : BitVec 32 := 0#32
  let v98 : BitVec 32 := Scalar.maxsi v97 c0_i32_40
  v98
def k1_mult6 : BitVec 32 :=
  let c0_i32_36 : BitVec 32 := 0#32
  let c256_i32_37 : BitVec 32 := 256#32
  let v93 : BitVec 32 := Scalar.muli c0_i32_36 c256_i32_37
  let v94 : BitVec 32 := v93
  let c256_i32_42 : BitVec 32 := 256#32
  let v102 : BitVec 32 := Scalar.addi v94 c256_i32_42
  let c248_i32_43 : BitVec 32 := 248#32
  let v103 : BitVec 32 := Scalar.minsi v102 c248_i32_43
  v103
def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Kernel41.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128x256 : Shape := ⟨2, ![128, 256]⟩
abbrev S128 : Shape := ⟨1, ![128]⟩

abbrev nBuf : Space → Nat
  | .hbm => 8
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .bf16⟩
  | .hbm, ⟨6, _⟩ => ⟨S1x128, .f32⟩
  | .hbm, ⟨7, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S1x128, .f32⟩
  | .local _ .vmem, ⟨11, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v103 : BitVec 1 := Scalar.cmpi .eq arg0 c0_i32
  let v104 : BitVec 32 := Scalar.extui v103
  let c0_i32_39 : BitVec 32 := 0#32
  let v105 : BitVec 1 := Scalar.cmpi .ne v104 c0_i32_39
  v105

def k0_cond2 (i : grid0.Coords) : BitVec 1 :=
  let arg0 : BitVec 32 := BitVec.ofNat 32 (i 0).val
  let c0_i32_40 : BitVec 32 := 0#32
  let v106 : BitVec 1 := Scalar.cmpi .sgt arg0 c0_i32_40
  let v107 : BitVec 32 := Scalar.extui v106
  let c0_i32_41 : BitVec 32 := 0#32
  let v108 : BitVec 1 := Scalar.cmpi .ne v107 c0_i32_41
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel42.lean ====
abbrev S256x128 : Shape := ⟨2, ![256, 128]⟩
abbrev S1x128 : Shape := ⟨2, ![1, 128]⟩
abbrev S256x256 : Shape := ⟨2, ![256, 256]⟩
abbrev S128x256 : Shape := ⟨2, ![128, 256]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S1x128, .f32⟩
  | .hbm, ⟨2, _⟩ => ⟨S1x128, .f32⟩
  | .hbm, ⟨3, _⟩ => ⟨S256x128, .f32⟩
  | .hbm, ⟨4, _⟩ => ⟨S256x128, .f32⟩
  | .hbm, ⟨5, _⟩ => ⟨S256x128, .bf16⟩
  | .hbm, ⟨6, _⟩ => ⟨S1x128, .f32⟩
  | .hbm, ⟨7, _⟩ => ⟨S1x128, .f32⟩
  | .local _ .vmem, ⟨0, _⟩ => ⟨S256x128, .f32⟩
  | .local _ .vmem, ⟨1, _⟩ => ⟨S1x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .bf16⟩
  | .local _ .vmem, ⟨6, _⟩ => ⟨S1x128, .f32⟩
  | .local _ .vmem, ⟨7, _⟩ => ⟨S1x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v103 : BitVec 1 := Scalar.cmpi .eq arg0 c0_i32
  let v104 : BitVec 32 := Scalar.extui v103
  let c0_i32_39 : BitVec 32 := 0#32
  let v105 : BitVec 1 := Scalar.cmpi .ne v104 c0_i32_39
  v105

def k0_cond2 (i : grid0.Coords) : BitVec 1 :=
  let arg0 : BitVec 32 := BitVec.ofNat 32 (i 0).val
  let c0_i32_40 : BitVec 32 := 0#32
  let v106 : BitVec 1 := Scalar.cmpi .sgt arg0 c0_i32_40
  let v107 : BitVec 32 := Scalar.extui v106
  let c0_i32_41 : BitVec 32 := 0#32
  let v108 : BitVec 1 := Scalar.cmpi .ne v107 c0_i32_41
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Proof.Norm.lean ====
/- Hand-written: the gradients of the modulated normalisation, as functions of the argument arrays. -/
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Idealize.ShloMosaic.StableHlo

/-- The gradient of the rows. -/
def refDx (a0 : FVec Ideal S4096x1024 .f32) (a1 : FVec Ideal S1x1024 .f32) (a2 a3 : FVec Ideal S1x3072 .f32)
    (a4 a5 : FVec Ideal S4096x1024 .f32) : FVec Ideal S4096x1024 .f32 :=
  addf (addf (addf (mulf (mulf (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S4096x1024 ![0, 1] bcast_S1x1024_S4096x1024_0_1 a1)) (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf a0 (broadcastInDim S4096x1024 ![0] bcast_S4096_S4096x1024_0 (Host.reduceAdd (Host.divf (mulf (shapeCast _ (Host.reduceAdd (mulf a0 (mulf (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S4096x1024 ![0, 1] bcast_S1x1024_S4096x1024_0_1 a1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf a0 (mulf (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S4096x1024 ![0, 1] bcast_S1x1024_S4096x1024_0_1 a1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) a0)) a5

/-- The gradient of the gain. -/
def refDg (a0 : FVec Ideal S4096x1024 .f32) (a1 : FVec Ideal S1x1024 .f32) (a2 a3 : FVec Ideal S1x3072 .f32)
    (a4 a5 : FVec Ideal S4096x1024 .f32) : FVec Ideal S1x1024 .f32 :=
  shapeCast _ (Host.reduceAdd (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (shapeCast _ a4 shapeCasts_S4096x1024_S4096x1024) (broadcastInDim S4096x1024 ![0, 1] bcast_S1x1024_S4096x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024))))) (constant S_ .f32 0x00000000#32) reducesTo_S4096x1024_S1024_d0 h_S_) shapeCasts_S1024_S1x1024

/-- The gradient of the modulation. -/
def refDm (a0 : FVec Ideal S4096x1024 .f32) (a1 : FVec Ideal S1x1024 .f32) (a2 a3 : FVec Ideal S1x3072 .f32)
    (a4 a5 : FVec Ideal S4096x1024 .f32) : FVec Ideal S1x3072 .f32 :=
  shapeCast _ (addf (pad S1x3x1024 ![0, 1, 0] ![0, 1, 0] ![0, 0, 0] (broadcastInDim S1x1x1024 ![0, 2] bcast_S1x1024_S1x1x1024_0_2 (shapeCast _ (Host.reduceAdd (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (shapeCast _ a4 shapeCasts_S4096x1024_S4096x1024)) (constant S_ .f32 0x00000000#32) reducesTo_S4096x1024_S1024_d0 h_S_) shapeCasts_S1024_S1x1024)) (constant S_ .f32 0x00000000#32) pads_S1x1x1024_S1x3x1024_000_110_000 h_S_) (pad S1x3x1024 ![0, 0, 0] ![0, 2, 0] ![0, 0, 0] (broadcastInDim S1x1x1024 ![0, 2] bcast_S1x1024_S1x1x1024_0_2 (shapeCast _ (Host.reduceAdd a4 (constant S_ .f32 0x00000000#32) reducesTo_S4096x1024_S1024_d0 h_S_) shapeCasts_S1024_S1x1024)) (constant S_ .f32 0x00000000#32) pads_S1x1x1024_S1x3x1024_000_020_000 h_S_)) shapeCasts_S1x3x1024_S1x3072

/-- The run of the reference, its three results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = refDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v37) = refDg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v59) = refDm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.ReferenceIdeal.Value

namespace Cert.KernelIdeal.Value

open Cert.KernelIdeal Cert.KernelIdeal.Gen

/-- Block `p` of 512 rows of an array of 4096 rows. -/
def rows (p : Fin 8) (a : FVec Ideal S4096x1024 .f32) : FVec Ideal S512x1024 .f32 :=
  fun y => a (ix2 ⟨p.val * 512 + (y 0).val, by have := p.isLt; have h : (y 0).val < 512 := (y 0).isLt; omega⟩ (y 1))

/-- What a point stores to the gradient of the rows is the reference's gradient at the same row. -/
theorem pure_dx (a0 : FVec Ideal S4096x1024 .f32) (a1 : FVec Ideal S1x1024 .f32) (a2 a3 : FVec Ideal S1x3072 .f32)
    (a4 a5 : FVec Ideal S4096x1024 .f32) (p : Fin 8) (i : Fin 512) (j : Fin 1024) :
    k0_pay2 (F := Ideal) (rows p a0) (k0_pay6 (rows p a0)) (k0_pay7 (rows p a0)) (k0_pay14 (rows p a4) a1 a2 a3)
      (k0_pay15 (rows p a4) (rows p a0) a1 a2 a3) (rows p a5) (ix2 i j)
      = Cert.ReferenceIdeal.Value.refDx a0 a1 a2 a3 a4 a5 (ix2 ⟨p.val * 512 + i.val, by omega⟩ j) := by
  pointwise [k0_pay2, k0_pay5, k0_pay6, k0_pay7, k0_pay8, k0_pay9, k0_pay12, k0_pay14, k0_pay15, rows, Cert.ReferenceIdeal.Value.refDx]

/-- What the points add up for the gradient of the gain is the reference's gradient. -/
theorem pure_dg (a0 : FVec Ideal S4096x1024 .f32) (a1 : FVec Ideal S1x1024 .f32) (a2 a3 : FVec Ideal S1x3072 .f32)
    (a4 a5 : FVec Ideal S4096x1024 .f32) (i : Fin 1) (j : Fin 1024) :
    ∑ p : Fin 8, k0_pay13 (F := Ideal) (rows p a4) (rows p a0) a2 a3 (ix2 i j)
      = Cert.ReferenceIdeal.Value.refDg a0 a1 a2 a3 a4 a5 (ix2 i j) := by
  pointwise [k0_pay5, k0_pay6, k0_pay8, k0_pay9, k0_pay12, k0_pay13, rows, Cert.ReferenceIdeal.Value.refDg]
  rw [Fin.sum_univ_tiles 8 512 rfl]

/-- What the points add up for the gradient of the modulation is the reference's gradient. -/
theorem pure_dm (a0 : FVec Ideal S4096x1024 .f32) (a1 : FVec Ideal S1x1024 .f32) (a2 a3 : FVec Ideal S1x3072 .f32)
    (a4 a5 : FVec Ideal S4096x1024 .f32) (i : Fin 1) (j : Fin 3072) :
    ∑ p : Fin 8, k0_pay1 (F := Ideal) (k0_pay10 (rows p a4)) (k0_pay11 (rows p a4) (rows p a0) a1) (ix2 i j)
      = Cert.ReferenceIdeal.Value.refDm a0 a1 a2 a3 a4 a5 (ix2 i j) := by
  pointwise [k0_pay1, k0_pay5, k0_pay6, k0_pay8, k0_pay9, k0_pay10, k0_pay11, rows, Cert.ReferenceIdeal.Value.refDm]
  have hj := j.isLt
  by_cases h1 : j.val < 1024
  · have h2 : j.val < 2048 := by omega
    have hd : ¬(1 ≤ j.val / 1024 ∧ j.val / 1024 - 1 < 1) := by omega
    have hc : j.val / 1024 < 1 ∧ j.val % 1024 < 1024 := by omega
    have hm : (⟨j.val % 1024, Nat.mod_lt _ (by decide)⟩ : Fin 1024) = ⟨j.val, h1⟩ := Fin.ext (Nat.mod_eq_of_lt h1)
    simp only [h1, h2, hd, hc, false_and, and_self, ↓reduceDIte, zero_add, hm]
    rw [Fin.sum_univ_tiles 8 512 rfl]
  · by_cases h2 : j.val < 2048
    · have hd : (1 ≤ j.val / 1024 ∧ j.val / 1024 - 1 < 1) ∧ j.val % 1024 < 1024 := by omega
      have hc : ¬(j.val / 1024 < 1) := by omega
      have hm : (⟨j.val % 1024, Nat.mod_lt _ (by decide)⟩ : Fin 1024) = ⟨j.val - 1024, by omega⟩ :=
        Fin.ext (show j.val % 1024 = j.val - 1024 by omega)
      simp only [h1, h2, hd, hc, false_and, and_self, ↓reduceDIte, add_zero, hm]
      rw [Fin.sum_univ_tiles 8 512 rfl]
    · have hd : ¬(1 ≤ j.val / 1024 ∧ j.val / 1024 - 1 < 1) := by omega
      have hc : ¬(j.val / 1024 < 1) := by omega
      simp only [h1, h2, hd, hc, false_and, ↓reduceDIte, add_zero, Finset.sum_const_zero]

variable (m : (ℓ : Loc nD τ sig) → Buf (Elt Ideal) ℓ)

/-- The index maps of the windows, decided at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![0, 0] ∧ win0_8.index t = ![0, 0] :=
  (by decide +kernel : ∀ t : Fin grid0.N, _)

/-- A point as a number below 8. -/
def pt (t : Fin cfg0.N) : Fin 8 := ⟨t.val, lt_of_lt_of_eq t.isLt N_0⟩

/-- The block of rows of `x` at a point. -/
theorem blk_0 (c : Dev nD) (t : Fin cfg0.N) : iblk m c 0 t = rows (pt t) (m ((c : Thread nD τ).loc main_arg0)) := by
  funext y; blk_point [iblk, V, rows, pt, idx t]
/-- The gain, whole at every point. -/
theorem blk_1 (c : Dev nD) (t : Fin cfg0.N) : iblk m c 1 t = m ((c : Thread nD τ).loc main_arg1) := by
  funext y; blk_point [iblk, V, idx t]
/-- The modulation, whole at every point. -/
theorem blk_2 (c : Dev nD) (t : Fin cfg0.N) : iblk m c 2 t = m ((c : Thread nD τ).loc main_arg2) := by
  funext y; blk_point [iblk, V, idx t]
/-- The modulation's bias, whole at every point. -/
theorem blk_3 (c : Dev nD) (t : Fin cfg0.N) : iblk m c 3 t = m ((c : Thread nD τ).loc main_arg3) := by
  funext y; blk_point [iblk, V, idx t]
/-- The block of rows of the cotangent at a point. -/
theorem blk_4 (c : Dev nD) (t : Fin cfg0.N) : iblk m c 4 t = rows (pt t) (m ((c : Thread nD τ).loc main_arg4)) := by
  funext y; blk_point [iblk, V, rows, pt, idx t]
/-- The block of rows of the residual branch's gradient at a point. -/
theorem blk_5 (c : Dev nD) (t : Fin cfg0.N) : iblk m c 5 t = rows (pt t) (m ((c : Thread nD τ).loc main_arg5)) := by
  funext y; blk_point [iblk, V, rows, pt, idx t]

/-- The gradient of the rows after the run. -/
theorem final_6 (c : Dev nD) : (dats m 0 c).arrAt 6 (cfgs 0).N
    = Cert.ReferenceIdeal.Value.refDx (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp
  rw [after0_6]
  have key : (outsAt0 m c t.val t.isLt).1 = k0_pay2 (F := Ideal) (iblk m c 0 t) (k0_pay6 (iblk m c 0 t))
      (k0_pay7 (iblk m c 0 t)) (k0_pay14 (iblk m c 4 t) (iblk m c 1 t) (iblk m c 2 t) (iblk m c 3 t))
      (k0_pay15 (iblk m c 4 t) (iblk m c 0 t) (iblk m c 1 t) (iblk m c 2 t) (iblk m c 3 t)) (iblk m c 5 t) := by
    funext x
    by_cases h : t.val % 8 = 0
    · have h1 : ¬1 ≤ t.val := by have := lt_of_lt_of_eq t.isLt N_0; omega
      rw [outsAt0_A m c t h h1]; frame_out
    · rw [outsAt0_B m c t h (by omega)]; frame_out
  rw [key, blk_0, blk_1, blk_2, blk_3, blk_4, blk_5]
  idx_vars y
  exact (pure_dx _ _ _ _ _ _ (pt t) _ _).trans (by blk_point [pt, idx t])

/-- A sum over the points, indexed by the block number. -/
theorem sum_pt (f : Fin 8 → EReal) : ∑ t : Fin cfg0.N, f (pt t) = ∑ p : Fin 8, f p :=
  Fintype.sum_equiv (finCongr N_0) _ _ fun _ => rfl

/-- The gradient of the gain after the run. -/
theorem final_7 (c : Dev nD) : (dats m 0 c).arrAt 7 (cfgs 0).N
    = Cert.ReferenceIdeal.Value.refDg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => (0 : EReal))
    (fun t j => k0_pay13 (F := Ideal) (iblk m c 4 t) (iblk m c 0 t) (iblk m c 2 t) (iblk m c 3 t) j)
    (fun t h j => by
      rw [outsAt0_A m c t h (by have := lt_of_lt_of_eq t.isLt N_0; omega)]; frame_out; pointwise [k0_pay3])
    (fun t h j => by rw [outsAt0_B m c t h (by omega)]; frame_out; pointwise [k0_pay3])
    (le_of_eq N_0) t0_7 rfl j, zero_add]
  simp only [blk_0, blk_2, blk_3, blk_4]
  refine (sum_pt fun p => k0_pay13 (F := Ideal) (rows p (m ((c : Thread nD τ).loc main_arg4))) (rows p (m ((c : Thread nD τ).loc main_arg0)))
    (m ((c : Thread nD τ).loc main_arg2)) (m ((c : Thread nD τ).loc main_arg3)) j).trans ?_
  idx_vars j
  exact pure_dg _ _ _ _ _ _ _ _

/-- The gradient of the modulation after the run. -/
theorem final_8 (c : Dev nD) : (dats m 0 c).arrAt 8 (cfgs 0).N
    = Cert.ReferenceIdeal.Value.refDm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => (0 : EReal))
    (fun t j => k0_pay1 (F := Ideal) (k0_pay10 (iblk m c 4 t)) (k0_pay11 (iblk m c 4 t) (iblk m c 0 t) (iblk m c 1 t)) j)
    (fun t h j => by
      rw [outsAt0_A m c t h (by have := lt_of_lt_of_eq t.isLt N_0; omega)]; frame_out; pointwise [k0_pay4])
    (fun t h j => by rw [outsAt0_B m c t h (by omega)]; frame_out; pointwise [k0_pay4])
    (le_of_eq N_0) t0_7 rfl j, zero_add]
  simp only [blk_0, blk_1, blk_4]
  refine (sum_pt fun p => k0_pay1 (F := Ideal) (k0_pay10 (rows p (m ((c : Thread nD τ).loc main_arg4))))
    (k0_pay11 (rows p (m ((c : Thread nD τ).loc main_arg4))) (rows p (m ((c : Thread nD τ).loc main_arg0))) (m ((c : Thread nD τ).loc main_arg1))) j).trans ?_
  idx_vars j
  exact pure_dm _ _ _ _ _ _ _ _

end Cert.KernelIdeal.Value

end
-- ==== Proof.Claims.lean ====
/- Hand-written: the claims, from the runs of the three programs. -/
module

public import proofs.«01_k».proof.Defs
public import proofs.«01_k».proof.Proof.Gen.Kernel.Frame
public import proofs.«01_k».proof.Proof.Norm
public import Idealize.ShloMosaic.Lib.Claim

@[expose] public section

set_option maxRecDepth 16384

noncomputable section

namespace Cert.NormClaims

open Idealize.ShloMosaic Idealize.SL.Sem

/-- The reference ends with its arguments unchanged and every counter at zero. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run_ref m ρ)

/-- The kernel over the reals and the reference end with equal gradients. -/
theorem algebraic : Cert.algebraic_KernelIdeal_ReferenceIdeal := by
  intro m ρ m' ρ' _ hagree
  refine ⟨_, _, _, Cert.KernelIdeal.Value.run_blocks m ρ, ?_⟩
  refine (θ_run Cert.ReferenceIdeal.defs _ _).mono
    (fun r h c => ⟨(h c).1.trans ?_, (h c).2.1.trans ?_, (h c).2.2.1.trans ?_, (h c).2.2.2⟩)
    (Cert.ReferenceIdeal.Value.run_ref m' ρ')
  all_goals
    obtain ⟨h0, h1, h2, h3, h4, h5⟩ := hagree c
    rw [h0, h1, h2, h3, h4, h5]
  · exact (Cert.KernelIdeal.Value.final_6 m c).symm
  · exact (Cert.KernelIdeal.Value.final_7 m c).symm
  · exact (Cert.KernelIdeal.Value.final_8 m c).symm

end Cert.NormClaims

end
-- ==== Proof.Mm2.lean ====
/- Hand-written: the gradient of the wide input projection, as a function of the argument arrays. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference2Ideal.Value

open Cert.Reference2Ideal Cert.Reference2Ideal.Gen Idealize.ShloMosaic.StableHlo

/-- The reference's result as a function of its arguments. -/
def ref (a0 : FVec Ideal S4096x1024 .bf16) (a1 : FVec Ideal S4096x6144 .bf16) : FVec Ideal S1024x6144 .bf16 :=
  truncf .bf16 (transpose S1024x6144 [1, 0] (Host.dotGeneral dot_S4096x6144_S4096x1024_S6144x1024_0_0_1_1_n_n none (extf .f32 a1 bitsLt_bf16_f32) (extf .f32 a0 bitsLt_bf16_f32)) transposes_S6144x1024_S1024x6144_1_0) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference2Ideal.Value

namespace Cert.Kernel2Ideal.Value

open Cert.Kernel2Ideal Cert.Kernel2Ideal.Gen

/-- The block `q` of 2048 rows. -/
def tileA (q : Fin 2) (a : FVec Ideal S4096x1024 .bf16) : FVec Ideal S2048x1024 .bf16 :=
  fun y => a (ix2 ⟨q.val * 2048 + (y 0).val, by have := q.isLt; have h : (y 0).val < 2048 := (y 0).isLt; omega⟩ (y 1))

/-- The block of 2048 rows `q` and 2048 columns `j` of the cotangent. -/
def tileB (q : Fin 2) (j : Fin 3) (a : FVec Ideal S4096x6144 .bf16) : FVec Ideal S2048x2048 .bf16 :=
  fun y => a (ix2 ⟨q.val * 2048 + (y 0).val, by have := q.isLt; have h : (y 0).val < 2048 := (y 0).isLt; omega⟩ ⟨j.val * 2048 + (y 1).val, by have := j.isLt; have h : (y 1).val < 2048 := (y 1).isLt; omega⟩)

/-- The two halves of the rows added up are the reference's gradient. -/
theorem pure (a0 : FVec Ideal S4096x1024 .bf16) (a1 : FVec Ideal S4096x6144 .bf16) (j : Fin 3) (r : Fin 1024) (s : Fin 2048) :
    k0_pay4 (F := Ideal) (tileB 1 j a1) (tileA 1 a0) (k0_pay2 (F := Ideal) (tileB 0 j a1) (tileA 0 a0)) (ix2 r s)
      = Cert.Reference2Ideal.Value.ref a0 a1 (ix2 r ⟨j.val * 2048 + s.val, by omega⟩) := by
  pointwise [k0_pay4, k0_pay2, k0_pay1, tileA, tileB, Cert.Reference2Ideal.Value.ref]
  rw [Fin.sum_univ_tiles 2 2048 rfl, Fin.sum_univ_two]
  exact congrArg₂ (· + ·) (Finset.sum_congr rfl fun x _ => (mul_comm _ _).trans (by simp only [Fin.val_zero, Nat.zero_mul, Nat.zero_add]))
    (Finset.sum_congr rfl fun x _ => (mul_comm _ _).trans (by simp only [Fin.val_one, Nat.one_mul]))

variable (m : (ℓ : Loc nD τ sig) → Buf (Elt Ideal) ℓ)

/-- The index maps of the windows, decided at every grid point. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

/-- The number of the block of columns at a point. -/
def col (t : Fin cfg0.N) : Fin 3 := ⟨t.val / 2, by have := lt_of_lt_of_eq t.isLt N_0; omega⟩
/-- The number of the block of rows at a point. -/
def row (t : Fin cfg0.N) : Fin 2 := ⟨t.val % 2, by omega⟩

/-- The block of the rows at a point. -/
theorem blk_0 (c : Dev nD) (t : Fin cfg0.N) : iblk m c 0 t = tileA (row t) (m ((c : Thread nD τ).loc main_arg0)) := by
  funext y; blk_point [iblk, V, tileA, row, idx t]
/-- The block of the cotangent at a point. -/
theorem blk_1 (c : Dev nD) (t : Fin cfg0.N) : iblk m c 1 t = tileB (row t) (col t) (m ((c : Thread nD τ).loc main_arg1)) := by
  funext y; blk_point [iblk, V, tileB, row, col, idx t]

/-- What the first point of a block leaves in the accumulator. -/
theorem acc_first (c : Dev nD) (t : Fin cfg0.N) (h : t.val % 2 = 0) :
    (outsAt0 m c t.val t.isLt).2 = k0_pay2 (F := Ideal) (iblk m c 1 t) (iblk m c 0 t) := by
  funext x; rw [outsAt0_A m c t h (by omega)]; frame_out

/-- What the last point of a block stores. -/
theorem out_last (c : Dev nD) (t : Fin cfg0.N) (h : t.val % 2 = 1) :
    (outsAt0 m c t.val t.isLt).1 = k0_pay4 (F := Ideal) (iblk m c 1 t) (iblk m c 0 t)
      (outsAt0 m c (t.val - 1) (Nat.lt_of_le_of_lt (Nat.sub_le _ _) t.isLt)).2 := by
  funext x; rw [outsAt0_B m c t (by omega) h]; frame_out; rw [read_unread_whole]

/-- The result after the run. -/
theorem final (c : Dev nD) : (dats m 0 c).arrAt 2 (cfgs 0).N
    = Cert.Reference2Ideal.Value.ref (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  blk_simp
  rw [after0_2, out_last m c t h, acc_first m c ⟨t.val - 1, hp⟩ (show (t.val - 1) % 2 = 0 by omega), blk_0, blk_1, blk_0, blk_1]
  have e1 : row t = 1 := Fin.ext h
  have e2 : row ⟨t.val - 1, hp⟩ = 0 := Fin.ext (show (t.val - 1) % 2 = 0 by omega)
  have e3 : col ⟨t.val - 1, hp⟩ = col t := Fin.ext (show (t.val - 1) / 2 = t.val / 2 by omega)
  rw [e1, e2, e3]
  idx_vars y
  exact (pure _ _ (col t) _ _).trans (by blk_point [col, idx t])

end Cert.Kernel2Ideal.Value

namespace Cert.Mm2Claims

/-- The reference ends with its arguments unchanged and every counter at zero. -/
theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run_ref m ρ)

/-- The kernel over the reals and the reference end with equal results. -/
theorem algebraic : Cert.algebraic_Kernel2Ideal_Reference2Ideal := by
  intro m ρ m' ρ' _ hagree
  refine ⟨_, Cert.Kernel2Ideal.Value.run_blocks m ρ, ?_⟩
  refine (θ_run Cert.Reference2Ideal.defs _ _).mono
    (fun r h c => ⟨(h c).1.trans ?_, (h c).2⟩)
    (Cert.Reference2Ideal.Value.run_ref m' ρ')
  obtain ⟨h0, h1⟩ := hagree c
  rw [h0, h1]
  exact (Cert.Kernel2Ideal.Value.final m c).symm

end Cert.Mm2Claims

end
-- ==== Proof.Mm3.lean ====
/- Hand-written: the gradient of the rows through the wide input projection, as a function of the argument arrays. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference3Ideal.Value

open Cert.Reference3Ideal Cert.Reference3Ideal.Gen Idealize.ShloMosaic.StableHlo

/-- The reference's result as a function of its arguments. -/
def ref (a0 : FVec Ideal S4096x6144 .bf16) (a1 : FVec Ideal S1024x6144 .bf16) (a2 : FVec Ideal S4096x1024 .f32) : FVec Ideal S4096x1024 .f32 :=
  addf (Host.dotGeneral dot_S4096x6144_S1024x6144_S4096x1024_1_1_0_0_n_n none (extf .f32 a0 bitsLt_bf16_f32) (extf .f32 a1 bitsLt_bf16_f32)) a2

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference3Ideal.Value

namespace Cert.Kernel3Ideal.Value

open Cert.Kernel3Ideal Cert.Kernel3Ideal.Gen

/-- The block of 1024 rows `q` and 3072 columns `j` of the cotangent. -/
def tileA (q : Fin 4) (j : Fin 2) (a : FVec Ideal S4096x6144 .bf16) : FVec Ideal S1024x3072 .bf16 :=
  fun y => a (ix2 ⟨q.val * 1024 + (y 0).val, by have := q.isLt; have h : (y 0).val < 1024 := (y 0).isLt; omega⟩ ⟨j.val * 3072 + (y 1).val, by have := j.isLt; have h : (y 1).val < 3072 := (y 1).isLt; omega⟩)

/-- The block `j` of 3072 columns of the weight. -/
def tileB (j : Fin 2) (a : FVec Ideal S1024x6144 .bf16) : FVec Ideal S1024x3072 .bf16 :=
  fun y => a (ix2 (y 0) ⟨j.val * 3072 + (y 1).val, by have := j.isLt; have h : (y 1).val < 3072 := (y 1).isLt; omega⟩)

/-- The block `q` of 1024 rows. -/
def tileC (q : Fin 4) (a : FVec Ideal S4096x1024 .f32) : FVec Ideal S1024x1024 .f32 :=
  fun y => a (ix2 ⟨q.val * 1024 + (y 0).val, by have := q.isLt; have h : (y 0).val < 1024 := (y 0).isLt; omega⟩ (y 1))

/-- The two halves of the columns and the gradient so far, added up, are the reference's gradient. -/
theorem pure (a0 : FVec Ideal S4096x6144 .bf16) (a1 : FVec Ideal S1024x6144 .bf16) (a2 : FVec Ideal S4096x1024 .f32) (i : grid0.Coords)
    (q : Fin 4) (r s : Fin 1024) :
    k0_pay4 (F := Ideal) i (tileB 1 a1) (tileA q 1 a0) (k0_pay2 (F := Ideal) (tileB 0 a1) (tileA q 0 a0)) (tileC q a2) (ix2 r s)
      = Cert.Reference3Ideal.Value.ref a0 a1 a2 (ix2 ⟨q.val * 1024 + r.val, by omega⟩ s) := by
  have hi : (i 1).val = 0 := by have h : (i 1).val < 1 := (i 1).isLt; omega
  have hc : Scalar.cmpi .sge (BitVec.ofNat 32 (i 1).val) 0#32 = 1#1 := by rw [hi]; decide
  unfold k0_pay4
  simp only [hc]
  pointwise [k0_pay2, k0_pay1, tileA, tileB, tileC, Cert.Reference3Ideal.Value.ref]
  refine congrArg (· + _) ?_
  rw [Fin.sum_univ_tiles 2 3072 rfl, Fin.sum_univ_two]
  exact congrArg₂ (· + ·) (Finset.sum_congr rfl fun x _ => (by simp only [Fin.val_zero, Nat.zero_mul, Nat.zero_add]))
    (Finset.sum_congr rfl fun x _ => (by simp only [Fin.val_one, Nat.one_mul]))

variable (m : (ℓ : Loc nD τ sig) → Buf (Elt Ideal) ℓ)

/-- The index maps of the windows, decided at every grid point. -/
theorem idx : ∀ t : Fin cfg0.N, win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, _)

/-- The number of the block of rows at a point. -/
def row (t : Fin cfg0.N) : Fin 4 := ⟨t.val / 2, by have := lt_of_lt_of_eq t.isLt N_0; omega⟩
/-- The number of the block of columns at a point. -/
def col (t : Fin cfg0.N) : Fin 2 := ⟨t.val % 2, by omega⟩

/-- The block of the cotangent at a point. -/
theorem blk_0 (c : Dev nD) (t : Fin cfg0.N) : iblk m c 0 t = tileA (row t) (col t) (m ((c : Thread nD τ).loc main_arg0)) := by
  funext y; blk_point [iblk, V, tileA, row, col, idx t]
/-- The block of the weight at a point. -/
theorem blk_1 (c : Dev nD) (t : Fin cfg0.N) : iblk m c 1 t = tileB (col t) (m ((c : Thread nD τ).loc main_arg1)) := by
  funext y; blk_point [iblk, V, tileB, col, idx t]
/-- The block of the gradient so far at a point. -/
theorem blk_2 (c : Dev nD) (t : Fin cfg0.N) : iblk m c 2 t = tileC (row t) (m ((c : Thread nD τ).loc main_arg2)) := by
  funext y; blk_point [iblk, V, tileC, row, idx t]

/-- What the first point of a block leaves in the accumulator. -/
theorem acc_first (c : Dev nD) (t : Fin cfg0.N) (h : t.val % 2 = 0) :
    (outsAt0 m c t.val t.isLt).2 = k0_pay2 (F := Ideal) (iblk m c 1 t) (iblk m c 0 t) := by
  funext x; rw [outsAt0_A m c t h (by omega)]; frame_out

/-- What the last point of a block stores. -/
theorem out_last (c : Dev nD) (t : Fin cfg0.N) (h : t.val % 2 = 1) :
    (outsAt0 m c t.val t.isLt).1 = k0_pay4 (F := Ideal) (grid0.coords t) (iblk m c 1 t) (iblk m c 0 t)
      (outsAt0 m c (t.val - 1) (Nat.lt_of_le_of_lt (Nat.sub_le _ _) t.isLt)).2 (iblk m c 2 t) := by
  funext x; rw [outsAt0_B m c t (by omega) h]; frame_out; rw [read_unread_whole]

/-- The result after the run. -/
theorem final (c : Dev nD) : (dats m 0 c).arrAt 3 (cfgs 0).N
    = Cert.Reference3Ideal.Value.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 2 = 1 := (flush0_3 t).mp hf
  have hp : t.val - 1 < cfg0.N := Nat.lt_of_le_of_lt (Nat.sub_le _ _) t.isLt
  blk_simp
  rw [after0_3, out_last m c t h, acc_first m c ⟨t.val - 1, hp⟩ (show (t.val - 1) % 2 = 0 by omega), blk_0, blk_1, blk_2, blk_0, blk_1]
  have e1 : col t = 1 := Fin.ext h
  have e2 : col ⟨t.val - 1, hp⟩ = 0 := Fin.ext (show (t.val - 1) % 2 = 0 by omega)
  have e3 : row ⟨t.val - 1, hp⟩ = row t := Fin.ext (show (t.val - 1) / 2 = t.val / 2 by omega)
  rw [e1, e2, e3]
  idx_vars y
  exact (pure _ _ _ _ (row t) _ _).trans (by blk_point [row, idx t])

end Cert.Kernel3Ideal.Value

namespace Cert.Mm3Claims

/-- The reference ends with its arguments unchanged and every counter at zero. -/
theorem frame_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run_ref m ρ)

/-- The kernel over the reals and the reference end with equal results. -/
theorem algebraic : Cert.algebraic_Kernel3Ideal_Reference3Ideal := by
  intro m ρ m' ρ' _ hagree
  refine ⟨_, Cert.Kernel3Ideal.Value.run_blocks m ρ, ?_⟩
  refine (θ_run Cert.Reference3Ideal.defs _ _).mono
    (fun r h c => ⟨(h c).1.trans ?_, (h c).2⟩)
    (Cert.Reference3Ideal.Value.run_ref m' ρ')
  obtain ⟨h0, h1, h2⟩ := hagree c
  rw [h0, h1, h2]
  exact (Cert.Kernel3Ideal.Value.final m c).symm

end Cert.Mm3Claims

end
-- ==== Proof.Mm4.lean ====
/- Hand-written: the gradient of the projection to queries, keys and values, as a function of the argument arrays. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference4Ideal.Value

open Cert.Reference4Ideal Cert.Reference4Ideal.Gen Idealize.ShloMosaic.StableHlo

/-- The reference's result as a function of its arguments. -/
def ref (a0 : FVec Ideal S4096x1024 .bf16) (a1 : FVec Ideal S4096x3072 .bf16) (a2 : FVec Ideal S1024x2048 .f32) : FVec Ideal S1024x3072 .bf16 :=
  truncf .bf16 (concatenate S1024x3072 1 [⟨S1024x1024, (extractStridedSlice S1024x1024 ![0, 0] (transpose S1024x3072 [1, 0] (Host.dotGeneral dot_S4096x3072_S4096x1024_S3072x1024_0_0_1_1_n_n none (extf .f32 a1 bitsLt_bf16_f32) (extf .f32 a0 bitsLt_bf16_f32)) transposes_S3072x1024_S1024x3072_1_0) slices_S1024x3072_S1024x1024_0_0)⟩, ⟨S1024x2048, (addf (extractStridedSlice S1024x2048 ![0, 1024] (transpose S1024x3072 [1, 0] (Host.dotGeneral dot_S4096x3072_S4096x1024_S3072x1024_0_0_1_1_n_n none (extf .f32 a1 bitsLt_bf16_f32) (extf .f32 a0 bitsLt_bf16_f32)) transposes_S3072x1024_S1024x3072_1_0) slices_S1024x3072_S1024x2048_0_1024) a2)⟩] concatenates_S1024x1024_S1024x2048_S1024x3072_d1) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference4Ideal.Value

namespace Cert.Kernel4Ideal.Value

open Cert.Kernel4Ideal Cert.Kernel4Ideal.Gen

/-- The block `q` of 2048 rows. -/
def tileA (q : Fin 2) (a : FVec Ideal S4096x1024 .bf16) : FVec Ideal S2048x1024 .bf16 :=
  fun y => a (ix2 ⟨q.val * 2048 + (y 0).val, by have := q.isLt; have h : (y 0).val < 2048 := (y 0).isLt; omega⟩ (y 1))

/-- The block of 2048 rows `q` and 1024 columns `j` of the cotangent. -/
def tileB (q : Fin 2) (j : Fin 3) (a : FVec Ideal S4096x3072 .bf16) : FVec Ideal S2048x1024 .bf16 :=
  fun y => a (ix2 ⟨q.val * 2048 + (y 0).val, by have := q.isLt; have h : (y 0).val < 2048 := (y 0).isLt; omega⟩ ⟨j.val * 1024 + (y 1).val, by have := j.isLt; have h : (y 1).val < 1024 := (y 1).isLt; omega⟩)

/-- The block of 1024 columns before block `j`, and the first one at `j = 0`, of the part of the context. -/
def tileC (j : Fin 3) (a : FVec Ideal S1024x2048 .f32) : FVec Ideal S1024x1024 .f32 :=
  fun y => a (ix2 (y 0) ⟨(j.val - 1) * 1024 + (y 1).val, by have := j.isLt; have h : (y 1).val < 1024 := (y 1).isLt; omega⟩)

/-- The two halves of the rows and the part of the context, added up, are the reference's gradient. -/
theorem pure (a0 : FVec Ideal S4096x1024 .bf16) (a1 : FVec Ideal S4096x3072 .bf16) (a2 : FVec Ideal S1024x2048 .f32) (i : grid0.Coords)
    (j : Fin 3) (hi : (i 1).val = j.val) (r s : Fin 1024) :
    k0_pay4 (F := Ideal) i (tileB 1 j a1) (tileA 1 a0) (k0_pay2 (F := Ideal) (tileB 0 j a1) (tileA 0 a0)) (tileC j a2) (ix2 r s)
      = Cert.Reference4Ideal.Value.ref a0 a1 a2 (ix2 r ⟨j.val * 1024 + s.val, by omega⟩) := by
  have hs := s.isLt
  have hc : Scalar.cmpi .sge (BitVec.ofNat 32 (i 1).val) 1#32 = if j.val = 0 then 0#1 else 1#1 := by rw [hi]; clear hi; revert j; decide
  unfold k0_pay4
  simp only [hc]
  pointwise [k0_pay2, k0_pay1, tileA, tileB, tileC, Cert.Reference4Ideal.Value.ref]
  have hx : ∀ k : Fin 3072, k = ⟨j.val * 1024 + s.val, by omega⟩ → ∑ x : Fin 2048, a0 (ix2 ⟨x.val, by omega⟩ r) * a1 (ix2 ⟨x.val, by omega⟩ ⟨j.val * 1024 + s.val, by omega⟩)
      + ∑ x : Fin 2048, a0 (ix2 ⟨2048 + x.val, by omega⟩ r) * a1 (ix2 ⟨2048 + x.val, by omega⟩ ⟨j.val * 1024 + s.val, by omega⟩)
      = ∑ x : Fin 4096, a1 (ix2 x k) * a0 (ix2 x r) := by
    rintro k rfl
    rw [Fin.sum_univ_tiles 2 2048 rfl, Fin.sum_univ_two]
    exact congrArg₂ (· + ·) (Finset.sum_congr rfl fun x _ => (mul_comm _ _).trans (by simp only [Fin.val_zero, Nat.zero_mul, Nat.zero_add]))
      (Finset.sum_congr rfl fun x _ => (mul_comm _ _).trans (by simp only [Fin.val_one, Nat.one_mul]))
  by_cases h0 : j.val = 0
  · rw [dif_pos (by omega), if_pos h0]
    exact (add_zero _).trans (hx _ rfl)
  · rw [dif_neg (by omega), if_neg h0]
    refine congrArg₂ (· + ·) (hx _ (Fin.ext (show 1024 + (j.val * 1024 + s.val - 1024) = j.val * 1024 + s.val by omega))) ?_
    exact congrArg (fun k => a2 (ix2 r k)) (Fin.ext (show (j.val - 1) * 1024 + s.val = j.val * 1024 + s.val - 1024 by omega))

variable (m : (ℓ : Loc nD τ sig) → Buf (Elt Ideal) ℓ)

/-- The index maps of the windows, decided at every grid point. -/
theorem idx : ∀ t : Fin cfg0.N, win0_0.index t = ![t.val % 2, 0] ∧ win0_1.index t = ![t.val % 2, t.val / 2]
    ∧ win0_2.index t = ![0, t.val / 2 - 1] ∧ win0_3.index t = ![0, t.val / 2] :=
  (by decide +kernel : ∀ t : Fin grid0.N, _)

/-- The second grid coordinate of a point. -/
theorem coord : ∀ t : Fin cfg0.N, (grid0.coords t 1).val = t.val / 2 :=
  (by decide +kernel : ∀ t : Fin grid0.N, _)

/-- The number of the block of columns at a point. -/
def col (t : Fin cfg0.N) : Fin 3 := ⟨t.val / 2, by have := lt_of_lt_of_eq t.isLt N_0; omega⟩
/-- The number of the block of rows at a point. -/
def row (t : Fin cfg0.N) : Fin 2 := ⟨t.val % 2, by omega⟩

/-- The block of the rows at a point. -/
theorem blk_0 (c : Dev nD) (t : Fin cfg0.N) : iblk m c 0 t = tileA (row t) (m ((c : Thread nD τ).loc main_arg0)) := by
  funext y; blk_point [iblk, V, tileA, row, idx t]
/-- The block of the cotangent at a point. -/
theorem blk_1 (c : Dev nD) (t : Fin cfg0.N) : iblk m c 1 t = tileB (row t) (col t) (m ((c : Thread nD τ).loc main_arg1)) := by
  funext y; blk_point [iblk, V, tileB, row, col, idx t]
/-- The block of the part of the context at a point. -/
theorem blk_2 (c : Dev nD) (t : Fin cfg0.N) : iblk m c 2 t = tileC (col t) (m ((c : Thread nD τ).loc main_arg2)) := by
  funext y; blk_point [iblk, V, tileC, col, idx t]

/-- What the first point of a block leaves in the accumulator. -/
theorem acc_first (c : Dev nD) (t : Fin cfg0.N) (h : t.val % 2 = 0) :
    (outsAt0 m c t.val t.isLt).2 = k0_pay2 (F := Ideal) (iblk m c 1 t) (iblk m c 0 t) := by
  funext x; rw [outsAt0_A m c t h (by omega)]; frame_out

/-- What the last point of a block stores. -/
theorem out_last (c : Dev nD) (t : Fin cfg0.N) (h : t.val % 2 = 1) :
    (outsAt0 m c t.val t.isLt).1 = k0_pay4 (F := Ideal) (grid0.coords t) (iblk m c 1 t) (iblk m c 0 t)
      (outsAt0 m c (t.val - 1) (Nat.lt_of_le_of_lt (Nat.sub_le _ _) t.isLt)).2 (iblk m c 2 t) := by
  funext x; rw [outsAt0_B m c t (by omega) h]; frame_out; rw [read_unread_whole]

/-- The result after the run. -/
theorem final (c : Dev nD) : (dats m 0 c).arrAt 3 (cfgs 0).N
    = Cert.Reference4Ideal.Value.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 2 = 1 := (flush0_3 t).mp hf
  have hp : t.val - 1 < cfg0.N := Nat.lt_of_le_of_lt (Nat.sub_le _ _) t.isLt
  blk_simp
  rw [after0_3, out_last m c t h, acc_first m c ⟨t.val - 1, hp⟩ (show (t.val - 1) % 2 = 0 by omega), blk_0, blk_1, blk_2, blk_0, blk_1]
  have e1 : row t = 1 := Fin.ext h
  have e2 : row ⟨t.val - 1, hp⟩ = 0 := Fin.ext (show (t.val - 1) % 2 = 0 by omega)
  have e3 : col ⟨t.val - 1, hp⟩ = col t := Fin.ext (show (t.val - 1) / 2 = t.val / 2 by omega)
  rw [e1, e2, e3]
  idx_vars y
  refine (pure _ _ _ _ (col t) (coord t) _ _).trans ?_
  generalize Cert.Reference4Ideal.Value.ref _ _ _ = G
  blk_point [col, idx t]

end Cert.Kernel4Ideal.Value

namespace Cert.Mm4Claims

/-- The reference ends with its arguments unchanged and every counter at zero. -/
theorem frame_reference : Cert.quiescent_Reference4Ideal := fun m ρ _ =>
  (θ_run Cert.Reference4Ideal.defs _ _).mono
    (fun r h => ⟨fun c => (h c).2, sem_eq_zero_of_no_sems (by decide) r.2⟩) (Cert.Reference4Ideal.Value.run_ref m ρ)

/-- The kernel over the reals and the reference end with equal results. -/
theorem algebraic : Cert.algebraic_Kernel4Ideal_Reference4Ideal := by
  intro m ρ m' ρ' _ hagree
  refine ⟨_, Cert.Kernel4Ideal.Value.run_blocks m ρ, ?_⟩
  refine (θ_run Cert.Reference4Ideal.defs _ _).mono
    (fun r h c => ⟨(h c).1.trans ?_, (h c).2⟩)
    (Cert.Reference4Ideal.Value.run_ref m' ρ')
  obtain ⟨h0, h1, h2⟩ := hagree c
  rw [h0, h1, h2]
  exact (Cert.Kernel4Ideal.Value.final m c).symm

end Cert.Mm4Claims

end
-- ==== Proof.Mm5.lean ====
/- Hand-written: the gradient of the rows through the projection to queries, keys and values, as a function of the argument arrays. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference5Ideal.Value

open Cert.Reference5Ideal Cert.Reference5Ideal.Gen Idealize.ShloMosaic.StableHlo

/-- The reference's result as a function of its arguments. -/
def ref (a0 : FVec Ideal S4096x3072 .bf16) (a1 : FVec Ideal S1024x3072 .bf16) (a2 : FVec Ideal S4096x1024 .f32) : FVec Ideal S4096x1024 .f32 :=
  addf (Host.dotGeneral dot_S4096x3072_S1024x3072_S4096x1024_1_1_0_0_n_n none (extf .f32 a0 bitsLt_bf16_f32) (extf .f32 a1 bitsLt_bf16_f32)) a2

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference5Ideal.Value

namespace Cert.Kernel5Ideal.Value

open Cert.Kernel5Ideal Cert.Kernel5Ideal.Gen

/-- The block `q` of 1024 rows of the cotangent. -/
def tileA (q : Fin 4) (a : FVec Ideal S4096x3072 .bf16) : FVec Ideal S1024x3072 .bf16 :=
  fun y => a (ix2 ⟨q.val * 1024 + (y 0).val, by have := q.isLt; have h : (y 0).val < 1024 := (y 0).isLt; omega⟩ (y 1))

/-- The block `q` of 1024 rows. -/
def tileC (q : Fin 4) (a : FVec Ideal S4096x1024 .f32) : FVec Ideal S1024x1024 .f32 :=
  fun y => a (ix2 ⟨q.val * 1024 + (y 0).val, by have := q.isLt; have h : (y 0).val < 1024 := (y 0).isLt; omega⟩ (y 1))

/-- What a point stores is the reference's gradient at the same rows. -/
theorem pure (a0 : FVec Ideal S4096x3072 .bf16) (a1 : FVec Ideal S1024x3072 .bf16) (a2 : FVec Ideal S4096x1024 .f32) (i : grid0.Coords)
    (q : Fin 4) (r s : Fin 1024) :
    k0_pay1 (F := Ideal) i a1 (tileA q a0) (tileC q a2) (ix2 r s)
      = Cert.Reference5Ideal.Value.ref a0 a1 a2 (ix2 ⟨q.val * 1024 + r.val, by omega⟩ s) := by
  have hi : (i 1).val = 0 := by have h : (i 1).val < 1 := (i 1).isLt; omega
  have hc : Scalar.cmpi .sge (BitVec.ofNat 32 (i 1).val) 0#32 = 1#1 := by rw [hi]; decide
  unfold k0_pay1
  simp only [hc]
  pointwise [tileA, tileC, Cert.Reference5Ideal.Value.ref]

variable (m : (ℓ : Loc nD τ sig) → Buf (Elt Ideal) ℓ)

/-- The index maps of the windows, decided at every grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The number of the block of rows at a point. -/
def row (t : Fin cfg0.N) : Fin 4 := ⟨t.val, lt_of_lt_of_eq t.isLt N_0⟩

/-- The block of the cotangent at a point. -/
theorem blk_0 (c : Dev nD) (t : Fin cfg0.N) : iblk m c 0 t = tileA (row t) (m ((c : Thread nD τ).loc main_arg0)) := by
  funext y; blk_point [iblk, V, tileA, row, idx t]
/-- The weight, whole at every point. -/
theorem blk_1 (c : Dev nD) (t : Fin cfg0.N) : iblk m c 1 t = m ((c : Thread nD τ).loc main_arg1) := by
  funext y; blk_point [iblk, V, idx t]
/-- The block of the gradient so far at a point. -/
theorem blk_2 (c : Dev nD) (t : Fin cfg0.N) : iblk m c 2 t = tileC (row t) (m ((c : Thread nD τ).loc main_arg2)) := by
  funext y; blk_point [iblk, V, tileC, row, idx t]

/-- The result after the run. -/
theorem final (c : Dev nD) : (dats m 0 c).arrAt 3 (cfgs 0).N
    = Cert.Reference5Ideal.Value.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [blk_0, blk_1, blk_2]
  idx_vars y
  exact (pure _ _ _ _ (row t) _ _).trans (by blk_point [row, idx t])

end Cert.Kernel5Ideal.Value

namespace Cert.Mm5Claims

/-- The reference ends with its arguments unchanged and every counter at zero. -/
theorem frame_reference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run_ref m ρ)

/-- The kernel over the reals and the reference end with equal results. -/
theorem algebraic : Cert.algebraic_Kernel5Ideal_Reference5Ideal := by
  intro m ρ m' ρ' _ hagree
  refine ⟨_, Cert.Kernel5Ideal.Value.run_blocks m ρ, ?_⟩
  refine (θ_run Cert.Reference5Ideal.defs _ _).mono
    (fun r h c => ⟨(h c).1.trans ?_, (h c).2⟩)
    (Cert.Reference5Ideal.Value.run_ref m' ρ')
  obtain ⟨h0, h1, h2⟩ := hagree c
  rw [h0, h1, h2]
  exact (Cert.Kernel5Ideal.Value.final m c).symm

end Cert.Mm5Claims

end
-- ==== Proof.Mm6.lean ====
/- Hand-written: the gradient of an output projection, as a function of the argument arrays. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference6Ideal.Value

open Cert.Reference6Ideal Cert.Reference6Ideal.Gen Idealize.ShloMosaic.StableHlo

/-- The reference's result as a function of its arguments. -/
def ref (a0 : FVec Ideal S4096x1024 .bf16) (a1 : FVec Ideal S4096x1024 .bf16) : FVec Ideal S1024x1024 .bf16 :=
  truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference6Ideal.Value

namespace Cert.Kernel6Ideal.Value

open Cert.Kernel6Ideal Cert.Kernel6Ideal.Gen

/-- The block `q` of 1024 rows. -/
def tile (q : Fin 4) (a : FVec Ideal S4096x1024 .bf16) : FVec Ideal S1024x1024 .bf16 :=
  fun y => a (ix2 ⟨q.val * 1024 + (y 0).val, by have := q.isLt; have h : (y 0).val < 1024 := (y 0).isLt; omega⟩ (y 1))

/-- The four blocks of rows added up are the reference's gradient. -/
theorem pure (a0 a1 : FVec Ideal S4096x1024 .bf16) (r s : Fin 1024) :
    k0_pay4 (F := Ideal) (tile 3 a1) (tile 3 a0) (k0_pay3 (F := Ideal) (tile 2 a1) (tile 2 a0) (k0_pay3 (F := Ideal) (tile 1 a1) (tile 1 a0)
        (k0_pay2 (F := Ideal) (tile 0 a1) (tile 0 a0)))) (ix2 r s)
      = Cert.Reference6Ideal.Value.ref a0 a1 (ix2 r s) := by
  pointwise [k0_pay4, k0_pay3, k0_pay2, k0_pay1, tile, Cert.Reference6Ideal.Value.ref]
  rw [Fin.sum_univ_tiles 4 1024 rfl, Fin.sum_univ_four]
  exact congrArg₂ (· + ·) (congrArg₂ (· + ·) (congrArg₂ (· + ·)
    (Finset.sum_congr rfl fun x _ => (mul_comm _ _).trans (by simp only [Fin.val_zero, Nat.zero_mul, Nat.zero_add]))
    (Finset.sum_congr rfl fun x _ => (mul_comm _ _).trans (by simp only [Fin.val_one, Nat.one_mul])))
    (Finset.sum_congr rfl fun x _ => mul_comm _ _)) (Finset.sum_congr rfl fun x _ => mul_comm _ _)

variable (m : (ℓ : Loc nD τ sig) → Buf (Elt Ideal) ℓ)

/-- The index maps of the windows, decided at every grid point. -/
theorem idx : ∀ t : Fin cfg0.N, win0_0.index t = ![t.val, 0] ∧ win0_1.index t = ![t.val, 0]
    ∧ win0_2.index t = ![0, 0] :=
  (by decide +kernel : ∀ t : Fin grid0.N, _)

/-- The number of the block of rows at a point. -/
def row (t : Fin cfg0.N) : Fin 4 := ⟨t.val, lt_of_lt_of_eq t.isLt N_0⟩

/-- The block of the rows at a point. -/
theorem blk_0 (c : Dev nD) (t : Fin cfg0.N) : iblk m c 0 t = tile (row t) (m ((c : Thread nD τ).loc main_arg0)) := by
  funext y; blk_point [iblk, V, tile, row, idx t]
/-- The block of the cotangent at a point. -/
theorem blk_1 (c : Dev nD) (t : Fin cfg0.N) : iblk m c 1 t = tile (row t) (m ((c : Thread nD τ).loc main_arg1)) := by
  funext y; blk_point [iblk, V, tile, row, idx t]

/-- What the first point leaves in the accumulator. -/
theorem acc_first (c : Dev nD) (t : Fin cfg0.N) (h : t.val % 4 = 0) :
    (outsAt0 m c t.val t.isLt).2 = k0_pay2 (F := Ideal) (iblk m c 1 t) (iblk m c 0 t) := by
  funext x; rw [outsAt0_A m c t h (by omega) (by omega)]; frame_out

/-- What a middle point leaves in the accumulator. -/
theorem acc_next (c : Dev nD) (t : Fin cfg0.N) (h : 1 ≤ t.val % 4 ∧ t.val % 4 ≤ 2) :
    (outsAt0 m c t.val t.isLt).2 = k0_pay3 (F := Ideal) (iblk m c 1 t) (iblk m c 0 t)
      (outsAt0 m c (t.val - 1) (Nat.lt_of_le_of_lt (Nat.sub_le _ _) t.isLt)).2 := by
  funext x; rw [outsAt0_B m c t (by omega) h (by omega)]; frame_out; rw [read_unread_whole]

/-- What the last point stores. -/
theorem out_last (c : Dev nD) (t : Fin cfg0.N) (h : t.val % 4 = 3) :
    (outsAt0 m c t.val t.isLt).1 = k0_pay4 (F := Ideal) (iblk m c 1 t) (iblk m c 0 t)
      (outsAt0 m c (t.val - 1) (Nat.lt_of_le_of_lt (Nat.sub_le _ _) t.isLt)).2 := by
  funext x; rw [outsAt0_C m c t (by omega) (by omega) h]; frame_out; rw [read_unread_whole]

/-- The result after the run. -/
theorem final (c : Dev nD) : (dats m 0 c).arrAt 2 (cfgs 0).N
    = Cert.Reference6Ideal.Value.ref (m ((c : Thread nD τ).loc main_arg0)) (m ((c : Thread nD τ).loc main_arg1)) := by
  refine (dats m 0 c).arrAt_eq_of_after_last 2 t0_3 (by decide +kernel) _ fun j => ?_
  blk_simp
  have e2 : (outsAt0 m c (t0_3.val - 1) (Nat.lt_of_le_of_lt (Nat.sub_le _ _) t0_3.isLt)).2 = _ := acc_next m c t0_2 (by decide)
  have e1 : (outsAt0 m c (t0_2.val - 1) (Nat.lt_of_le_of_lt (Nat.sub_le _ _) t0_2.isLt)).2 = _ := acc_next m c t0_1 (by decide)
  have e0 : (outsAt0 m c (t0_1.val - 1) (Nat.lt_of_le_of_lt (Nat.sub_le _ _) t0_1.isLt)).2 = _ := acc_first m c t0_0 rfl
  rw [after0_2, out_last m c t0_3 rfl, e2, e1, e0]
  simp only [blk_0, blk_1]
  idx_vars j
  exact pure _ _ _ _

end Cert.Kernel6Ideal.Value

namespace Cert.Mm6Claims

/-- The reference ends with its arguments unchanged and every counter at zero. -/
theorem frame_reference : Cert.quiescent_Reference6Ideal := fun m ρ _ =>
  (θ_run Cert.Reference6Ideal.defs _ _).mono
    (fun r h => ⟨fun c => (h c).2, sem_eq_zero_of_no_sems (by decide) r.2⟩) (Cert.Reference6Ideal.Value.run_ref m ρ)

/-- The kernel over the reals and the reference end with equal results. -/
theorem algebraic : Cert.algebraic_Kernel6Ideal_Reference6Ideal := by
  intro m ρ m' ρ' _ hagree
  refine ⟨_, Cert.Kernel6Ideal.Value.run_blocks m ρ, ?_⟩
  refine (θ_run Cert.Reference6Ideal.defs _ _).mono
    (fun r h c => ⟨(h c).1.trans ?_, (h c).2⟩)
    (Cert.Reference6Ideal.Value.run_ref m' ρ')
  obtain ⟨h0, h1⟩ := hagree c
  rw [h0, h1]
  exact (Cert.Kernel6Ideal.Value.final m c).symm

end Cert.Mm6Claims

end
-- ==== Proof.Mm7.lean ====
/- Hand-written: the input projection, as a function of the argument arrays. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference7Ideal.Value

open Cert.Reference7Ideal Cert.Reference7Ideal.Gen Idealize.ShloMosaic.StableHlo

/-- The reference's result as a function of its arguments. -/
def ref (a0 : FVec Ideal S4096x1024 .bf16) (a1 : FVec Ideal S1024x6144 .bf16) : FVec Ideal S4096x6144 .bf16 :=
  truncf .bf16 (Host.dotGeneral dot_S4096x1024_S1024x6144_S4096x6144_1_0_0_1_n_n none (extf .f32 a0 bitsLt_bf16_f32) (extf .f32 a1 bitsLt_bf16_f32)) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference7Ideal.Value

namespace Cert.Kernel7Ideal.Value

open Cert.Kernel7Ideal Cert.Kernel7Ideal.Gen

/-- The block `j` of 512 columns of the weight. -/
def tile (j : Fin 12) (a : FVec Ideal S1024x6144 .bf16) : FVec Ideal S1024x512 .bf16 :=
  fun y => a (ix2 (y 0) ⟨j.val * 512 + (y 1).val, by have := j.isLt; have h : (y 1).val < 512 := (y 1).isLt; omega⟩)

/-- What a point stores is the reference's product at the same columns. -/
theorem pure (a0 : FVec Ideal S4096x1024 .bf16) (a1 : FVec Ideal S1024x6144 .bf16) (j : Fin 12) (r : Fin 4096) (s : Fin 512) :
    k0_pay1 (F := Ideal) (tile j a1) a0 (ix2 r s)
      = Cert.Reference7Ideal.Value.ref a0 a1 (ix2 r ⟨j.val * 512 + s.val, by omega⟩) := by
  pointwise [k0_pay1, tile, Cert.Reference7Ideal.Value.ref]

variable (m : (ℓ : Loc nD τ sig) → Buf (Elt Ideal) ℓ)

/-- The index maps of the windows, decided at every grid point. -/
theorem idx : ∀ t : Fin cfg0.N, win0_0.index t = ![0, 0] ∧ win0_1.index t = ![0, t.val] ∧ win0_2.index t = ![0, t.val] :=
  (by decide +kernel : ∀ t : Fin grid0.N, _)

/-- The number of the block of columns at a point. -/
def col (t : Fin cfg0.N) : Fin 12 := ⟨t.val, lt_of_lt_of_eq t.isLt N_0⟩

/-- The rows, whole at every point. -/
theorem blk_0 (c : Dev nD) (t : Fin cfg0.N) : iblk m c 0 t = m ((c : Thread nD τ).loc main_arg0) := by
  funext y; blk_point [iblk, V, idx t]
/-- The block of the weight at a point. -/
theorem blk_1 (c : Dev nD) (t : Fin cfg0.N) : iblk m c 1 t = tile (col t) (m ((c : Thread nD τ).loc main_arg1)) := by
  funext y; blk_point [iblk, V, tile, col, idx t]

/-- The result after the run. -/
theorem final (c : Dev nD) : (dats m 0 c).arrAt 2 (cfgs 0).N
    = Cert.Reference7Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  exact (pure _ _ (col t) _ _).trans (by blk_point [col, idx t])

end Cert.Kernel7Ideal.Value

namespace Cert.Mm7Claims

/-- The reference ends with its arguments unchanged and every counter at zero. -/
theorem frame_reference : Cert.quiescent_Reference7Ideal := fun m ρ _ =>
  (θ_run Cert.Reference7Ideal.defs _ _).mono
    (fun r h => ⟨fun c => (h c).2, sem_eq_zero_of_no_sems (by decide) r.2⟩) (Cert.Reference7Ideal.Value.run_ref m ρ)

/-- The kernel over the reals and the reference end with equal results. -/
theorem algebraic : Cert.algebraic_Kernel7Ideal_Reference7Ideal := by
  intro m ρ m' ρ' _ hagree
  refine ⟨_, Cert.Kernel7Ideal.Value.run_blocks m ρ, ?_⟩
  refine (θ_run Cert.Reference7Ideal.defs _ _).mono
    (fun r h c => ⟨(h c).1.trans ?_, (h c).2⟩)
    (Cert.Reference7Ideal.Value.run_ref m' ρ')
  obtain ⟨h0, h1⟩ := hagree c
  rw [h0, h1]
  exact (Cert.Kernel7Ideal.Value.final m c).symm

end Cert.Mm7Claims

end
-- ==== Proof.Mm8.lean ====
/- Hand-written: the input projection, as a function of the argument arrays. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference8Ideal.Value

open Cert.Reference8Ideal Cert.Reference8Ideal.Gen Idealize.ShloMosaic.StableHlo

/-- The reference's result as a function of its arguments. -/
def ref (a0 : FVec Ideal S4096x1024 .bf16) (a1 : FVec Ideal S1024x3072 .bf16) : FVec Ideal S4096x3072 .f32 :=
  Host.dotGeneral dot_S4096x1024_S1024x3072_S4096x3072_1_0_0_1_n_n none (extf .f32 a0 bitsLt_bf16_f32) (extf .f32 a1 bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference8Ideal.Value

namespace Cert.Kernel8Ideal.Value

open Cert.Kernel8Ideal Cert.Kernel8Ideal.Gen

/-- The block `j` of 512 columns of the weight. -/
def tile (j : Fin 6) (a : FVec Ideal S1024x3072 .bf16) : FVec Ideal S1024x512 .bf16 :=
  fun y => a (ix2 (y 0) ⟨j.val * 512 + (y 1).val, by have := j.isLt; have h : (y 1).val < 512 := (y 1).isLt; omega⟩)

/-- What a point stores is the reference's product at the same columns. -/
theorem pure (a0 : FVec Ideal S4096x1024 .bf16) (a1 : FVec Ideal S1024x3072 .bf16) (j : Fin 6) (r : Fin 4096) (s : Fin 512) :
    k0_pay1 (F := Ideal) (tile j a1) a0 (ix2 r s)
      = Cert.Reference8Ideal.Value.ref a0 a1 (ix2 r ⟨j.val * 512 + s.val, by omega⟩) := by
  pointwise [k0_pay1, tile, Cert.Reference8Ideal.Value.ref]

variable (m : (ℓ : Loc nD τ sig) → Buf (Elt Ideal) ℓ)

/-- The index maps of the windows, decided at every grid point. -/
theorem idx : ∀ t : Fin cfg0.N, win0_0.index t = ![0, 0] ∧ win0_1.index t = ![0, t.val] ∧ win0_2.index t = ![0, t.val] :=
  (by decide +kernel : ∀ t : Fin grid0.N, _)

/-- The number of the block of columns at a point. -/
def col (t : Fin cfg0.N) : Fin 6 := ⟨t.val, lt_of_lt_of_eq t.isLt N_0⟩

/-- The rows, whole at every point. -/
theorem blk_0 (c : Dev nD) (t : Fin cfg0.N) : iblk m c 0 t = m ((c : Thread nD τ).loc main_arg0) := by
  funext y; blk_point [iblk, V, idx t]
/-- The block of the weight at a point. -/
theorem blk_1 (c : Dev nD) (t : Fin cfg0.N) : iblk m c 1 t = tile (col t) (m ((c : Thread nD τ).loc main_arg1)) := by
  funext y; blk_point [iblk, V, tile, col, idx t]

/-- The result after the run. -/
theorem final (c : Dev nD) : (dats m 0 c).arrAt 2 (cfgs 0).N
    = Cert.Reference8Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  exact (pure _ _ (col t) _ _).trans (by blk_point [col, idx t])

end Cert.Kernel8Ideal.Value

namespace Cert.Mm8Claims

/-- The reference ends with its arguments unchanged and every counter at zero. -/
theorem frame_reference : Cert.quiescent_Reference8Ideal := fun m ρ _ =>
  (θ_run Cert.Reference8Ideal.defs _ _).mono
    (fun r h => ⟨fun c => (h c).2, sem_eq_zero_of_no_sems (by decide) r.2⟩) (Cert.Reference8Ideal.Value.run_ref m ρ)

/-- The kernel over the reals and the reference end with equal results. -/
theorem algebraic : Cert.algebraic_Kernel8Ideal_Reference8Ideal := by
  intro m ρ m' ρ' _ hagree
  refine ⟨_, Cert.Kernel8Ideal.Value.run_blocks m ρ, ?_⟩
  refine (θ_run Cert.Reference8Ideal.defs _ _).mono
    (fun r h c => ⟨(h c).1.trans ?_, (h c).2⟩)
    (Cert.Reference8Ideal.Value.run_ref m' ρ')
  obtain ⟨h0, h1⟩ := hagree c
  rw [h0, h1]
  exact (Cert.Kernel8Ideal.Value.final m c).symm

end Cert.Mm8Claims

end
-- ==== Proof.AdamConsts.lean ====
/- Hand-written: the constants of the optimiser as extended reals. -/
module

public import Idealize.ShloMosaic.PureOps.Ideal

@[expose] public section

noncomputable section

namespace Cert.AdamConsts

open Idealize.ShloMosaic

/-- The divisor of the first moment's bias correction. -/
theorem ofBits_d1 : Ideal.ofBits .f32 0x3F26BD02#32 = ((5463681 / 8388608 : ℝ) : EReal) := by
  simp [Ideal.ofBits, Ideal.ieee, -EReal.coe_mul]; norm_num

/-- The divisor of the second moment's bias correction. -/
theorem ofBits_d2 : Ideal.ofBits .f32 0x3C231ACC#32 = ((2672307 / 268435456 : ℝ) : EReal) := by
  simp [Ideal.ofBits, Ideal.ieee, -EReal.coe_mul]; norm_num

/-- Dividing by the first divisor is multiplying by its reciprocal. -/
theorem div_d1 (x : EReal) : Ideal.div x (Ideal.ofBits .f32 0x3F26BD02#32) = x * ((8388608 / 5463681 : ℝ) : EReal) := by
  rw [ofBits_d1, Ideal.div_coe (by norm_num : (5463681 / 8388608 : ℝ) ≠ 0)]; norm_num

/-- Dividing by the second divisor is multiplying by its reciprocal. -/
theorem div_d2 (x : EReal) : Ideal.div x (Ideal.ofBits .f32 0x3C231ACC#32) = x * ((268435456 / 2672307 : ℝ) : EReal) := by
  rw [ofBits_d2, Ideal.div_coe (by norm_num : (2672307 / 268435456 : ℝ) ≠ 0)]; norm_num

end Cert.AdamConsts

end
-- ==== Proof.Ad10.lean ====
/- Hand-written: one step of the optimiser on a square matrix, as a function of the argument arrays. -/
module

public import proofs.«01_k».proof.Defs
public import proofs.«01_k».proof.Proof.Gen.Kernel10Ideal.Value
public import proofs.«01_k».proof.Proof.Gen.Reference10Ideal.Run
public import proofs.«01_k».proof.Proof.AdamConsts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference10Ideal.Value

open Cert.Reference10Ideal Cert.Reference10Ideal.Gen Idealize.ShloMosaic.StableHlo

/-- The reference's gradient as a function of its arguments. -/
def refG (a0 : FVec Ideal S1x256x1024 .f32) (a1 : FVec Ideal S2x128x1024 .f32) (a2 a3 : FVec Ideal S1x256x1024 .f32) : FVec Ideal S1x256x1024 .f32 :=
  shapeCast _ a1 shapeCasts_S2x128x1024_S1x256x1024

/-- The reference's step as a function of its arguments. -/
def refD (a0 : FVec Ideal S1x256x1024 .f32) (a1 : FVec Ideal S2x128x1024 .f32) (a2 a3 : FVec Ideal S1x256x1024 .f32) : FVec Ideal S1x256x1024 .f32 :=
  mulf (broadcastInDim S1x256x1024 ![] bcast_S_S1x256x1024 (constant S_ .f32 0xBA83126F#32)) (addf (Host.divf (Host.divf (addf (mulf (broadcastInDim S1x256x1024 ![] bcast_S_S1x256x1024 (constant S_ .f32 0x3F666666#32)) a2) (mulf (broadcastInDim S1x256x1024 ![] bcast_S_S1x256x1024 (constant S_ .f32 0x3DCCCCCD#32)) (shapeCast _ a1 shapeCasts_S2x128x1024_S1x256x1024))) (broadcastInDim S1x256x1024 ![] bcast_S_S1x256x1024 (constant S_ .f32 0x3F26BD02#32))) (addf (Host.sqrt (Host.divf (addf (mulf (broadcastInDim S1x256x1024 ![] bcast_S_S1x256x1024 (constant S_ .f32 0x3F7FBE77#32)) a3) (mulf (broadcastInDim S1x256x1024 ![] bcast_S_S1x256x1024 (constant S_ .f32 0x3A83126F#32)) (mulf (shapeCast _ a1 shapeCasts_S2x128x1024_S1x256x1024) (shapeCast _ a1 shapeCasts_S2x128x1024_S1x256x1024)))) (broadcastInDim S1x256x1024 ![] bcast_S_S1x256x1024 (constant S_ .f32 0x3C231ACC#32)))) (broadcastInDim S1x256x1024 ![] bcast_S_S1x256x1024 (constant S_ .f32 0x322BCC77#32)))) (mulf (broadcastInDim S1x256x1024 ![] bcast_S_S1x256x1024 (constant S_ .f32 0x3C23D70A#32)) a0))

/-- The reference's first moment as a function of its arguments. -/
def refM (a0 : FVec Ideal S1x256x1024 .f32) (a1 : FVec Ideal S2x128x1024 .f32) (a2 a3 : FVec Ideal S1x256x1024 .f32) : FVec Ideal S1x256x1024 .f32 :=
  addf (mulf (broadcastInDim S1x256x1024 ![] bcast_S_S1x256x1024 (constant S_ .f32 0x3F666666#32)) a2) (mulf (broadcastInDim S1x256x1024 ![] bcast_S_S1x256x1024 (constant S_ .f32 0x3DCCCCCD#32)) (shapeCast _ a1 shapeCasts_S2x128x1024_S1x256x1024))

/-- The reference's second moment as a function of its arguments. -/
def refV (a0 : FVec Ideal S1x256x1024 .f32) (a1 : FVec Ideal S2x128x1024 .f32) (a2 a3 : FVec Ideal S1x256x1024 .f32) : FVec Ideal S1x256x1024 .f32 :=
  addf (mulf (broadcastInDim S1x256x1024 ![] bcast_S_S1x256x1024 (constant S_ .f32 0x3F7FBE77#32)) a3) (mulf (broadcastInDim S1x256x1024 ![] bcast_S_S1x256x1024 (constant S_ .f32 0x3A83126F#32)) (mulf (shapeCast _ a1 shapeCasts_S2x128x1024_S1x256x1024) (shapeCast _ a1 shapeCasts_S2x128x1024_S1x256x1024)))

/-- The run of the reference, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5) = refM (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = refV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference10Ideal.Value

namespace Cert.Kernel10Ideal.Value

open Cert.Kernel10Ideal Cert.Kernel10Ideal.Gen

/-- The block `j` of 128 rows. -/
def tile (j : Fin 2) (a : FVec Ideal S1x256x1024 .f32) : FVec Ideal S1x128x1024 .f32 :=
  fun y => a (ix3 (y 0) ⟨j.val * 128 + (y 1).val, by have := j.isLt; have h : (y 1).val < 128 := (y 1).isLt; omega⟩ (y 2))

/-- The block `j` of the gradient. -/
def tileG (j : Fin 2) (a : FVec Ideal S2x128x1024 .f32) : FVec Ideal S1x128x1024 .f32 :=
  fun y => a (ix3 j (y 1) (y 2))

/-- The constants named as the exact reciprocals. -/
theorem named_c1 : Named.named (F := Ideal) κ "c1" (φ := .f32) 0x3FC48605#32 = ((8388608 / 5463681 : ℝ) : EReal) :=
  IdealRules.named_const.ideal_named_scalar _ _ _ _ rfl

/-- The constants named as the exact reciprocals. -/
theorem named_c2 : Named.named (F := Ideal) κ "c2" (φ := .f32) 0x42C8E6D3#32 = ((268435456 / 2672307 : ℝ) : EReal) :=
  IdealRules.named_const.ideal_named_scalar _ _ _ _ rfl

/-- The gradient of a block of rows is the reference's at those rows. -/
theorem pure0 (a0 : FVec Ideal S1x256x1024 .f32) (a1 : FVec Ideal S2x128x1024 .f32) (a2 a3 : FVec Ideal S1x256x1024 .f32) (j : Fin 2) (q : Fin 1) (r : Fin 128) (s : Fin 1024) :
    (k0_pay8 (F := Ideal) (tileG j a1)) (ix3 q r s)
      = Cert.Reference10Ideal.Value.refG a0 a1 a2 a3 (ix3 q ⟨j.val * 128 + r.val, by omega⟩ s) := by
  obtain rfl : q = 0 := Subsingleton.elim _ _
  pointwise [k0_pay1, k0_pay2, k0_pay3, k0_pay4, k0_pay5, k0_pay6, k0_pay7, k0_pay8, tileG, tile, Cert.Reference10Ideal.Value.refG]

/-- The step of a block of rows is the reference's at those rows. -/
theorem pure1 (a0 : FVec Ideal S1x256x1024 .f32) (a1 : FVec Ideal S2x128x1024 .f32) (a2 a3 : FVec Ideal S1x256x1024 .f32) (j : Fin 2) (q : Fin 1) (r : Fin 128) (s : Fin 1024) :
    (k0_pay1 (F := Ideal) (k0_pay7 (F := Ideal) (tileG j a1) (tile j a2) (tile j a3) (tile j a0))) (ix3 q r s)
      = Cert.Reference10Ideal.Value.refD a0 a1 a2 a3 (ix3 q ⟨j.val * 128 + r.val, by omega⟩ s) := by
  obtain rfl : q = 0 := Subsingleton.elim _ _
  pointwise [k0_pay1, k0_pay2, k0_pay3, k0_pay4, k0_pay5, k0_pay6, k0_pay7, k0_pay8, tileG, tile, Cert.Reference10Ideal.Value.refD]
  rw [named_c1, named_c2, AdamConsts.div_d1, AdamConsts.div_d2]

/-- The first moment of a block of rows is the reference's at those rows. -/
theorem pure2 (a0 : FVec Ideal S1x256x1024 .f32) (a1 : FVec Ideal S2x128x1024 .f32) (a2 a3 : FVec Ideal S1x256x1024 .f32) (j : Fin 2) (q : Fin 1) (r : Fin 128) (s : Fin 1024) :
    (k0_pay2 (F := Ideal) (k0_pay5 (F := Ideal) (tileG j a1) (tile j a2))) (ix3 q r s)
      = Cert.Reference10Ideal.Value.refM a0 a1 a2 a3 (ix3 q ⟨j.val * 128 + r.val, by omega⟩ s) := by
  obtain rfl : q = 0 := Subsingleton.elim _ _
  pointwise [k0_pay1, k0_pay2, k0_pay3, k0_pay4, k0_pay5, k0_pay6, k0_pay7, k0_pay8, tileG, tile, Cert.Reference10Ideal.Value.refM]

/-- The second moment of a block of rows is the reference's at those rows. -/
theorem pure3 (a0 : FVec Ideal S1x256x1024 .f32) (a1 : FVec Ideal S2x128x1024 .f32) (a2 a3 : FVec Ideal S1x256x1024 .f32) (j : Fin 2) (q : Fin 1) (r : Fin 128) (s : Fin 1024) :
    (k0_pay3 (F := Ideal) (k0_pay6 (F := Ideal) (tileG j a1) (tile j a3))) (ix3 q r s)
      = Cert.Reference10Ideal.Value.refV a0 a1 a2 a3 (ix3 q ⟨j.val * 128 + r.val, by omega⟩ s) := by
  obtain rfl : q = 0 := Subsingleton.elim _ _
  pointwise [k0_pay1, k0_pay2, k0_pay3, k0_pay4, k0_pay5, k0_pay6, k0_pay7, k0_pay8, tileG, tile, Cert.Reference10Ideal.Value.refV]

variable (m : (ℓ : Loc nD τ sig) → Buf (Elt Ideal) ℓ)

/-- The index maps of the windows, decided at every grid point. -/
theorem idx : ∀ t : Fin cfg0.N, win0_0.index t = ![0, t.val, 0] ∧ win0_1.index t = ![t.val, 0, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The number of the block of rows at a point. -/
def row (t : Fin cfg0.N) : Fin 2 := ⟨t.val, lt_of_lt_of_eq t.isLt N_0⟩

/-- The block of argument 0 at a point. -/
theorem blk_0 (c : Dev nD) (t : Fin cfg0.N) : iblk m c 0 t = tile (row t) (m ((c : Thread nD τ).loc main_arg0)) := by
  funext y; blk_point [iblk, V, tile, row, idx t]

/-- The block of argument 1 at a point. -/
theorem blk_1 (c : Dev nD) (t : Fin cfg0.N) : iblk m c 1 t = tileG (row t) (m ((c : Thread nD τ).loc main_arg1)) := by
  funext y; blk_point [iblk, V, tileG, row, idx t]

/-- The block of argument 2 at a point. -/
theorem blk_2 (c : Dev nD) (t : Fin cfg0.N) : iblk m c 2 t = tile (row t) (m ((c : Thread nD τ).loc main_arg2)) := by
  funext y; blk_point [iblk, V, tile, row, idx t]

/-- The block of argument 3 at a point. -/
theorem blk_3 (c : Dev nD) (t : Fin cfg0.N) : iblk m c 3 t = tile (row t) (m ((c : Thread nD τ).loc main_arg3)) := by
  funext y; blk_point [iblk, V, tile, row, idx t]

/-- The gradient after the run. -/
theorem final_4 (c : Dev nD) : (dats m 0 c).arrAt 4 (cfgs 0).N
    = Cert.Reference10Ideal.Value.refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_1]
  idx_vars y
  refine (pure0 (m ((c : Thread nD τ).loc main_arg0)) (m ((c : Thread nD τ).loc main_arg1)) (m ((c : Thread nD τ).loc main_arg2)) (m ((c : Thread nD τ).loc main_arg3)) (row t) _ _ _).trans ?_
  generalize Cert.Reference10Ideal.Value.refG _ _ _ _ = G
  blk_point [row, idx t]

/-- The step after the run. -/
theorem final_5 (c : Dev nD) : (dats m 0 c).arrAt 5 (cfgs 0).N
    = Cert.Reference10Ideal.Value.refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blk_1, blk_2, blk_3, blk_0]
  idx_vars y
  refine (pure1 (m ((c : Thread nD τ).loc main_arg0)) (m ((c : Thread nD τ).loc main_arg1)) (m ((c : Thread nD τ).loc main_arg2)) (m ((c : Thread nD τ).loc main_arg3)) (row t) _ _ _).trans ?_
  generalize Cert.Reference10Ideal.Value.refD _ _ _ _ = G
  blk_point [row, idx t]

/-- The first moment after the run. -/
theorem final_6 (c : Dev nD) : (dats m 0 c).arrAt 6 (cfgs 0).N
    = Cert.Reference10Ideal.Value.refM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [blk_1, blk_2]
  idx_vars y
  refine (pure2 (m ((c : Thread nD τ).loc main_arg0)) (m ((c : Thread nD τ).loc main_arg1)) (m ((c : Thread nD τ).loc main_arg2)) (m ((c : Thread nD τ).loc main_arg3)) (row t) _ _ _).trans ?_
  generalize Cert.Reference10Ideal.Value.refM _ _ _ _ = G
  blk_point [row, idx t]

/-- The second moment after the run. -/
theorem final_7 (c : Dev nD) : (dats m 0 c).arrAt 7 (cfgs 0).N
    = Cert.Reference10Ideal.Value.refV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [blk_1, blk_3]
  idx_vars y
  refine (pure3 (m ((c : Thread nD τ).loc main_arg0)) (m ((c : Thread nD τ).loc main_arg1)) (m ((c : Thread nD τ).loc main_arg2)) (m ((c : Thread nD τ).loc main_arg3)) (row t) _ _ _).trans ?_
  generalize Cert.Reference10Ideal.Value.refV _ _ _ _ = G
  blk_point [row, idx t]

end Cert.Kernel10Ideal.Value

namespace Cert.Ad10Claims

/-- The reference ends with its arguments unchanged and every counter at zero. -/
theorem frame_reference : Cert.quiescent_Reference10Ideal := fun m ρ _ =>
  (θ_run Cert.Reference10Ideal.defs _ _).mono
    (fun r h => ⟨fun c => (h c).2.2.2.2, sem_eq_zero_of_no_sems (by decide) r.2⟩) (Cert.Reference10Ideal.Value.run_ref m ρ)

/-- The two constants named in the kernel over the reals are the reciprocals of the reference's divisors. -/
theorem preserves : Cert.preserves_Kernel10_Kernel10Ideal :=
  ⟨IdealRules.named_const.statement Cert.Kernel10Ideal.κ "c1" .f32 0x3FC48605#32 ((8388608 / 5463681 : ℝ) : EReal) rfl,
    IdealRules.named_const.statement Cert.Kernel10Ideal.κ "c2" .f32 0x42C8E6D3#32 ((268435456 / 2672307 : ℝ) : EReal) rfl⟩

/-- The kernel over the reals and the reference end with equal results. -/
theorem algebraic : Cert.algebraic_Kernel10Ideal_Reference10Ideal := by
  intro m ρ m' ρ' _ hagree
  refine ⟨_, _, _, _, Cert.Kernel10Ideal.Value.run_blocks m ρ, ?_⟩
  refine (θ_run Cert.Reference10Ideal.defs _ _).mono
    (fun r h c => ⟨(h c).1.trans ?_, (h c).2.1.trans ?_, (h c).2.2.1.trans ?_, (h c).2.2.2.1.trans ?_, (h c).2.2.2.2⟩)
    (Cert.Reference10Ideal.Value.run_ref m' ρ')
  all_goals
    obtain ⟨h0, h1, h2, h3⟩ := hagree c
    rw [h0, h1, h2, h3]
  · exact (Cert.Kernel10Ideal.Value.final_4 m c).symm
  · exact (Cert.Kernel10Ideal.Value.final_5 m c).symm
  · exact (Cert.Kernel10Ideal.Value.final_6 m c).symm
  · exact (Cert.Kernel10Ideal.Value.final_7 m c).symm

end Cert.Ad10Claims

end
-- ==== Proof.Ad11.lean ====
/- Hand-written: one step of the optimiser on the input projection, as a function of the argument arrays. -/
module

public import proofs.«01_k».proof.Defs
public import proofs.«01_k».proof.Proof.Gen.Kernel11Ideal.Value
public import proofs.«01_k».proof.Proof.Gen.Reference11Ideal.Run
public import proofs.«01_k».proof.Proof.AdamConsts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference11Ideal.Value

open Cert.Reference11Ideal Cert.Reference11Ideal.Gen Idealize.ShloMosaic.StableHlo

/-- The reference's gradient as a function of its arguments. -/
def refG (a0 : FVec Ideal S1x2312x1024 .f32) (a1 : FVec Ideal S1x2312x1024 .f32) (a2 a3 : FVec Ideal S1x2312x1024 .f32) : FVec Ideal S1x2312x1024 .f32 :=
  a1

/-- The reference's step as a function of its arguments. -/
def refD (a0 : FVec Ideal S1x2312x1024 .f32) (a1 : FVec Ideal S1x2312x1024 .f32) (a2 a3 : FVec Ideal S1x2312x1024 .f32) : FVec Ideal S1x2312x1024 .f32 :=
  mulf (broadcastInDim S1x2312x1024 ![] bcast_S_S1x2312x1024 (constant S_ .f32 0xBA83126F#32)) (addf (Host.divf (Host.divf (addf (mulf (broadcastInDim S1x2312x1024 ![] bcast_S_S1x2312x1024 (constant S_ .f32 0x3F666666#32)) a2) (mulf (broadcastInDim S1x2312x1024 ![] bcast_S_S1x2312x1024 (constant S_ .f32 0x3DCCCCCD#32)) a1)) (broadcastInDim S1x2312x1024 ![] bcast_S_S1x2312x1024 (constant S_ .f32 0x3F26BD02#32))) (addf (Host.sqrt (Host.divf (addf (mulf (broadcastInDim S1x2312x1024 ![] bcast_S_S1x2312x1024 (constant S_ .f32 0x3F7FBE77#32)) a3) (mulf (broadcastInDim S1x2312x1024 ![] bcast_S_S1x2312x1024 (constant S_ .f32 0x3A83126F#32)) (mulf a1 a1))) (broadcastInDim S1x2312x1024 ![] bcast_S_S1x2312x1024 (constant S_ .f32 0x3C231ACC#32)))) (broadcastInDim S1x2312x1024 ![] bcast_S_S1x2312x1024 (constant S_ .f32 0x322BCC77#32)))) (mulf (broadcastInDim S1x2312x1024 ![] bcast_S_S1x2312x1024 (constant S_ .f32 0x3C23D70A#32)) a0))

/-- The reference's first moment as a function of its arguments. -/
def refM (a0 : FVec Ideal S1x2312x1024 .f32) (a1 : FVec Ideal S1x2312x1024 .f32) (a2 a3 : FVec Ideal S1x2312x1024 .f32) : FVec Ideal S1x2312x1024 .f32 :=
  addf (mulf (broadcastInDim S1x2312x1024 ![] bcast_S_S1x2312x1024 (constant S_ .f32 0x3F666666#32)) a2) (mulf (broadcastInDim S1x2312x1024 ![] bcast_S_S1x2312x1024 (constant S_ .f32 0x3DCCCCCD#32)) a1)

/-- The reference's second moment as a function of its arguments. -/
def refV (a0 : FVec Ideal S1x2312x1024 .f32) (a1 : FVec Ideal S1x2312x1024 .f32) (a2 a3 : FVec Ideal S1x2312x1024 .f32) : FVec Ideal S1x2312x1024 .f32 :=
  addf (mulf (broadcastInDim S1x2312x1024 ![] bcast_S_S1x2312x1024 (constant S_ .f32 0x3F7FBE77#32)) a3) (mulf (broadcastInDim S1x2312x1024 ![] bcast_S_S1x2312x1024 (constant S_ .f32 0x3A83126F#32)) (mulf a1 a1))

/-- The run of the reference, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = refM (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = refV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference11Ideal.Value

namespace Cert.Kernel11Ideal.Value

open Cert.Kernel11Ideal Cert.Kernel11Ideal.Gen

/-- The block `j` of 136 rows. -/
def tile (j : Fin 17) (a : FVec Ideal S1x2312x1024 .f32) : FVec Ideal S1x136x1024 .f32 :=
  fun y => a (ix3 (y 0) ⟨j.val * 136 + (y 1).val, by have := j.isLt; have h : (y 1).val < 136 := (y 1).isLt; omega⟩ (y 2))

/-- The constants named as the exact reciprocals. -/
theorem named_c1 : Named.named (F := Ideal) κ "c1" (φ := .f32) 0x3FC48605#32 = ((8388608 / 5463681 : ℝ) : EReal) :=
  IdealRules.named_const.ideal_named_scalar _ _ _ _ rfl

/-- The constants named as the exact reciprocals. -/
theorem named_c2 : Named.named (F := Ideal) κ "c2" (φ := .f32) 0x42C8E6D3#32 = ((268435456 / 2672307 : ℝ) : EReal) :=
  IdealRules.named_const.ideal_named_scalar _ _ _ _ rfl

/-- The gradient of a block of rows is the reference's at those rows. -/
theorem pure0 (a0 : FVec Ideal S1x2312x1024 .f32) (a1 : FVec Ideal S1x2312x1024 .f32) (a2 a3 : FVec Ideal S1x2312x1024 .f32) (j : Fin 17) (q : Fin 1) (r : Fin 136) (s : Fin 1024) :
    (k0_pay8 (F := Ideal) (tile j a1)) (ix3 q r s)
      = Cert.Reference11Ideal.Value.refG a0 a1 a2 a3 (ix3 q ⟨j.val * 136 + r.val, by omega⟩ s) := by
  obtain rfl : q = 0 := Subsingleton.elim _ _
  pointwise [k0_pay1, k0_pay2, k0_pay3, k0_pay4, k0_pay5, k0_pay6, k0_pay7, k0_pay8, tile, Cert.Reference11Ideal.Value.refG]

/-- The step of a block of rows is the reference's at those rows. -/
theorem pure1 (a0 : FVec Ideal S1x2312x1024 .f32) (a1 : FVec Ideal S1x2312x1024 .f32) (a2 a3 : FVec Ideal S1x2312x1024 .f32) (j : Fin 17) (q : Fin 1) (r : Fin 136) (s : Fin 1024) :
    (k0_pay1 (F := Ideal) (k0_pay7 (F := Ideal) (tile j a1) (tile j a2) (tile j a3) (tile j a0))) (ix3 q r s)
      = Cert.Reference11Ideal.Value.refD a0 a1 a2 a3 (ix3 q ⟨j.val * 136 + r.val, by omega⟩ s) := by
  obtain rfl : q = 0 := Subsingleton.elim _ _
  pointwise [k0_pay1, k0_pay2, k0_pay3, k0_pay4, k0_pay5, k0_pay6, k0_pay7, k0_pay8, tile, Cert.Reference11Ideal.Value.refD]
  rw [named_c1, named_c2, AdamConsts.div_d1, AdamConsts.div_d2]

/-- The first moment of a block of rows is the reference's at those rows. -/
theorem pure2 (a0 : FVec Ideal S1x2312x1024 .f32) (a1 : FVec Ideal S1x2312x1024 .f32) (a2 a3 : FVec Ideal S1x2312x1024 .f32) (j : Fin 17) (q : Fin 1) (r : Fin 136) (s : Fin 1024) :
    (k0_pay2 (F := Ideal) (k0_pay5 (F := Ideal) (tile j a1) (tile j a2))) (ix3 q r s)
      = Cert.Reference11Ideal.Value.refM a0 a1 a2 a3 (ix3 q ⟨j.val * 136 + r.val, by omega⟩ s) := by
  obtain rfl : q = 0 := Subsingleton.elim _ _
  pointwise [k0_pay1, k0_pay2, k0_pay3, k0_pay4, k0_pay5, k0_pay6, k0_pay7, k0_pay8, tile, Cert.Reference11Ideal.Value.refM]

/-- The second moment of a block of rows is the reference's at those rows. -/
theorem pure3 (a0 : FVec Ideal S1x2312x1024 .f32) (a1 : FVec Ideal S1x2312x1024 .f32) (a2 a3 : FVec Ideal S1x2312x1024 .f32) (j : Fin 17) (q : Fin 1) (r : Fin 136) (s : Fin 1024) :
    (k0_pay3 (F := Ideal) (k0_pay6 (F := Ideal) (tile j a1) (tile j a3))) (ix3 q r s)
      = Cert.Reference11Ideal.Value.refV a0 a1 a2 a3 (ix3 q ⟨j.val * 136 + r.val, by omega⟩ s) := by
  obtain rfl : q = 0 := Subsingleton.elim _ _
  pointwise [k0_pay1, k0_pay2, k0_pay3, k0_pay4, k0_pay5, k0_pay6, k0_pay7, k0_pay8, tile, Cert.Reference11Ideal.Value.refV]

variable (m : (ℓ : Loc nD τ sig) → Buf (Elt Ideal) ℓ)

/-- The index maps of the windows, decided at every grid point. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The number of the block of rows at a point. -/
def row (t : Fin cfg0.N) : Fin 17 := ⟨t.val, lt_of_lt_of_eq t.isLt N_0⟩

/-- The block of argument 0 at a point. -/
theorem blk_0 (c : Dev nD) (t : Fin cfg0.N) : iblk m c 0 t = tile (row t) (m ((c : Thread nD τ).loc main_arg0)) := by
  funext y; blk_point [iblk, V, tile, row, idx t]

/-- The block of argument 1 at a point. -/
theorem blk_1 (c : Dev nD) (t : Fin cfg0.N) : iblk m c 1 t = tile (row t) (m ((c : Thread nD τ).loc main_arg1)) := by
  funext y; blk_point [iblk, V, tile, row, idx t]

/-- The block of argument 2 at a point. -/
theorem blk_2 (c : Dev nD) (t : Fin cfg0.N) : iblk m c 2 t = tile (row t) (m ((c : Thread nD τ).loc main_arg2)) := by
  funext y; blk_point [iblk, V, tile, row, idx t]

/-- The block of argument 3 at a point. -/
theorem blk_3 (c : Dev nD) (t : Fin cfg0.N) : iblk m c 3 t = tile (row t) (m ((c : Thread nD τ).loc main_arg3)) := by
  funext y; blk_point [iblk, V, tile, row, idx t]

/-- The gradient after the run. -/
theorem final_4 (c : Dev nD) : (dats m 0 c).arrAt 4 (cfgs 0).N
    = Cert.Reference11Ideal.Value.refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_1]
  idx_vars y
  refine (pure0 (m ((c : Thread nD τ).loc main_arg0)) (m ((c : Thread nD τ).loc main_arg1)) (m ((c : Thread nD τ).loc main_arg2)) (m ((c : Thread nD τ).loc main_arg3)) (row t) _ _ _).trans ?_
  generalize Cert.Reference11Ideal.Value.refG _ _ _ _ = G
  blk_point [row, idx t]

/-- The step after the run. -/
theorem final_5 (c : Dev nD) : (dats m 0 c).arrAt 5 (cfgs 0).N
    = Cert.Reference11Ideal.Value.refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blk_1, blk_2, blk_3, blk_0]
  idx_vars y
  refine (pure1 (m ((c : Thread nD τ).loc main_arg0)) (m ((c : Thread nD τ).loc main_arg1)) (m ((c : Thread nD τ).loc main_arg2)) (m ((c : Thread nD τ).loc main_arg3)) (row t) _ _ _).trans ?_
  generalize Cert.Reference11Ideal.Value.refD _ _ _ _ = G
  blk_point [row, idx t]

/-- The first moment after the run. -/
theorem final_6 (c : Dev nD) : (dats m 0 c).arrAt 6 (cfgs 0).N
    = Cert.Reference11Ideal.Value.refM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [blk_1, blk_2]
  idx_vars y
  refine (pure2 (m ((c : Thread nD τ).loc main_arg0)) (m ((c : Thread nD τ).loc main_arg1)) (m ((c : Thread nD τ).loc main_arg2)) (m ((c : Thread nD τ).loc main_arg3)) (row t) _ _ _).trans ?_
  generalize Cert.Reference11Ideal.Value.refM _ _ _ _ = G
  blk_point [row, idx t]

/-- The second moment after the run. -/
theorem final_7 (c : Dev nD) : (dats m 0 c).arrAt 7 (cfgs 0).N
    = Cert.Reference11Ideal.Value.refV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [blk_1, blk_3]
  idx_vars y
  refine (pure3 (m ((c : Thread nD τ).loc main_arg0)) (m ((c : Thread nD τ).loc main_arg1)) (m ((c : Thread nD τ).loc main_arg2)) (m ((c : Thread nD τ).loc main_arg3)) (row t) _ _ _).trans ?_
  generalize Cert.Reference11Ideal.Value.refV _ _ _ _ = G
  blk_point [row, idx t]

end Cert.Kernel11Ideal.Value

namespace Cert.Ad11Claims

/-- The reference ends with its arguments unchanged and every counter at zero. -/
theorem frame_reference : Cert.quiescent_Reference11Ideal := fun m ρ _ =>
  (θ_run Cert.Reference11Ideal.defs _ _).mono
    (fun r h => ⟨fun c => (h c).2.2.2.2, sem_eq_zero_of_no_sems (by decide) r.2⟩) (Cert.Reference11Ideal.Value.run_ref m ρ)

/-- The two constants named in the kernel over the reals are the reciprocals of the reference's divisors. -/
theorem preserves : Cert.preserves_Kernel11_Kernel11Ideal :=
  ⟨IdealRules.named_const.statement Cert.Kernel11Ideal.κ "c1" .f32 0x3FC48605#32 ((8388608 / 5463681 : ℝ) : EReal) rfl,
    IdealRules.named_const.statement Cert.Kernel11Ideal.κ "c2" .f32 0x42C8E6D3#32 ((268435456 / 2672307 : ℝ) : EReal) rfl⟩

/-- The kernel over the reals and the reference end with equal results. -/
theorem algebraic : Cert.algebraic_Kernel11Ideal_Reference11Ideal := by
  intro m ρ m' ρ' _ hagree
  refine ⟨_, _, _, _, Cert.Kernel11Ideal.Value.run_blocks m ρ, ?_⟩
  refine (θ_run Cert.Reference11Ideal.defs _ _).mono
    (fun r h c => ⟨(h c).1.trans ?_, (h c).2.1.trans ?_, (h c).2.2.1.trans ?_, (h c).2.2.2.1.trans ?_, (h c).2.2.2.2⟩)
    (Cert.Reference11Ideal.Value.run_ref m' ρ')
  all_goals
    obtain ⟨h0, h1, h2, h3⟩ := hagree c
    rw [h0, h1, h2, h3]
  · exact (Cert.Kernel11Ideal.Value.final_4 m c).symm
  · exact (Cert.Kernel11Ideal.Value.final_5 m c).symm
  · exact (Cert.Kernel11Ideal.Value.final_6 m c).symm
  · exact (Cert.Kernel11Ideal.Value.final_7 m c).symm

end Cert.Ad11Claims

end
-- ==== Proof.Ad12.lean ====
/- Hand-written: one step of the optimiser on the modulation, as a function of the argument arrays. -/
module

public import proofs.«01_k».proof.Defs
public import proofs.«01_k».proof.Proof.Gen.Kernel12Ideal.Value
public import proofs.«01_k».proof.Proof.Gen.Reference12Ideal.Run
public import proofs.«01_k».proof.Proof.AdamConsts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference12Ideal.Value

open Cert.Reference12Ideal Cert.Reference12Ideal.Gen Idealize.ShloMosaic.StableHlo

/-- The reference's gradient as a function of its arguments. -/
def refG (a0 : FVec Ideal S1024x768 .f32) (a1 : FVec Ideal S1024x768 .f32) (a2 a3 : FVec Ideal S1024x768 .f32) : FVec Ideal S1024x768 .f32 :=
  a1

/-- The reference's step as a function of its arguments. -/
def refD (a0 : FVec Ideal S1024x768 .f32) (a1 : FVec Ideal S1024x768 .f32) (a2 a3 : FVec Ideal S1024x768 .f32) : FVec Ideal S1024x768 .f32 :=
  mulf (broadcastInDim S1024x768 ![] bcast_S_S1024x768 (constant S_ .f32 0xBA83126F#32)) (addf (Host.divf (Host.divf (addf (mulf (broadcastInDim S1024x768 ![] bcast_S_S1024x768 (constant S_ .f32 0x3F666666#32)) a2) (mulf (broadcastInDim S1024x768 ![] bcast_S_S1024x768 (constant S_ .f32 0x3DCCCCCD#32)) a1)) (broadcastInDim S1024x768 ![] bcast_S_S1024x768 (constant S_ .f32 0x3F26BD02#32))) (addf (Host.sqrt (Host.divf (addf (mulf (broadcastInDim S1024x768 ![] bcast_S_S1024x768 (constant S_ .f32 0x3F7FBE77#32)) a3) (mulf (broadcastInDim S1024x768 ![] bcast_S_S1024x768 (constant S_ .f32 0x3A83126F#32)) (mulf a1 a1))) (broadcastInDim S1024x768 ![] bcast_S_S1024x768 (constant S_ .f32 0x3C231ACC#32)))) (broadcastInDim S1024x768 ![] bcast_S_S1024x768 (constant S_ .f32 0x322BCC77#32)))) (mulf (broadcastInDim S1024x768 ![] bcast_S_S1024x768 (constant S_ .f32 0x3C23D70A#32)) a0))

/-- The reference's first moment as a function of its arguments. -/
def refM (a0 : FVec Ideal S1024x768 .f32) (a1 : FVec Ideal S1024x768 .f32) (a2 a3 : FVec Ideal S1024x768 .f32) : FVec Ideal S1024x768 .f32 :=
  addf (mulf (broadcastInDim S1024x768 ![] bcast_S_S1024x768 (constant S_ .f32 0x3F666666#32)) a2) (mulf (broadcastInDim S1024x768 ![] bcast_S_S1024x768 (constant S_ .f32 0x3DCCCCCD#32)) a1)

/-- The reference's second moment as a function of its arguments. -/
def refV (a0 : FVec Ideal S1024x768 .f32) (a1 : FVec Ideal S1024x768 .f32) (a2 a3 : FVec Ideal S1024x768 .f32) : FVec Ideal S1024x768 .f32 :=
  addf (mulf (broadcastInDim S1024x768 ![] bcast_S_S1024x768 (constant S_ .f32 0x3F7FBE77#32)) a3) (mulf (broadcastInDim S1024x768 ![] bcast_S_S1024x768 (constant S_ .f32 0x3A83126F#32)) (mulf a1 a1))

/-- The run of the reference, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = refM (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = refV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference12Ideal.Value

namespace Cert.Kernel12Ideal.Value

open Cert.Kernel12Ideal Cert.Kernel12Ideal.Gen

/-- The block `j` of 256 rows. -/
def tile (j : Fin 4) (a : FVec Ideal S1024x768 .f32) : FVec Ideal S256x768 .f32 :=
  fun y => a (ix2 ⟨j.val * 256 + (y 0).val, by have := j.isLt; have h : (y 0).val < 256 := (y 0).isLt; omega⟩ (y 1))

/-- The constants named as the exact reciprocals. -/
theorem named_c1 : Named.named (F := Ideal) κ "c1" (φ := .f32) 0x3FC48605#32 = ((8388608 / 5463681 : ℝ) : EReal) :=
  IdealRules.named_const.ideal_named_scalar _ _ _ _ rfl

/-- The constants named as the exact reciprocals. -/
theorem named_c2 : Named.named (F := Ideal) κ "c2" (φ := .f32) 0x42C8E6D3#32 = ((268435456 / 2672307 : ℝ) : EReal) :=
  IdealRules.named_const.ideal_named_scalar _ _ _ _ rfl

/-- The gradient of a block of rows is the reference's at those rows. -/
theorem pure0 (a0 : FVec Ideal S1024x768 .f32) (a1 : FVec Ideal S1024x768 .f32) (a2 a3 : FVec Ideal S1024x768 .f32) (j : Fin 4) (r : Fin 256) (s : Fin 768) :
    ((tile j a1)) (ix2 r s)
      = Cert.Reference12Ideal.Value.refG a0 a1 a2 a3 (ix2 ⟨j.val * 256 + r.val, by omega⟩ s) := by
  pointwise [k0_pay1, k0_pay2, k0_pay3, tile, Cert.Reference12Ideal.Value.refG]

/-- The step of a block of rows is the reference's at those rows. -/
theorem pure1 (a0 : FVec Ideal S1024x768 .f32) (a1 : FVec Ideal S1024x768 .f32) (a2 a3 : FVec Ideal S1024x768 .f32) (j : Fin 4) (r : Fin 256) (s : Fin 768) :
    (k0_pay3 (F := Ideal) (tile j a1) (tile j a2) (tile j a3) (tile j a0)) (ix2 r s)
      = Cert.Reference12Ideal.Value.refD a0 a1 a2 a3 (ix2 ⟨j.val * 256 + r.val, by omega⟩ s) := by
  pointwise [k0_pay1, k0_pay2, k0_pay3, tile, Cert.Reference12Ideal.Value.refD]
  rw [named_c1, named_c2, AdamConsts.div_d1, AdamConsts.div_d2]

/-- The first moment of a block of rows is the reference's at those rows. -/
theorem pure2 (a0 : FVec Ideal S1024x768 .f32) (a1 : FVec Ideal S1024x768 .f32) (a2 a3 : FVec Ideal S1024x768 .f32) (j : Fin 4) (r : Fin 256) (s : Fin 768) :
    (k0_pay1 (F := Ideal) (tile j a1) (tile j a2)) (ix2 r s)
      = Cert.Reference12Ideal.Value.refM a0 a1 a2 a3 (ix2 ⟨j.val * 256 + r.val, by omega⟩ s) := by
  pointwise [k0_pay1, k0_pay2, k0_pay3, tile, Cert.Reference12Ideal.Value.refM]

/-- The second moment of a block of rows is the reference's at those rows. -/
theorem pure3 (a0 : FVec Ideal S1024x768 .f32) (a1 : FVec Ideal S1024x768 .f32) (a2 a3 : FVec Ideal S1024x768 .f32) (j : Fin 4) (r : Fin 256) (s : Fin 768) :
    (k0_pay2 (F := Ideal) (tile j a1) (tile j a3)) (ix2 r s)
      = Cert.Reference12Ideal.Value.refV a0 a1 a2 a3 (ix2 ⟨j.val * 256 + r.val, by omega⟩ s) := by
  pointwise [k0_pay1, k0_pay2, k0_pay3, tile, Cert.Reference12Ideal.Value.refV]

variable (m : (ℓ : Loc nD τ sig) → Buf (Elt Ideal) ℓ)

/-- The index maps of the windows, decided at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The number of the block of rows at a point. -/
def row (t : Fin cfg0.N) : Fin 4 := ⟨t.val, lt_of_lt_of_eq t.isLt N_0⟩

/-- The block of argument 0 at a point. -/
theorem blk_0 (c : Dev nD) (t : Fin cfg0.N) : iblk m c 0 t = tile (row t) (m ((c : Thread nD τ).loc main_arg0)) := by
  funext y; blk_point [iblk, V, tile, row, idx t]

/-- The block of argument 1 at a point. -/
theorem blk_1 (c : Dev nD) (t : Fin cfg0.N) : iblk m c 1 t = tile (row t) (m ((c : Thread nD τ).loc main_arg1)) := by
  funext y; blk_point [iblk, V, tile, row, idx t]

/-- The block of argument 2 at a point. -/
theorem blk_2 (c : Dev nD) (t : Fin cfg0.N) : iblk m c 2 t = tile (row t) (m ((c : Thread nD τ).loc main_arg2)) := by
  funext y; blk_point [iblk, V, tile, row, idx t]

/-- The block of argument 3 at a point. -/
theorem blk_3 (c : Dev nD) (t : Fin cfg0.N) : iblk m c 3 t = tile (row t) (m ((c : Thread nD τ).loc main_arg3)) := by
  funext y; blk_point [iblk, V, tile, row, idx t]

/-- The gradient after the run. -/
theorem final_4 (c : Dev nD) : (dats m 0 c).arrAt 4 (cfgs 0).N
    = Cert.Reference12Ideal.Value.refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_1]
  idx_vars y
  refine (pure0 (m ((c : Thread nD τ).loc main_arg0)) (m ((c : Thread nD τ).loc main_arg1)) (m ((c : Thread nD τ).loc main_arg2)) (m ((c : Thread nD τ).loc main_arg3)) (row t) _ _).trans ?_
  generalize Cert.Reference12Ideal.Value.refG _ _ _ _ = G
  blk_point [row, idx t]

/-- The step after the run. -/
theorem final_5 (c : Dev nD) : (dats m 0 c).arrAt 5 (cfgs 0).N
    = Cert.Reference12Ideal.Value.refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blk_1, blk_2, blk_3, blk_0]
  idx_vars y
  refine (pure1 (m ((c : Thread nD τ).loc main_arg0)) (m ((c : Thread nD τ).loc main_arg1)) (m ((c : Thread nD τ).loc main_arg2)) (m ((c : Thread nD τ).loc main_arg3)) (row t) _ _).trans ?_
  generalize Cert.Reference12Ideal.Value.refD _ _ _ _ = G
  blk_point [row, idx t]

/-- The first moment after the run. -/
theorem final_6 (c : Dev nD) : (dats m 0 c).arrAt 6 (cfgs 0).N
    = Cert.Reference12Ideal.Value.refM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [blk_1, blk_2]
  idx_vars y
  refine (pure2 (m ((c : Thread nD τ).loc main_arg0)) (m ((c : Thread nD τ).loc main_arg1)) (m ((c : Thread nD τ).loc main_arg2)) (m ((c : Thread nD τ).loc main_arg3)) (row t) _ _).trans ?_
  generalize Cert.Reference12Ideal.Value.refM _ _ _ _ = G
  blk_point [row, idx t]

/-- The second moment after the run. -/
theorem final_7 (c : Dev nD) : (dats m 0 c).arrAt 7 (cfgs 0).N
    = Cert.Reference12Ideal.Value.refV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [blk_1, blk_3]
  idx_vars y
  refine (pure3 (m ((c : Thread nD τ).loc main_arg0)) (m ((c : Thread nD τ).loc main_arg1)) (m ((c : Thread nD τ).loc main_arg2)) (m ((c : Thread nD τ).loc main_arg3)) (row t) _ _).trans ?_
  generalize Cert.Reference12Ideal.Value.refV _ _ _ _ = G
  blk_point [row, idx t]

end Cert.Kernel12Ideal.Value

namespace Cert.Ad12Claims

/-- The reference ends with its arguments unchanged and every counter at zero. -/
theorem frame_reference : Cert.quiescent_Reference12Ideal := fun m ρ _ =>
  (θ_run Cert.Reference12Ideal.defs _ _).mono
    (fun r h => ⟨fun c => (h c).2.2.2.2, sem_eq_zero_of_no_sems (by decide) r.2⟩) (Cert.Reference12Ideal.Value.run_ref m ρ)

/-- The two constants named in the kernel over the reals are the reciprocals of the reference's divisors. -/
theorem preserves : Cert.preserves_Kernel12_Kernel12Ideal :=
  ⟨IdealRules.named_const.statement Cert.Kernel12Ideal.κ "c1" .f32 0x3FC48605#32 ((8388608 / 5463681 : ℝ) : EReal) rfl,
    IdealRules.named_const.statement Cert.Kernel12Ideal.κ "c2" .f32 0x42C8E6D3#32 ((268435456 / 2672307 : ℝ) : EReal) rfl⟩

/-- The kernel over the reals and the reference end with equal results. -/
theorem algebraic : Cert.algebraic_Kernel12Ideal_Reference12Ideal := by
  intro m ρ m' ρ' _ hagree
  refine ⟨_, _, _, _, Cert.Kernel12Ideal.Value.run_blocks m ρ, ?_⟩
  refine (θ_run Cert.Reference12Ideal.defs _ _).mono
    (fun r h c => ⟨(h c).1.trans ?_, (h c).2.1.trans ?_, (h c).2.2.1.trans ?_, (h c).2.2.2.1.trans ?_, (h c).2.2.2.2⟩)
    (Cert.Reference12Ideal.Value.run_ref m' ρ')
  all_goals
    obtain ⟨h0, h1, h2, h3⟩ := hagree c
    rw [h0, h1, h2, h3]
  · exact (Cert.Kernel12Ideal.Value.final_4 m c).symm
  · exact (Cert.Kernel12Ideal.Value.final_5 m c).symm
  · exact (Cert.Kernel12Ideal.Value.final_6 m c).symm
  · exact (Cert.Kernel12Ideal.Value.final_7 m c).symm

end Cert.Ad12Claims

end
-- ==== Proof.Ad13.lean ====
/- Hand-written: one step of the optimiser on the spatial weights, as a function of the argument arrays. -/
module

public import proofs.«01_k».proof.Defs
public import proofs.«01_k».proof.Proof.Gen.Kernel13Ideal.Value
public import proofs.«01_k».proof.Proof.Gen.Reference13Ideal.Run
public import proofs.«01_k».proof.Proof.AdamConsts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference13Ideal.Value

open Cert.Reference13Ideal Cert.Reference13Ideal.Gen Idealize.ShloMosaic.StableHlo

/-- The reference's gradient as a function of its arguments. -/
def refG (a0 : FVec Ideal S8x128x128 .f32) (a1 : FVec Ideal S2944x128 .f32) (a2 a3 : FVec Ideal S8x128x128 .f32) : FVec Ideal S1024x128 .f32 :=
  extractStridedSlice S1024x128 ![0, 0] a1 slices_S2944x128_S1024x128_0_0

/-- The reference's step as a function of its arguments. -/
def refD (a0 : FVec Ideal S8x128x128 .f32) (a1 : FVec Ideal S2944x128 .f32) (a2 a3 : FVec Ideal S8x128x128 .f32) : FVec Ideal S1024x128 .f32 :=
  mulf (broadcastInDim S1024x128 ![] bcast_S_S1024x128 (constant S_ .f32 0xBA83126F#32)) (addf (Host.divf (Host.divf (addf (mulf (broadcastInDim S1024x128 ![] bcast_S_S1024x128 (constant S_ .f32 0x3F666666#32)) (shapeCast _ a2 shapeCasts_S8x128x128_S1024x128)) (mulf (broadcastInDim S1024x128 ![] bcast_S_S1024x128 (constant S_ .f32 0x3DCCCCCD#32)) (extractStridedSlice S1024x128 ![0, 0] a1 slices_S2944x128_S1024x128_0_0))) (broadcastInDim S1024x128 ![] bcast_S_S1024x128 (constant S_ .f32 0x3F26BD02#32))) (addf (Host.sqrt (Host.divf (addf (mulf (broadcastInDim S1024x128 ![] bcast_S_S1024x128 (constant S_ .f32 0x3F7FBE77#32)) (shapeCast _ a3 shapeCasts_S8x128x128_S1024x128)) (mulf (broadcastInDim S1024x128 ![] bcast_S_S1024x128 (constant S_ .f32 0x3A83126F#32)) (mulf (extractStridedSlice S1024x128 ![0, 0] a1 slices_S2944x128_S1024x128_0_0) (extractStridedSlice S1024x128 ![0, 0] a1 slices_S2944x128_S1024x128_0_0)))) (broadcastInDim S1024x128 ![] bcast_S_S1024x128 (constant S_ .f32 0x3C231ACC#32)))) (broadcastInDim S1024x128 ![] bcast_S_S1024x128 (constant S_ .f32 0x322BCC77#32)))) (mulf (broadcastInDim S1024x128 ![] bcast_S_S1024x128 (constant S_ .f32 0x3C23D70A#32)) (shapeCast _ a0 shapeCasts_S8x128x128_S1024x128)))

/-- The reference's first moment as a function of its arguments. -/
def refM (a0 : FVec Ideal S8x128x128 .f32) (a1 : FVec Ideal S2944x128 .f32) (a2 a3 : FVec Ideal S8x128x128 .f32) : FVec Ideal S1024x128 .f32 :=
  addf (mulf (broadcastInDim S1024x128 ![] bcast_S_S1024x128 (constant S_ .f32 0x3F666666#32)) (shapeCast _ a2 shapeCasts_S8x128x128_S1024x128)) (mulf (broadcastInDim S1024x128 ![] bcast_S_S1024x128 (constant S_ .f32 0x3DCCCCCD#32)) (extractStridedSlice S1024x128 ![0, 0] a1 slices_S2944x128_S1024x128_0_0))

/-- The reference's second moment as a function of its arguments. -/
def refV (a0 : FVec Ideal S8x128x128 .f32) (a1 : FVec Ideal S2944x128 .f32) (a2 a3 : FVec Ideal S8x128x128 .f32) : FVec Ideal S1024x128 .f32 :=
  addf (mulf (broadcastInDim S1024x128 ![] bcast_S_S1024x128 (constant S_ .f32 0x3F7FBE77#32)) (shapeCast _ a3 shapeCasts_S8x128x128_S1024x128)) (mulf (broadcastInDim S1024x128 ![] bcast_S_S1024x128 (constant S_ .f32 0x3A83126F#32)) (mulf (extractStridedSlice S1024x128 ![0, 0] a1 slices_S2944x128_S1024x128_0_0) (extractStridedSlice S1024x128 ![0, 0] a1 slices_S2944x128_S1024x128_0_0)))

/-- The run of the reference, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v27) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v8) = refM (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v14) = refV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference13Ideal.Value

namespace Cert.Kernel13Ideal.Value

open Cert.Kernel13Ideal Cert.Kernel13Ideal.Gen

/-- The block `j` of 256 rows. -/
def tile (j : Fin 4) (a : FVec Ideal S1024x128 .f32) : FVec Ideal S256x128 .f32 :=
  fun y => a (ix2 ⟨j.val * 256 + (y 0).val, by have := j.isLt; have h : (y 0).val < 256 := (y 0).isLt; omega⟩ (y 1))

/-- The block `j` of the gradient. -/
def tileG (j : Fin 4) (a : FVec Ideal S2944x128 .f32) : FVec Ideal S256x128 .f32 :=
  fun y => a (ix2 ⟨j.val * 256 + (y 0).val, by have := j.isLt; have h : (y 0).val < 256 := (y 0).isLt; omega⟩ (y 1))

/-- The constants named as the exact reciprocals. -/
theorem named_c1 : Named.named (F := Ideal) κ "c1" (φ := .f32) 0x3FC48605#32 = ((8388608 / 5463681 : ℝ) : EReal) :=
  IdealRules.named_const.ideal_named_scalar _ _ _ _ rfl

/-- The constants named as the exact reciprocals. -/
theorem named_c2 : Named.named (F := Ideal) κ "c2" (φ := .f32) 0x42C8E6D3#32 = ((268435456 / 2672307 : ℝ) : EReal) :=
  IdealRules.named_const.ideal_named_scalar _ _ _ _ rfl

/-- The gradient of a block of rows is the reference's at those rows. -/
theorem pure0 (a0 : FVec Ideal S8x128x128 .f32) (a1 : FVec Ideal S2944x128 .f32) (a2 a3 : FVec Ideal S8x128x128 .f32) (j : Fin 4) (r : Fin 256) (s : Fin 128) :
    ((tileG j a1)) (ix2 r s)
      = Cert.Reference13Ideal.Value.refG a0 a1 a2 a3 (ix2 ⟨j.val * 256 + r.val, by omega⟩ s) := by
  pointwise [k0_pay1, k0_pay2, k0_pay3, tileG, tile, Cert.Reference13Ideal.Value.refG]

/-- The step of a block of rows is the reference's at those rows. -/
theorem pure1 (a0 : FVec Ideal S8x128x128 .f32) (a1 : FVec Ideal S2944x128 .f32) (a2 a3 : FVec Ideal S8x128x128 .f32) (j : Fin 4) (r : Fin 256) (s : Fin 128) :
    (k0_pay3 (F := Ideal) (tileG j a1) (tile j (shapeCast S1024x128 a2 shapeCasts_S8x128x128_S1024x128)) (tile j (shapeCast S1024x128 a3 shapeCasts_S8x128x128_S1024x128)) (tile j (shapeCast S1024x128 a0 shapeCasts_S8x128x128_S1024x128))) (ix2 r s)
      = Cert.Reference13Ideal.Value.refD a0 a1 a2 a3 (ix2 ⟨j.val * 256 + r.val, by omega⟩ s) := by
  pointwise [k0_pay1, k0_pay2, k0_pay3, tileG, tile, Cert.Reference13Ideal.Value.refD]
  rw [named_c1, named_c2, AdamConsts.div_d1, AdamConsts.div_d2]

/-- The first moment of a block of rows is the reference's at those rows. -/
theorem pure2 (a0 : FVec Ideal S8x128x128 .f32) (a1 : FVec Ideal S2944x128 .f32) (a2 a3 : FVec Ideal S8x128x128 .f32) (j : Fin 4) (r : Fin 256) (s : Fin 128) :
    (k0_pay1 (F := Ideal) (tileG j a1) (tile j (shapeCast S1024x128 a2 shapeCasts_S8x128x128_S1024x128))) (ix2 r s)
      = Cert.Reference13Ideal.Value.refM a0 a1 a2 a3 (ix2 ⟨j.val * 256 + r.val, by omega⟩ s) := by
  pointwise [k0_pay1, k0_pay2, k0_pay3, tileG, tile, Cert.Reference13Ideal.Value.refM]

/-- The second moment of a block of rows is the reference's at those rows. -/
theorem pure3 (a0 : FVec Ideal S8x128x128 .f32) (a1 : FVec Ideal S2944x128 .f32) (a2 a3 : FVec Ideal S8x128x128 .f32) (j : Fin 4) (r : Fin 256) (s : Fin 128) :
    (k0_pay2 (F := Ideal) (tileG j a1) (tile j (shapeCast S1024x128 a3 shapeCasts_S8x128x128_S1024x128))) (ix2 r s)
      = Cert.Reference13Ideal.Value.refV a0 a1 a2 a3 (ix2 ⟨j.val * 256 + r.val, by omega⟩ s) := by
  pointwise [k0_pay1, k0_pay2, k0_pay3, tileG, tile, Cert.Reference13Ideal.Value.refV]

variable (m : (ℓ : Loc nD τ sig) → Buf (Elt Ideal) ℓ)

/-- The index maps of the windows, decided at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The number of the block of rows at a point. -/
def row (t : Fin cfg0.N) : Fin 4 := ⟨t.val, lt_of_lt_of_eq t.isLt N_0⟩

/-- The block of argument 0 at a point. -/
theorem blk_0 (c : Dev nD) (t : Fin cfg0.N) : iblk m c 0 t = tile (row t) (shapeCast S1024x128 (m ((c : Thread nD τ).loc main_arg0)) shapeCasts_S8x128x128_S1024x128) := by
  funext y; blk_point [iblk, V, tile, row, idx t]

/-- The block of argument 1 at a point. -/
theorem blk_1 (c : Dev nD) (t : Fin cfg0.N) : X0_1 m c t = tileG (row t) (m ((c : Thread nD τ).loc main_arg1)) := by
  funext y; unfold X0_1 Pipeline.Window.fill; rw [dif_pos (moved0_1 t y)]; blk_point [iblk, V, tileG, row, idx t]

/-- The block of argument 2 at a point. -/
theorem blk_2 (c : Dev nD) (t : Fin cfg0.N) : iblk m c 2 t = tile (row t) (shapeCast S1024x128 (m ((c : Thread nD τ).loc main_arg2)) shapeCasts_S8x128x128_S1024x128) := by
  funext y; blk_point [iblk, V, tile, row, idx t]

/-- The block of argument 3 at a point. -/
theorem blk_3 (c : Dev nD) (t : Fin cfg0.N) : iblk m c 3 t = tile (row t) (shapeCast S1024x128 (m ((c : Thread nD τ).loc main_arg3)) shapeCasts_S8x128x128_S1024x128) := by
  funext y; blk_point [iblk, V, tile, row, idx t]

/-- The gradient after the run. -/
theorem final_4 (c : Dev nD) : (dats m 0 c).arrAt 4 (cfgs 0).N
    = Cert.Reference13Ideal.Value.refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  rw [blk_1]
  idx_vars y
  refine (pure0 (m ((c : Thread nD τ).loc main_arg0)) (m ((c : Thread nD τ).loc main_arg1)) (m ((c : Thread nD τ).loc main_arg2)) (m ((c : Thread nD τ).loc main_arg3)) (row t) _ _).trans ?_
  generalize Cert.Reference13Ideal.Value.refG _ _ _ _ = G
  blk_point [row, idx t]

/-- The step after the run. -/
theorem final_5 (c : Dev nD) : (dats m 0 c).arrAt 5 (cfgs 0).N
    = Cert.Reference13Ideal.Value.refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_out
  rw [blk_1, blk_2, blk_3, blk_0]
  idx_vars y
  refine (pure1 (m ((c : Thread nD τ).loc main_arg0)) (m ((c : Thread nD τ).loc main_arg1)) (m ((c : Thread nD τ).loc main_arg2)) (m ((c : Thread nD τ).loc main_arg3)) (row t) _ _).trans ?_
  generalize Cert.Reference13Ideal.Value.refD _ _ _ _ = G
  blk_point [row, idx t]

/-- The first moment after the run. -/
theorem final_6 (c : Dev nD) : (dats m 0 c).arrAt 6 (cfgs 0).N
    = Cert.Reference13Ideal.Value.refM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  frame_out
  rw [blk_1, blk_2]
  idx_vars y
  refine (pure2 (m ((c : Thread nD τ).loc main_arg0)) (m ((c : Thread nD τ).loc main_arg1)) (m ((c : Thread nD τ).loc main_arg2)) (m ((c : Thread nD τ).loc main_arg3)) (row t) _ _).trans ?_
  generalize Cert.Reference13Ideal.Value.refM _ _ _ _ = G
  blk_point [row, idx t]

/-- The second moment after the run. -/
theorem final_7 (c : Dev nD) : (dats m 0 c).arrAt 7 (cfgs 0).N
    = Cert.Reference13Ideal.Value.refV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  unfold outsAt0
  frame_out
  rw [blk_1, blk_3]
  idx_vars y
  refine (pure3 (m ((c : Thread nD τ).loc main_arg0)) (m ((c : Thread nD τ).loc main_arg1)) (m ((c : Thread nD τ).loc main_arg2)) (m ((c : Thread nD τ).loc main_arg3)) (row t) _ _).trans ?_
  generalize Cert.Reference13Ideal.Value.refV _ _ _ _ = G
  blk_point [row, idx t]

end Cert.Kernel13Ideal.Value

namespace Cert.Ad13Claims

/-- The reference ends with its arguments unchanged and every counter at zero. -/
theorem frame_reference : Cert.quiescent_Reference13Ideal := fun m ρ _ =>
  (θ_run Cert.Reference13Ideal.defs _ _).mono
    (fun r h => ⟨fun c => (h c).2.2.2.2, sem_eq_zero_of_no_sems (by decide) r.2⟩) (Cert.Reference13Ideal.Value.run_ref m ρ)

/-- The two constants named in the kernel over the reals are the reciprocals of the reference's divisors. -/
theorem preserves : Cert.preserves_Kernel13_Kernel13Ideal :=
  ⟨IdealRules.named_const.statement Cert.Kernel13Ideal.κ "c1" .f32 0x3FC48605#32 ((8388608 / 5463681 : ℝ) : EReal) rfl,
    IdealRules.named_const.statement Cert.Kernel13Ideal.κ "c2" .f32 0x42C8E6D3#32 ((268435456 / 2672307 : ℝ) : EReal) rfl⟩

/-- The kernel over the reals and the reference end with equal results. -/
theorem algebraic : Cert.algebraic_Kernel13Ideal_Reference13Ideal := by
  intro m ρ m' ρ' _ hagree
  refine ⟨_, _, _, _, Cert.Kernel13Ideal.Value.run_blocks m ρ, ?_⟩
  refine (θ_run Cert.Reference13Ideal.defs _ _).mono
    (fun r h c => ⟨(h c).1.trans ?_, (h c).2.1.trans ?_, (h c).2.2.1.trans ?_, (h c).2.2.2.1.trans ?_, (h c).2.2.2.2⟩)
    (Cert.Reference13Ideal.Value.run_ref m' ρ')
  all_goals
    obtain ⟨h0, h1, h2, h3⟩ := hagree c
    rw [h0, h1, h2, h3]
  · exact (Cert.Kernel13Ideal.Value.final_4 m c).symm
  · exact (Cert.Kernel13Ideal.Value.final_5 m c).symm
  · exact (Cert.Kernel13Ideal.Value.final_6 m c).symm
  · exact (Cert.Kernel13Ideal.Value.final_7 m c).symm

end Cert.Ad13Claims

end
-- ==== Proof.Ad14.lean ====
/- Hand-written: one step of the optimiser on the packed small parameters, as a function of the argument arrays. -/
module

public import proofs.«01_k».proof.Defs
public import proofs.«01_k».proof.Proof.Gen.Kernel14Ideal.Value
public import proofs.«01_k».proof.Proof.Gen.Reference14Ideal.Run
public import proofs.«01_k».proof.Proof.AdamConsts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference14Ideal.Value

open Cert.Reference14Ideal Cert.Reference14Ideal.Gen Idealize.ShloMosaic.StableHlo

/-- The reference's gradient as a function of its arguments. -/
def refG (a0 : FVec Ideal S80x128 .f32) (a1 : FVec Ideal S80x128 .f32) (a2 a3 : FVec Ideal S80x128 .f32) : FVec Ideal S80x128 .f32 :=
  a1

/-- The reference's step as a function of its arguments. -/
def refD (a0 : FVec Ideal S80x128 .f32) (a1 : FVec Ideal S80x128 .f32) (a2 a3 : FVec Ideal S80x128 .f32) : FVec Ideal S80x128 .f32 :=
  mulf (broadcastInDim S80x128 ![] bcast_S_S80x128 (constant S_ .f32 0xBA83126F#32)) (addf (Host.divf (Host.divf (addf (mulf (broadcastInDim S80x128 ![] bcast_S_S80x128 (constant S_ .f32 0x3F666666#32)) a2) (mulf (broadcastInDim S80x128 ![] bcast_S_S80x128 (constant S_ .f32 0x3DCCCCCD#32)) a1)) (broadcastInDim S80x128 ![] bcast_S_S80x128 (constant S_ .f32 0x3F26BD02#32))) (addf (Host.sqrt (Host.divf (addf (mulf (broadcastInDim S80x128 ![] bcast_S_S80x128 (constant S_ .f32 0x3F7FBE77#32)) a3) (mulf (broadcastInDim S80x128 ![] bcast_S_S80x128 (constant S_ .f32 0x3A83126F#32)) (mulf a1 a1))) (broadcastInDim S80x128 ![] bcast_S_S80x128 (constant S_ .f32 0x3C231ACC#32)))) (broadcastInDim S80x128 ![] bcast_S_S80x128 (constant S_ .f32 0x322BCC77#32)))) (mulf (broadcastInDim S80x128 ![] bcast_S_S80x128 (constant S_ .f32 0x3C23D70A#32)) a0))

/-- The reference's first moment as a function of its arguments. -/
def refM (a0 : FVec Ideal S80x128 .f32) (a1 : FVec Ideal S80x128 .f32) (a2 a3 : FVec Ideal S80x128 .f32) : FVec Ideal S80x128 .f32 :=
  addf (mulf (broadcastInDim S80x128 ![] bcast_S_S80x128 (constant S_ .f32 0x3F666666#32)) a2) (mulf (broadcastInDim S80x128 ![] bcast_S_S80x128 (constant S_ .f32 0x3DCCCCCD#32)) a1)

/-- The reference's second moment as a function of its arguments. -/
def refV (a0 : FVec Ideal S80x128 .f32) (a1 : FVec Ideal S80x128 .f32) (a2 a3 : FVec Ideal S80x128 .f32) : FVec Ideal S80x128 .f32 :=
  addf (mulf (broadcastInDim S80x128 ![] bcast_S_S80x128 (constant S_ .f32 0x3F7FBE77#32)) a3) (mulf (broadcastInDim S80x128 ![] bcast_S_S80x128 (constant S_ .f32 0x3A83126F#32)) (mulf a1 a1))

/-- The run of the reference, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = refM (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = refV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference14Ideal.Value

namespace Cert.Kernel14Ideal.Value

open Cert.Kernel14Ideal Cert.Kernel14Ideal.Gen

/-- The block `j` of 80 rows. -/
def tile (j : Fin 1) (a : FVec Ideal S80x128 .f32) : FVec Ideal S80x128 .f32 :=
  fun y => a (ix2 ⟨j.val * 80 + (y 0).val, by have := j.isLt; have h : (y 0).val < 80 := (y 0).isLt; omega⟩ (y 1))

/-- The constants named as the exact reciprocals. -/
theorem named_c1 : Named.named (F := Ideal) κ "c1" (φ := .f32) 0x3FC48605#32 = ((8388608 / 5463681 : ℝ) : EReal) :=
  IdealRules.named_const.ideal_named_scalar _ _ _ _ rfl

/-- The constants named as the exact reciprocals. -/
theorem named_c2 : Named.named (F := Ideal) κ "c2" (φ := .f32) 0x42C8E6D3#32 = ((268435456 / 2672307 : ℝ) : EReal) :=
  IdealRules.named_const.ideal_named_scalar _ _ _ _ rfl

/-- The gradient of a block of rows is the reference's at those rows. -/
theorem pure0 (a0 : FVec Ideal S80x128 .f32) (a1 : FVec Ideal S80x128 .f32) (a2 a3 : FVec Ideal S80x128 .f32) (j : Fin 1) (r : Fin 80) (s : Fin 128) :
    ((tile j a1)) (ix2 r s)
      = Cert.Reference14Ideal.Value.refG a0 a1 a2 a3 (ix2 ⟨j.val * 80 + r.val, by omega⟩ s) := by
  pointwise [k0_pay1, k0_pay2, k0_pay3, tile, Cert.Reference14Ideal.Value.refG]

/-- The step of a block of rows is the reference's at those rows. -/
theorem pure1 (a0 : FVec Ideal S80x128 .f32) (a1 : FVec Ideal S80x128 .f32) (a2 a3 : FVec Ideal S80x128 .f32) (j : Fin 1) (r : Fin 80) (s : Fin 128) :
    (k0_pay3 (F := Ideal) (tile j a1) (tile j a2) (tile j a3) (tile j a0)) (ix2 r s)
      = Cert.Reference14Ideal.Value.refD a0 a1 a2 a3 (ix2 ⟨j.val * 80 + r.val, by omega⟩ s) := by
  pointwise [k0_pay1, k0_pay2, k0_pay3, tile, Cert.Reference14Ideal.Value.refD]
  rw [named_c1, named_c2, AdamConsts.div_d1, AdamConsts.div_d2]

/-- The first moment of a block of rows is the reference's at those rows. -/
theorem pure2 (a0 : FVec Ideal S80x128 .f32) (a1 : FVec Ideal S80x128 .f32) (a2 a3 : FVec Ideal S80x128 .f32) (j : Fin 1) (r : Fin 80) (s : Fin 128) :
    (k0_pay1 (F := Ideal) (tile j a1) (tile j a2)) (ix2 r s)
      = Cert.Reference14Ideal.Value.refM a0 a1 a2 a3 (ix2 ⟨j.val * 80 + r.val, by omega⟩ s) := by
  pointwise [k0_pay1, k0_pay2, k0_pay3, tile, Cert.Reference14Ideal.Value.refM]

/-- The second moment of a block of rows is the reference's at those rows. -/
theorem pure3 (a0 : FVec Ideal S80x128 .f32) (a1 : FVec Ideal S80x128 .f32) (a2 a3 : FVec Ideal S80x128 .f32) (j : Fin 1) (r : Fin 80) (s : Fin 128) :
    (k0_pay2 (F := Ideal) (tile j a1) (tile j a3)) (ix2 r s)
      = Cert.Reference14Ideal.Value.refV a0 a1 a2 a3 (ix2 ⟨j.val * 80 + r.val, by omega⟩ s) := by
  pointwise [k0_pay1, k0_pay2, k0_pay3, tile, Cert.Reference14Ideal.Value.refV]

variable (m : (ℓ : Loc nD τ sig) → Buf (Elt Ideal) ℓ)

/-- The index maps of the windows, decided at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The number of the block of rows at a point. -/
def row (t : Fin cfg0.N) : Fin 1 := ⟨t.val, lt_of_lt_of_eq t.isLt N_0⟩

/-- The block of argument 0 at a point. -/
theorem blk_0 (c : Dev nD) (t : Fin cfg0.N) : iblk m c 0 t = tile (row t) (m ((c : Thread nD τ).loc main_arg0)) := by
  funext y; blk_point [iblk, V, tile, row, idx t]

/-- The block of argument 1 at a point. -/
theorem blk_1 (c : Dev nD) (t : Fin cfg0.N) : iblk m c 1 t = tile (row t) (m ((c : Thread nD τ).loc main_arg1)) := by
  funext y; blk_point [iblk, V, tile, row, idx t]

/-- The block of argument 2 at a point. -/
theorem blk_2 (c : Dev nD) (t : Fin cfg0.N) : iblk m c 2 t = tile (row t) (m ((c : Thread nD τ).loc main_arg2)) := by
  funext y; blk_point [iblk, V, tile, row, idx t]

/-- The block of argument 3 at a point. -/
theorem blk_3 (c : Dev nD) (t : Fin cfg0.N) : iblk m c 3 t = tile (row t) (m ((c : Thread nD τ).loc main_arg3)) := by
  funext y; blk_point [iblk, V, tile, row, idx t]

/-- The gradient after the run. -/
theorem final_4 (c : Dev nD) : (dats m 0 c).arrAt 4 (cfgs 0).N
    = Cert.Reference14Ideal.Value.refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_1]
  idx_vars y
  refine (pure0 (m ((c : Thread nD τ).loc main_arg0)) (m ((c : Thread nD τ).loc main_arg1)) (m ((c : Thread nD τ).loc main_arg2)) (m ((c : Thread nD τ).loc main_arg3)) (row t) _ _).trans ?_
  generalize Cert.Reference14Ideal.Value.refG _ _ _ _ = G
  blk_point [row, idx t]

/-- The step after the run. -/
theorem final_5 (c : Dev nD) : (dats m 0 c).arrAt 5 (cfgs 0).N
    = Cert.Reference14Ideal.Value.refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blk_1, blk_2, blk_3, blk_0]
  idx_vars y
  refine (pure1 (m ((c : Thread nD τ).loc main_arg0)) (m ((c : Thread nD τ).loc main_arg1)) (m ((c : Thread nD τ).loc main_arg2)) (m ((c : Thread nD τ).loc main_arg3)) (row t) _ _).trans ?_
  generalize Cert.Reference14Ideal.Value.refD _ _ _ _ = G
  blk_point [row, idx t]

/-- The first moment after the run. -/
theorem final_6 (c : Dev nD) : (dats m 0 c).arrAt 6 (cfgs 0).N
    = Cert.Reference14Ideal.Value.refM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [blk_1, blk_2]
  idx_vars y
  refine (pure2 (m ((c : Thread nD τ).loc main_arg0)) (m ((c : Thread nD τ).loc main_arg1)) (m ((c : Thread nD τ).loc main_arg2)) (m ((c : Thread nD τ).loc main_arg3)) (row t) _ _).trans ?_
  generalize Cert.Reference14Ideal.Value.refM _ _ _ _ = G
  blk_point [row, idx t]

/-- The second moment after the run. -/
theorem final_7 (c : Dev nD) : (dats m 0 c).arrAt 7 (cfgs 0).N
    = Cert.Reference14Ideal.Value.refV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [blk_1, blk_3]
  idx_vars y
  refine (pure3 (m ((c : Thread nD τ).loc main_arg0)) (m ((c : Thread nD τ).loc main_arg1)) (m ((c : Thread nD τ).loc main_arg2)) (m ((c : Thread nD τ).loc main_arg3)) (row t) _ _).trans ?_
  generalize Cert.Reference14Ideal.Value.refV _ _ _ _ = G
  blk_point [row, idx t]

end Cert.Kernel14Ideal.Value

namespace Cert.Ad14Claims

/-- The reference ends with its arguments unchanged and every counter at zero. -/
theorem frame_reference : Cert.quiescent_Reference14Ideal := fun m ρ _ =>
  (θ_run Cert.Reference14Ideal.defs _ _).mono
    (fun r h => ⟨fun c => (h c).2.2.2.2, sem_eq_zero_of_no_sems (by decide) r.2⟩) (Cert.Reference14Ideal.Value.run_ref m ρ)

/-- The two constants named in the kernel over the reals are the reciprocals of the reference's divisors. -/
theorem preserves : Cert.preserves_Kernel14_Kernel14Ideal :=
  ⟨IdealRules.named_const.statement Cert.Kernel14Ideal.κ "c1" .f32 0x3FC48605#32 ((8388608 / 5463681 : ℝ) : EReal) rfl,
    IdealRules.named_const.statement Cert.Kernel14Ideal.κ "c2" .f32 0x42C8E6D3#32 ((268435456 / 2672307 : ℝ) : EReal) rfl⟩

/-- The kernel over the reals and the reference end with equal results. -/
theorem algebraic : Cert.algebraic_Kernel14Ideal_Reference14Ideal := by
  intro m ρ m' ρ' _ hagree
  refine ⟨_, _, _, _, Cert.Kernel14Ideal.Value.run_blocks m ρ, ?_⟩
  refine (θ_run Cert.Reference14Ideal.defs _ _).mono
    (fun r h c => ⟨(h c).1.trans ?_, (h c).2.1.trans ?_, (h c).2.2.1.trans ?_, (h c).2.2.2.1.trans ?_, (h c).2.2.2.2⟩)
    (Cert.Reference14Ideal.Value.run_ref m' ρ')
  all_goals
    obtain ⟨h0, h1, h2, h3⟩ := hagree c
    rw [h0, h1, h2, h3]
  · exact (Cert.Kernel14Ideal.Value.final_4 m c).symm
  · exact (Cert.Kernel14Ideal.Value.final_5 m c).symm
  · exact (Cert.Kernel14Ideal.Value.final_6 m c).symm
  · exact (Cert.Kernel14Ideal.Value.final_7 m c).symm

end Cert.Ad14Claims

end
-- ==== Proof.Ad15.lean ====
/- Hand-written: one step of the optimiser on the convolution, as a function of the argument arrays. -/
module

public import proofs.«01_k».proof.Defs
public import proofs.«01_k».proof.Proof.Gen.Kernel15Ideal.Value
public import proofs.«01_k».proof.Proof.Gen.Reference15Ideal.Run
public import proofs.«01_k».proof.Proof.AdamConsts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference15Ideal.Value

open Cert.Reference15Ideal Cert.Reference15Ideal.Gen Idealize.ShloMosaic.StableHlo

/-- The reference's gradient as a function of its arguments. -/
def refG (a0 : FVec Ideal S8x768 .f32) (a1 : FVec Ideal S8x768 .f32) (a2 a3 : FVec Ideal S8x768 .f32) : FVec Ideal S8x768 .f32 :=
  a1

/-- The reference's step as a function of its arguments. -/
def refD (a0 : FVec Ideal S8x768 .f32) (a1 : FVec Ideal S8x768 .f32) (a2 a3 : FVec Ideal S8x768 .f32) : FVec Ideal S8x768 .f32 :=
  mulf (broadcastInDim S8x768 ![] bcast_S_S8x768 (constant S_ .f32 0xBA83126F#32)) (addf (Host.divf (Host.divf (addf (mulf (broadcastInDim S8x768 ![] bcast_S_S8x768 (constant S_ .f32 0x3F666666#32)) a2) (mulf (broadcastInDim S8x768 ![] bcast_S_S8x768 (constant S_ .f32 0x3DCCCCCD#32)) a1)) (broadcastInDim S8x768 ![] bcast_S_S8x768 (constant S_ .f32 0x3F26BD02#32))) (addf (Host.sqrt (Host.divf (addf (mulf (broadcastInDim S8x768 ![] bcast_S_S8x768 (constant S_ .f32 0x3F7FBE77#32)) a3) (mulf (broadcastInDim S8x768 ![] bcast_S_S8x768 (constant S_ .f32 0x3A83126F#32)) (mulf a1 a1))) (broadcastInDim S8x768 ![] bcast_S_S8x768 (constant S_ .f32 0x3C231ACC#32)))) (broadcastInDim S8x768 ![] bcast_S_S8x768 (constant S_ .f32 0x322BCC77#32)))) (mulf (broadcastInDim S8x768 ![] bcast_S_S8x768 (constant S_ .f32 0x3C23D70A#32)) a0))

/-- The reference's first moment as a function of its arguments. -/
def refM (a0 : FVec Ideal S8x768 .f32) (a1 : FVec Ideal S8x768 .f32) (a2 a3 : FVec Ideal S8x768 .f32) : FVec Ideal S8x768 .f32 :=
  addf (mulf (broadcastInDim S8x768 ![] bcast_S_S8x768 (constant S_ .f32 0x3F666666#32)) a2) (mulf (broadcastInDim S8x768 ![] bcast_S_S8x768 (constant S_ .f32 0x3DCCCCCD#32)) a1)

/-- The reference's second moment as a function of its arguments. -/
def refV (a0 : FVec Ideal S8x768 .f32) (a1 : FVec Ideal S8x768 .f32) (a2 a3 : FVec Ideal S8x768 .f32) : FVec Ideal S8x768 .f32 :=
  addf (mulf (broadcastInDim S8x768 ![] bcast_S_S8x768 (constant S_ .f32 0x3F7FBE77#32)) a3) (mulf (broadcastInDim S8x768 ![] bcast_S_S8x768 (constant S_ .f32 0x3A83126F#32)) (mulf a1 a1))

/-- The run of the reference, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = refM (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = refV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference15Ideal.Value

namespace Cert.Kernel15Ideal.Value

open Cert.Kernel15Ideal Cert.Kernel15Ideal.Gen

/-- The block `j` of 8 rows. -/
def tile (j : Fin 1) (a : FVec Ideal S8x768 .f32) : FVec Ideal S8x768 .f32 :=
  fun y => a (ix2 ⟨j.val * 8 + (y 0).val, by have := j.isLt; have h : (y 0).val < 8 := (y 0).isLt; omega⟩ (y 1))

/-- The constants named as the exact reciprocals. -/
theorem named_c1 : Named.named (F := Ideal) κ "c1" (φ := .f32) 0x3FC48605#32 = ((8388608 / 5463681 : ℝ) : EReal) :=
  IdealRules.named_const.ideal_named_scalar _ _ _ _ rfl

/-- The constants named as the exact reciprocals. -/
theorem named_c2 : Named.named (F := Ideal) κ "c2" (φ := .f32) 0x42C8E6D3#32 = ((268435456 / 2672307 : ℝ) : EReal) :=
  IdealRules.named_const.ideal_named_scalar _ _ _ _ rfl

/-- The gradient of a block of rows is the reference's at those rows. -/
theorem pure0 (a0 : FVec Ideal S8x768 .f32) (a1 : FVec Ideal S8x768 .f32) (a2 a3 : FVec Ideal S8x768 .f32) (j : Fin 1) (r : Fin 8) (s : Fin 768) :
    ((tile j a1)) (ix2 r s)
      = Cert.Reference15Ideal.Value.refG a0 a1 a2 a3 (ix2 ⟨j.val * 8 + r.val, by omega⟩ s) := by
  pointwise [k0_pay1, k0_pay2, k0_pay3, tile, Cert.Reference15Ideal.Value.refG]

/-- The step of a block of rows is the reference's at those rows. -/
theorem pure1 (a0 : FVec Ideal S8x768 .f32) (a1 : FVec Ideal S8x768 .f32) (a2 a3 : FVec Ideal S8x768 .f32) (j : Fin 1) (r : Fin 8) (s : Fin 768) :
    (k0_pay3 (F := Ideal) (tile j a1) (tile j a2) (tile j a3) (tile j a0)) (ix2 r s)
      = Cert.Reference15Ideal.Value.refD a0 a1 a2 a3 (ix2 ⟨j.val * 8 + r.val, by omega⟩ s) := by
  pointwise [k0_pay1, k0_pay2, k0_pay3, tile, Cert.Reference15Ideal.Value.refD]
  rw [named_c1, named_c2, AdamConsts.div_d1, AdamConsts.div_d2]

/-- The first moment of a block of rows is the reference's at those rows. -/
theorem pure2 (a0 : FVec Ideal S8x768 .f32) (a1 : FVec Ideal S8x768 .f32) (a2 a3 : FVec Ideal S8x768 .f32) (j : Fin 1) (r : Fin 8) (s : Fin 768) :
    (k0_pay1 (F := Ideal) (tile j a1) (tile j a2)) (ix2 r s)
      = Cert.Reference15Ideal.Value.refM a0 a1 a2 a3 (ix2 ⟨j.val * 8 + r.val, by omega⟩ s) := by
  pointwise [k0_pay1, k0_pay2, k0_pay3, tile, Cert.Reference15Ideal.Value.refM]

/-- The second moment of a block of rows is the reference's at those rows. -/
theorem pure3 (a0 : FVec Ideal S8x768 .f32) (a1 : FVec Ideal S8x768 .f32) (a2 a3 : FVec Ideal S8x768 .f32) (j : Fin 1) (r : Fin 8) (s : Fin 768) :
    (k0_pay2 (F := Ideal) (tile j a1) (tile j a3)) (ix2 r s)
      = Cert.Reference15Ideal.Value.refV a0 a1 a2 a3 (ix2 ⟨j.val * 8 + r.val, by omega⟩ s) := by
  pointwise [k0_pay1, k0_pay2, k0_pay3, tile, Cert.Reference15Ideal.Value.refV]

variable (m : (ℓ : Loc nD τ sig) → Buf (Elt Ideal) ℓ)

/-- The index maps of the windows, decided at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The number of the block of rows at a point. -/
def row (t : Fin cfg0.N) : Fin 1 := ⟨t.val, lt_of_lt_of_eq t.isLt N_0⟩

/-- The block of argument 0 at a point. -/
theorem blk_0 (c : Dev nD) (t : Fin cfg0.N) : iblk m c 0 t = tile (row t) (m ((c : Thread nD τ).loc main_arg0)) := by
  funext y; blk_point [iblk, V, tile, row, idx t]

/-- The block of argument 1 at a point. -/
theorem blk_1 (c : Dev nD) (t : Fin cfg0.N) : iblk m c 1 t = tile (row t) (m ((c : Thread nD τ).loc main_arg1)) := by
  funext y; blk_point [iblk, V, tile, row, idx t]

/-- The block of argument 2 at a point. -/
theorem blk_2 (c : Dev nD) (t : Fin cfg0.N) : iblk m c 2 t = tile (row t) (m ((c : Thread nD τ).loc main_arg2)) := by
  funext y; blk_point [iblk, V, tile, row, idx t]

/-- The block of argument 3 at a point. -/
theorem blk_3 (c : Dev nD) (t : Fin cfg0.N) : iblk m c 3 t = tile (row t) (m ((c : Thread nD τ).loc main_arg3)) := by
  funext y; blk_point [iblk, V, tile, row, idx t]

/-- The gradient after the run. -/
theorem final_4 (c : Dev nD) : (dats m 0 c).arrAt 4 (cfgs 0).N
    = Cert.Reference15Ideal.Value.refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_1]
  idx_vars y
  refine (pure0 (m ((c : Thread nD τ).loc main_arg0)) (m ((c : Thread nD τ).loc main_arg1)) (m ((c : Thread nD τ).loc main_arg2)) (m ((c : Thread nD τ).loc main_arg3)) (row t) _ _).trans ?_
  generalize Cert.Reference15Ideal.Value.refG _ _ _ _ = G
  blk_point [row, idx t]

/-- The step after the run. -/
theorem final_5 (c : Dev nD) : (dats m 0 c).arrAt 5 (cfgs 0).N
    = Cert.Reference15Ideal.Value.refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blk_1, blk_2, blk_3, blk_0]
  idx_vars y
  refine (pure1 (m ((c : Thread nD τ).loc main_arg0)) (m ((c : Thread nD τ).loc main_arg1)) (m ((c : Thread nD τ).loc main_arg2)) (m ((c : Thread nD τ).loc main_arg3)) (row t) _ _).trans ?_
  generalize Cert.Reference15Ideal.Value.refD _ _ _ _ = G
  blk_point [row, idx t]

/-- The first moment after the run. -/
theorem final_6 (c : Dev nD) : (dats m 0 c).arrAt 6 (cfgs 0).N
    = Cert.Reference15Ideal.Value.refM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [blk_1, blk_2]
  idx_vars y
  refine (pure2 (m ((c : Thread nD τ).loc main_arg0)) (m ((c : Thread nD τ).loc main_arg1)) (m ((c : Thread nD τ).loc main_arg2)) (m ((c : Thread nD τ).loc main_arg3)) (row t) _ _).trans ?_
  generalize Cert.Reference15Ideal.Value.refM _ _ _ _ = G
  blk_point [row, idx t]

/-- The second moment after the run. -/
theorem final_7 (c : Dev nD) : (dats m 0 c).arrAt 7 (cfgs 0).N
    = Cert.Reference15Ideal.Value.refV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [blk_1, blk_3]
  idx_vars y
  refine (pure3 (m ((c : Thread nD τ).loc main_arg0)) (m ((c : Thread nD τ).loc main_arg1)) (m ((c : Thread nD τ).loc main_arg2)) (m ((c : Thread nD τ).loc main_arg3)) (row t) _ _).trans ?_
  generalize Cert.Reference15Ideal.Value.refV _ _ _ _ = G
  blk_point [row, idx t]

end Cert.Kernel15Ideal.Value

namespace Cert.Ad15Claims

/-- The reference ends with its arguments unchanged and every counter at zero. -/
theorem frame_reference : Cert.quiescent_Reference15Ideal := fun m ρ _ =>
  (θ_run Cert.Reference15Ideal.defs _ _).mono
    (fun r h => ⟨fun c => (h c).2.2.2.2, sem_eq_zero_of_no_sems (by decide) r.2⟩) (Cert.Reference15Ideal.Value.run_ref m ρ)

/-- The two constants named in the kernel over the reals are the reciprocals of the reference's divisors. -/
theorem preserves : Cert.preserves_Kernel15_Kernel15Ideal :=
  ⟨IdealRules.named_const.statement Cert.Kernel15Ideal.κ "c1" .f32 0x3FC48605#32 ((8388608 / 5463681 : ℝ) : EReal) rfl,
    IdealRules.named_const.statement Cert.Kernel15Ideal.κ "c2" .f32 0x42C8E6D3#32 ((268435456 / 2672307 : ℝ) : EReal) rfl⟩

/-- The kernel over the reals and the reference end with equal results. -/
theorem algebraic : Cert.algebraic_Kernel15Ideal_Reference15Ideal := by
  intro m ρ m' ρ' _ hagree
  refine ⟨_, _, _, _, Cert.Kernel15Ideal.Value.run_blocks m ρ, ?_⟩
  refine (θ_run Cert.Reference15Ideal.defs _ _).mono
    (fun r h c => ⟨(h c).1.trans ?_, (h c).2.1.trans ?_, (h c).2.2.1.trans ?_, (h c).2.2.2.1.trans ?_, (h c).2.2.2.2⟩)
    (Cert.Reference15Ideal.Value.run_ref m' ρ')
  all_goals
    obtain ⟨h0, h1, h2, h3⟩ := hagree c
    rw [h0, h1, h2, h3]
  · exact (Cert.Kernel15Ideal.Value.final_4 m c).symm
  · exact (Cert.Kernel15Ideal.Value.final_5 m c).symm
  · exact (Cert.Kernel15Ideal.Value.final_6 m c).symm
  · exact (Cert.Kernel15Ideal.Value.final_7 m c).symm

end Cert.Ad15Claims

end
-- ==== Proof.Mm16.lean ====
/- Hand-written: the context's wide input projection, as a function of the argument arrays. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference16Ideal.Value

open Cert.Reference16Ideal Cert.Reference16Ideal.Gen Idealize.ShloMosaic.StableHlo

/-- The reference's result as a function of its arguments. -/
def ref (a0 : FVec Ideal S256x1024 .bf16) (a1 : FVec Ideal S1024x2048 .bf16) : FVec Ideal S256x2048 .f32 :=
  Host.dotGeneral dot_S256x1024_S1024x2048_S256x2048_1_0_0_1_n_n none (extf .f32 a0 bitsLt_bf16_f32) (extf .f32 a1 bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference16Ideal.Value

namespace Cert.Kernel16Ideal.Value

open Cert.Kernel16Ideal Cert.Kernel16Ideal.Gen

/-- The block `j` of 1024 columns. -/
def tileB (j : Fin 2) (a : FVec Ideal S1024x2048 .bf16) : FVec Ideal S1024x1024 .bf16 :=
  fun y => a (ix2 (y 0) ⟨j.val * 1024 + (y 1).val, by have := j.isLt; have h : (y 1).val < 1024 := (y 1).isLt; omega⟩)

/-- What a point stores is the reference's product at the same place. -/
theorem pure (a0 : FVec Ideal S256x1024 .bf16) (a1 : FVec Ideal S1024x2048 .bf16) (q : Fin 2) (r : Fin 256) (s : Fin 1024) :
    k0_pay1 (F := Ideal) (tileB q a1) a0 (ix2 r s)
      = Cert.Reference16Ideal.Value.ref a0 a1 (ix2 r ⟨q.val * 1024 + s.val, by omega⟩) := by
  pointwise [k0_pay1, tileB, Cert.Reference16Ideal.Value.ref]

variable (m : (ℓ : Loc nD τ sig) → Buf (Elt Ideal) ℓ)

/-- The index maps of the windows, decided at every grid point. -/
theorem idx : ∀ t : Fin cfg0.N, win0_0.index t = ![0, 0] ∧ win0_1.index t = ![0, t.val] ∧ win0_2.index t = ![0, t.val] :=
  (by decide +kernel : ∀ t : Fin grid0.N, _)

/-- The number of the block at a point. -/
def row (t : Fin cfg0.N) : Fin 2 := ⟨t.val, lt_of_lt_of_eq t.isLt N_0⟩

/-- Argument 0, whole at every point. -/
theorem blk_0 (c : Dev nD) (t : Fin cfg0.N) : iblk m c 0 t = m ((c : Thread nD τ).loc main_arg0) := by
  funext y; blk_point [iblk, V, idx t]
/-- The block of argument 1 at a point. -/
theorem blk_1 (c : Dev nD) (t : Fin cfg0.N) : iblk m c 1 t = tileB (row t) (m ((c : Thread nD τ).loc main_arg1)) := by
  funext y; blk_point [iblk, V, tileB, row, idx t]

/-- The result after the run. -/
theorem final (c : Dev nD) : (dats m 0 c).arrAt 2 (cfgs 0).N
    = Cert.Reference16Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ (row t) _ _).trans ?_
  generalize Cert.Reference16Ideal.Value.ref _ _ = G
  blk_point [row, idx t]

end Cert.Kernel16Ideal.Value

namespace Cert.Mm16Claims

/-- The reference ends with its arguments unchanged and every counter at zero. -/
theorem frame_reference : Cert.quiescent_Reference16Ideal := fun m ρ _ =>
  (θ_run Cert.Reference16Ideal.defs _ _).mono
    (fun r h => ⟨fun c => (h c).2, sem_eq_zero_of_no_sems (by decide) r.2⟩) (Cert.Reference16Ideal.Value.run_ref m ρ)

/-- The kernel over the reals and the reference end with equal results. -/
theorem algebraic : Cert.algebraic_Kernel16Ideal_Reference16Ideal := by
  intro m ρ m' ρ' _ hagree
  refine ⟨_, Cert.Kernel16Ideal.Value.run_blocks m ρ, ?_⟩
  refine (θ_run Cert.Reference16Ideal.defs _ _).mono
    (fun r h c => ⟨(h c).1.trans ?_, (h c).2⟩)
    (Cert.Reference16Ideal.Value.run_ref m' ρ')
  obtain ⟨h0, h1⟩ := hagree c
  rw [h0, h1]
  exact (Cert.Kernel16Ideal.Value.final m c).symm

end Cert.Mm16Claims

end
-- ==== Proof.Mm17.lean ====
/- Hand-written: the gradient of the context's input projection, as a function of the argument arrays. -/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference17Ideal.Value

open Cert.Reference17Ideal Cert.Reference17Ideal.Gen Idealize.ShloMosaic.StableHlo

/-- The reference's result as a function of its arguments. -/
def ref (a0 : FVec Ideal S256x1024 .bf16) (a1 : FVec Ideal S256x2048 .bf16) : FVec Ideal S1024x2048 .f32 :=
  transpose S1024x2048 [1, 0] (Host.dotGeneral dot_S256x2048_S256x1024_S2048x1024_0_0_1_1_n_n none (extf .f32 a1 bitsLt_bf16_f32) (extf .f32 a0 bitsLt_bf16_f32)) transposes_S2048x1024_S1024x2048_1_0

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference17Ideal.Value

namespace Cert.Kernel17Ideal.Value

open Cert.Kernel17Ideal Cert.Kernel17Ideal.Gen

/-- The block `j` of 1024 columns. -/
def tileB (j : Fin 2) (a : FVec Ideal S256x2048 .bf16) : FVec Ideal S256x1024 .bf16 :=
  fun y => a (ix2 (y 0) ⟨j.val * 1024 + (y 1).val, by have := j.isLt; have h : (y 1).val < 1024 := (y 1).isLt; omega⟩)

/-- What a point stores is the reference's product at the same place. -/
theorem pure (a0 : FVec Ideal S256x1024 .bf16) (a1 : FVec Ideal S256x2048 .bf16) (q : Fin 2) (r : Fin 1024) (s : Fin 1024) :
    k0_pay1 (F := Ideal) (tileB q a1) a0 (ix2 r s)
      = Cert.Reference17Ideal.Value.ref a0 a1 (ix2 r ⟨q.val * 1024 + s.val, by omega⟩) := by
  pointwise [k0_pay1, tileB, Cert.Reference17Ideal.Value.ref]
  exact Finset.sum_congr rfl fun x _ => mul_comm _ _

variable (m : (ℓ : Loc nD τ sig) → Buf (Elt Ideal) ℓ)

/-- The index maps of the windows, decided at every grid point. -/
theorem idx : ∀ t : Fin cfg0.N, win0_0.index t = ![0, 0] ∧ win0_1.index t = ![0, t.val] ∧ win0_2.index t = ![0, t.val] :=
  (by decide +kernel : ∀ t : Fin grid0.N, _)

/-- The number of the block at a point. -/
def row (t : Fin cfg0.N) : Fin 2 := ⟨t.val, lt_of_lt_of_eq t.isLt N_0⟩

/-- Argument 0, whole at every point. -/
theorem blk_0 (c : Dev nD) (t : Fin cfg0.N) : iblk m c 0 t = m ((c : Thread nD τ).loc main_arg0) := by
  funext y; blk_point [iblk, V, idx t]
/-- The block of argument 1 at a point. -/
theorem blk_1 (c : Dev nD) (t : Fin cfg0.N) : iblk m c 1 t = tileB (row t) (m ((c : Thread nD τ).loc main_arg1)) := by
  funext y; blk_point [iblk, V, tileB, row, idx t]

/-- The result after the run. -/
theorem final (c : Dev nD) : (dats m 0 c).arrAt 2 (cfgs 0).N
    = Cert.Reference17Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ (row t) _ _).trans ?_
  generalize Cert.Reference17Ideal.Value.ref _ _ = G
  blk_point [row, idx t]

end Cert.Kernel17Ideal.Value

namespace Cert.Mm17Claims

/-- The reference ends with its arguments unchanged and every counter at zero. -/
theorem frame_reference : Cert.quiescent_Reference17Ideal := fun m ρ _ =>
  (θ_run Cert.Reference17Ideal.defs _ _).mono
    (fun r h => ⟨fun c => (h c).2, sem_eq_zero_of_no_sems (by decide) r.2⟩) (Cert.Reference17Ideal.Value.run_ref m ρ)

/-- The kernel over the reals and the reference end with equal results. -/
theorem algebraic : Cert.algebraic_Kernel17Ideal_Reference17Ideal := by
  intro m ρ m' ρ' _ hagree
  refine ⟨_, Cert.Kernel17Ideal.Value.run_blocks m ρ, ?_⟩
  refine (θ_run Cert.Reference17Ideal.defs _ _).mono
    (fun r h c => ⟨(h c).1.trans ?_, (h c).2⟩)
    (Cert.Reference17Ideal.Value.run_ref m' ρ')
  obtain ⟨h0, h1⟩ := hagree c
  rw [h0, h1]
  exact (Cert.Kernel17Ideal.Value.final m c).symm

end Cert.Mm17Claims

end
-- ==== Proof.Mm18.lean ====
/- Hand-written: the gradient of the context's rows through the wide input projection, as a function of the argument arrays. -/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference18Ideal.Value

open Cert.Reference18Ideal Cert.Reference18Ideal.Gen Idealize.ShloMosaic.StableHlo

/-- The reference's result as a function of its arguments. -/
def ref (a0 : FVec Ideal S256x2048 .bf16) (a1 : FVec Ideal S1024x2048 .bf16) (a2 : FVec Ideal S256x1024 .f32) : FVec Ideal S256x1024 .f32 :=
  addf (Host.dotGeneral dot_S256x2048_S1024x2048_S256x1024_1_1_0_0_n_n none (extf .f32 a0 bitsLt_bf16_f32) (extf .f32 a1 bitsLt_bf16_f32)) a2

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference18Ideal.Value

namespace Cert.Kernel18Ideal.Value

open Cert.Kernel18Ideal Cert.Kernel18Ideal.Gen

/-- The block `j` of 1024 columns of the cotangent. -/
def tileA (j : Fin 2) (a : FVec Ideal S256x2048 .bf16) : FVec Ideal S256x1024 .bf16 :=
  fun y => a (ix2 (y 0) ⟨j.val * 1024 + (y 1).val, by have := j.isLt; have h : (y 1).val < 1024 := (y 1).isLt; omega⟩)

/-- The block `j` of 1024 columns of the weight. -/
def tileB (j : Fin 2) (a : FVec Ideal S1024x2048 .bf16) : FVec Ideal S1024x1024 .bf16 :=
  fun y => a (ix2 (y 0) ⟨j.val * 1024 + (y 1).val, by have := j.isLt; have h : (y 1).val < 1024 := (y 1).isLt; omega⟩)

/-- The two halves of the columns and the gradient so far, added up, are the reference's gradient. -/
theorem pure (a0 : FVec Ideal S256x2048 .bf16) (a1 : FVec Ideal S1024x2048 .bf16) (a2 : FVec Ideal S256x1024 .f32) (i : grid0.Coords)
    (r : Fin 256) (s : Fin 1024) :
    k0_pay4 (F := Ideal) i (tileB 1 a1) (tileA 1 a0) (k0_pay2 (F := Ideal) (tileB 0 a1) (tileA 0 a0)) a2 (ix2 r s)
      = Cert.Reference18Ideal.Value.ref a0 a1 a2 (ix2 r s) := by
  have hi : (i 1).val = 0 := by have h : (i 1).val < 1 := (i 1).isLt; omega
  have hc : Scalar.cmpi .sge (BitVec.ofNat 32 (i 1).val) 0#32 = 1#1 := by rw [hi]; decide
  unfold k0_pay4
  simp only [hc]
  pointwise [k0_pay3, k0_pay2, k0_pay1, tileA, tileB, Cert.Reference18Ideal.Value.ref]
  refine congrArg (· + _) ?_
  rw [Fin.sum_univ_tiles 2 1024 rfl, Fin.sum_univ_two]
  exact congrArg₂ (· + ·) (Finset.sum_congr rfl fun x _ => (by simp only [Fin.val_zero, Nat.zero_mul, Nat.zero_add]))
    (Finset.sum_congr rfl fun x _ => (by simp only [Fin.val_one, Nat.one_mul]))

variable (m : (ℓ : Loc nD τ sig) → Buf (Elt Ideal) ℓ)

/-- The index maps of the windows, decided at every grid point. -/
theorem idx : ∀ t : Fin cfg0.N, win0_0.index t = ![0, t.val] ∧ win0_1.index t = ![0, t.val] ∧ win0_2.index t = ![0, 0]
    ∧ win0_3.index t = ![0, 0] :=
  (by decide +kernel : ∀ t : Fin grid0.N, _)

/-- The number of the block of columns at a point. -/
def col (t : Fin cfg0.N) : Fin 2 := ⟨t.val, lt_of_lt_of_eq t.isLt N_0⟩

/-- The block of the cotangent at a point. -/
theorem blk_0 (c : Dev nD) (t : Fin cfg0.N) : iblk m c 0 t = tileA (col t) (m ((c : Thread nD τ).loc main_arg0)) := by
  funext y; blk_point [iblk, V, tileA, col, idx t]
/-- The block of the weight at a point. -/
theorem blk_1 (c : Dev nD) (t : Fin cfg0.N) : iblk m c 1 t = tileB (col t) (m ((c : Thread nD τ).loc main_arg1)) := by
  funext y; blk_point [iblk, V, tileB, col, idx t]
/-- The gradient so far, whole at every point. -/
theorem blk_2 (c : Dev nD) (t : Fin cfg0.N) : iblk m c 2 t = m ((c : Thread nD τ).loc main_arg2) := by
  funext y; blk_point [iblk, V, idx t]

/-- What the first point leaves in the accumulator. -/
theorem acc_first (c : Dev nD) (t : Fin cfg0.N) (h : t.val % 2 = 0) :
    (outsAt0 m c t.val t.isLt).2 = k0_pay2 (F := Ideal) (iblk m c 1 t) (iblk m c 0 t) := by
  funext x; rw [outsAt0_A m c t h (by omega)]; frame_out

/-- What the last point stores. -/
theorem out_last (c : Dev nD) (t : Fin cfg0.N) (h : t.val % 2 = 1) :
    (outsAt0 m c t.val t.isLt).1 = k0_pay4 (F := Ideal) (grid0.coords t) (iblk m c 1 t) (iblk m c 0 t)
      (outsAt0 m c (t.val - 1) (Nat.lt_of_le_of_lt (Nat.sub_le _ _) t.isLt)).2 (iblk m c 2 t) := by
  funext x; rw [outsAt0_B m c t (by omega) h]; frame_out; rw [read_unread_whole]

/-- The result after the run. -/
theorem final (c : Dev nD) : (dats m 0 c).arrAt 3 (cfgs 0).N
    = Cert.Reference18Ideal.Value.ref (m ((c : Thread nD τ).loc main_arg0)) (m ((c : Thread nD τ).loc main_arg1)) (m ((c : Thread nD τ).loc main_arg2)) := by
  refine (dats m 0 c).arrAt_eq_of_after_last 3 t0_1 (by decide +kernel) _ fun j => ?_
  blk_simp
  have e0 : (outsAt0 m c (t0_1.val - 1) (Nat.lt_of_le_of_lt (Nat.sub_le _ _) t0_1.isLt)).2 = _ := acc_first m c t0_0 rfl
  rw [after0_3, out_last m c t0_1 rfl, e0]
  simp only [blk_0, blk_1, blk_2]
  idx_vars j
  exact pure _ _ _ _ _ _

end Cert.Kernel18Ideal.Value

namespace Cert.Mm18Claims

/-- The reference ends with its arguments unchanged and every counter at zero. -/
theorem frame_reference : Cert.quiescent_Reference18Ideal := fun m ρ _ =>
  (θ_run Cert.Reference18Ideal.defs _ _).mono
    (fun r h => ⟨fun c => (h c).2, sem_eq_zero_of_no_sems (by decide) r.2⟩) (Cert.Reference18Ideal.Value.run_ref m ρ)

/-- The kernel over the reals and the reference end with equal results. -/
theorem algebraic : Cert.algebraic_Kernel18Ideal_Reference18Ideal := by
  intro m ρ m' ρ' _ hagree
  refine ⟨_, Cert.Kernel18Ideal.Value.run_blocks m ρ, ?_⟩
  refine (θ_run Cert.Reference18Ideal.defs _ _).mono
    (fun r h c => ⟨(h c).1.trans ?_, (h c).2⟩)
    (Cert.Reference18Ideal.Value.run_ref m' ρ')
  obtain ⟨h0, h1, h2⟩ := hagree c
  rw [h0, h1, h2]
  exact (Cert.Kernel18Ideal.Value.final m c).symm

end Cert.Mm18Claims

end
-- ==== Proof.Mm19.lean ====
/- Hand-written: the narrow input projection, as a function of the argument arrays. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference19Ideal.Value

open Cert.Reference19Ideal Cert.Reference19Ideal.Gen Idealize.ShloMosaic.StableHlo

/-- The reference's result as a function of its arguments. -/
def ref (a0 : FVec Ideal S4096x1024 .bf16) (a1 : FVec Ideal S1024x128 .bf16) : FVec Ideal S4096x128 .f32 :=
  Host.dotGeneral dot_S4096x1024_S1024x128_S4096x128_1_0_0_1_n_n none (extf .f32 a0 bitsLt_bf16_f32) (extf .f32 a1 bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference19Ideal.Value

namespace Cert.Kernel19Ideal.Value

open Cert.Kernel19Ideal Cert.Kernel19Ideal.Gen

/-- The block `q` of 1024 rows. -/
def tileA (q : Fin 4) (a : FVec Ideal S4096x1024 .bf16) : FVec Ideal S1024x1024 .bf16 :=
  fun y => a (ix2 ⟨q.val * 1024 + (y 0).val, by have := q.isLt; have h : (y 0).val < 1024 := (y 0).isLt; omega⟩ (y 1))

/-- What a point stores is the reference's product at the same place. -/
theorem pure (a0 : FVec Ideal S4096x1024 .bf16) (a1 : FVec Ideal S1024x128 .bf16) (q : Fin 4) (r : Fin 1024) (s : Fin 128) :
    k0_pay1 (F := Ideal) a1 (tileA q a0) (ix2 r s)
      = Cert.Reference19Ideal.Value.ref a0 a1 (ix2 ⟨q.val * 1024 + r.val, by omega⟩ s) := by
  pointwise [k0_pay1, tileA, Cert.Reference19Ideal.Value.ref]

variable (m : (ℓ : Loc nD τ sig) → Buf (Elt Ideal) ℓ)

/-- The index maps of the windows, decided at every grid point. -/
theorem idx : ∀ t : Fin cfg0.N, win0_0.index t = ![t.val, 0] ∧ win0_1.index t = ![0, 0] ∧ win0_2.index t = ![t.val, 0] :=
  (by decide +kernel : ∀ t : Fin grid0.N, _)

/-- The number of the block at a point. -/
def row (t : Fin cfg0.N) : Fin 4 := ⟨t.val, lt_of_lt_of_eq t.isLt N_0⟩

/-- The block of argument 0 at a point. -/
theorem blk_0 (c : Dev nD) (t : Fin cfg0.N) : iblk m c 0 t = tileA (row t) (m ((c : Thread nD τ).loc main_arg0)) := by
  funext y; blk_point [iblk, V, tileA, row, idx t]
/-- Argument 1, whole at every point. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference19Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ (row t) _ _).trans ?_
  generalize Cert.Reference19Ideal.Value.ref _ _ = G
  blk_point [row, idx t]

end Cert.Kernel19Ideal.Value

namespace Cert.Mm19Claims

/-- The reference ends with its arguments unchanged and every counter at zero. -/
theorem frame_reference : Cert.quiescent_Reference19Ideal := fun m ρ _ =>
  (θ_run Cert.Reference19Ideal.defs _ _).mono
    (fun r h => ⟨fun c => (h c).2, sem_eq_zero_of_no_sems (by decide) r.2⟩) (Cert.Reference19Ideal.Value.run_ref m ρ)

/-- The kernel over the reals and the reference end with equal results. -/
theorem algebraic : Cert.algebraic_Kernel19Ideal_Reference19Ideal := by
  intro m ρ m' ρ' _ hagree
  refine ⟨_, Cert.Kernel19Ideal.Value.run_blocks m ρ, ?_⟩
  refine (θ_run Cert.Reference19Ideal.defs _ _).mono
    (fun r h c => ⟨(h c).1.trans ?_, (h c).2⟩)
    (Cert.Reference19Ideal.Value.run_ref m' ρ')
  obtain ⟨h0, h1⟩ := hagree c
  rw [h0, h1]
  exact (Cert.Kernel19Ideal.Value.final m c).symm

end Cert.Mm19Claims

end
-- ==== Proof.Mm20.lean ====
/- Hand-written: the context's narrow input projection, as a function of the argument arrays. -/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference20Ideal.Value

open Cert.Reference20Ideal Cert.Reference20Ideal.Gen Idealize.ShloMosaic.StableHlo

/-- The reference's result as a function of its arguments. -/
def ref (a0 : FVec Ideal S256x1024 .bf16) (a1 : FVec Ideal S1024x128 .bf16) : FVec Ideal S256x128 .f32 :=
  Host.dotGeneral dot_S256x1024_S1024x128_S256x128_1_0_0_1_n_n none (extf .f32 a0 bitsLt_bf16_f32) (extf .f32 a1 bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference20Ideal.Value

namespace Cert.Kernel20Ideal.Value

open Cert.Kernel20Ideal Cert.Kernel20Ideal.Gen

/-- What a point stores is the reference's product at the same place. -/
theorem pure (a0 : FVec Ideal S256x1024 .bf16) (a1 : FVec Ideal S1024x128 .bf16) (r : Fin 256) (s : Fin 128) :
    k0_pay1 (F := Ideal) a1 a0 (ix2 r s)
      = Cert.Reference20Ideal.Value.ref a0 a1 (ix2 r s) := by
  pointwise [k0_pay1, Cert.Reference20Ideal.Value.ref]

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0] :=
  (by decide +kernel : ∀ t : Fin grid0.N, _)

/-- Argument 0, whole at every point. -/
theorem blk_0 (c : Dev nD) (t : Fin cfg0.N) : iblk m c 0 t = m ((c : Thread nD τ).loc main_arg0) := by
  funext y; blk_point [iblk, V, idx t]
/-- Argument 1, whole at every point. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference20Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ _ _).trans ?_
  generalize Cert.Reference20Ideal.Value.ref _ _ = G
  blk_point [idx t]

end Cert.Kernel20Ideal.Value

namespace Cert.Mm20Claims

/-- The reference ends with its arguments unchanged and every counter at zero. -/
theorem frame_reference : Cert.quiescent_Reference20Ideal := fun m ρ _ =>
  (θ_run Cert.Reference20Ideal.defs _ _).mono
    (fun r h => ⟨fun c => (h c).2, sem_eq_zero_of_no_sems (by decide) r.2⟩) (Cert.Reference20Ideal.Value.run_ref m ρ)

/-- The kernel over the reals and the reference end with equal results. -/
theorem algebraic : Cert.algebraic_Kernel20Ideal_Reference20Ideal := by
  intro m ρ m' ρ' _ hagree
  refine ⟨_, Cert.Kernel20Ideal.Value.run_blocks m ρ, ?_⟩
  refine (θ_run Cert.Reference20Ideal.defs _ _).mono
    (fun r h c => ⟨(h c).1.trans ?_, (h c).2⟩)
    (Cert.Reference20Ideal.Value.run_ref m' ρ')
  obtain ⟨h0, h1⟩ := hagree c
  rw [h0, h1]
  exact (Cert.Kernel20Ideal.Value.final m c).symm

end Cert.Mm20Claims

end
-- ==== Proof.Mm21.lean ====
/- Hand-written: the gradient of the narrow input projection, as a function of the argument arrays. -/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference21Ideal.Value

open Cert.Reference21Ideal Cert.Reference21Ideal.Gen Idealize.ShloMosaic.StableHlo

/-- The reference's result as a function of its arguments. -/
def ref (a0 : FVec Ideal S4096x1024 .bf16) (a1 : FVec Ideal S4096x128 .bf16) (a2 : FVec Ideal S1024x128 .f32) : FVec Ideal S1024x128 .bf16 :=
  truncf .bf16 (addf (transpose S1024x128 [1, 0] (Host.dotGeneral dot_S4096x128_S4096x1024_S128x1024_0_0_1_1_n_n none (extf .f32 a1 bitsLt_bf16_f32) (extf .f32 a0 bitsLt_bf16_f32)) transposes_S128x1024_S1024x128_1_0) a2) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference21Ideal.Value

namespace Cert.Kernel21Ideal.Value

open Cert.Kernel21Ideal Cert.Kernel21Ideal.Gen

/-- The block `q` of 1024 rows. -/
def tileA (q : Fin 4) (a : FVec Ideal S4096x1024 .bf16) : FVec Ideal S1024x1024 .bf16 :=
  fun y => a (ix2 ⟨q.val * 1024 + (y 0).val, by have := q.isLt; have h : (y 0).val < 1024 := (y 0).isLt; omega⟩ (y 1))

/-- The block `q` of 1024 rows of the cotangent. -/
def tileB (q : Fin 4) (a : FVec Ideal S4096x128 .bf16) : FVec Ideal S1024x128 .bf16 :=
  fun y => a (ix2 ⟨q.val * 1024 + (y 0).val, by have := q.isLt; have h : (y 0).val < 1024 := (y 0).isLt; omega⟩ (y 1))

/-- The four blocks of rows and the gradient so far, added up, are the reference's gradient. -/
theorem pure (a0 : FVec Ideal S4096x1024 .bf16) (a1 : FVec Ideal S4096x128 .bf16) (a2 : FVec Ideal S1024x128 .f32) (i : grid0.Coords)
    (r : Fin 1024) (s : Fin 128) :
    k0_pay4 (F := Ideal) i (tileB 3 a1) (tileA 3 a0) (k0_pay3 (F := Ideal) (tileB 2 a1) (tileA 2 a0) (k0_pay3 (F := Ideal) (tileB 1 a1) (tileA 1 a0)
        (k0_pay2 (F := Ideal) (tileB 0 a1) (tileA 0 a0)))) a2 (ix2 r s)
      = Cert.Reference21Ideal.Value.ref a0 a1 a2 (ix2 r s) := by
  have hi : (i 1).val = 0 := by have h : (i 1).val < 1 := (i 1).isLt; omega
  have hc : Scalar.cmpi .sge (BitVec.ofNat 32 (i 1).val) 0#32 = 1#1 := by rw [hi]; decide
  unfold k0_pay4
  simp only [hc]
  pointwise [k0_pay3, k0_pay2, k0_pay1, tileA, tileB, Cert.Reference21Ideal.Value.ref]
  refine congrArg (· + _) ?_
  rw [Fin.sum_univ_tiles 4 1024 rfl, Fin.sum_univ_four]
  exact congrArg₂ (· + ·) (congrArg₂ (· + ·) (congrArg₂ (· + ·)
    (Finset.sum_congr rfl fun x _ => (mul_comm _ _).trans (by simp only [Fin.val_zero, Nat.zero_mul, Nat.zero_add]))
    (Finset.sum_congr rfl fun x _ => (mul_comm _ _).trans (by simp only [Fin.val_one, Nat.one_mul])))
    (Finset.sum_congr rfl fun x _ => mul_comm _ _)) (Finset.sum_congr rfl fun x _ => mul_comm _ _)

variable (m : (ℓ : Loc nD τ sig) → Buf (Elt Ideal) ℓ)

/-- The index maps of the windows, decided at every grid point. -/
theorem idx : ∀ t : Fin cfg0.N, win0_0.index t = ![t.val, 0] ∧ win0_1.index t = ![t.val, 0] ∧ win0_2.index t = ![0, 0]
    ∧ win0_3.index t = ![0, 0] :=
  (by decide +kernel : ∀ t : Fin grid0.N, _)

/-- The number of the block of rows at a point. -/
def row (t : Fin cfg0.N) : Fin 4 := ⟨t.val, lt_of_lt_of_eq t.isLt N_0⟩

/-- The block of the rows at a point. -/
theorem blk_0 (c : Dev nD) (t : Fin cfg0.N) : iblk m c 0 t = tileA (row t) (m ((c : Thread nD τ).loc main_arg0)) := by
  funext y; blk_point [iblk, V, tileA, row, idx t]
/-- The block of the cotangent at a point. -/
theorem blk_1 (c : Dev nD) (t : Fin cfg0.N) : iblk m c 1 t = tileB (row t) (m ((c : Thread nD τ).loc main_arg1)) := by
  funext y; blk_point [iblk, V, tileB, row, idx t]
/-- The gradient so far, whole at every point. -/
theorem blk_2 (c : Dev nD) (t : Fin cfg0.N) : iblk m c 2 t = m ((c : Thread nD τ).loc main_arg2) := by
  funext y; blk_point [iblk, V, idx t]

/-- What the first point leaves in the accumulator. -/
theorem acc_first (c : Dev nD) (t : Fin cfg0.N) (h : t.val % 4 = 0) :
    (outsAt0 m c t.val t.isLt).2 = k0_pay2 (F := Ideal) (iblk m c 1 t) (iblk m c 0 t) := by
  funext x; rw [outsAt0_A m c t h (by omega) (by omega)]; frame_out

/-- What a middle point leaves in the accumulator. -/
theorem acc_next (c : Dev nD) (t : Fin cfg0.N) (h : 1 ≤ t.val % 4 ∧ t.val % 4 ≤ 2) :
    (outsAt0 m c t.val t.isLt).2 = k0_pay3 (F := Ideal) (iblk m c 1 t) (iblk m c 0 t)
      (outsAt0 m c (t.val - 1) (Nat.lt_of_le_of_lt (Nat.sub_le _ _) t.isLt)).2 := by
  funext x; rw [outsAt0_B m c t (by omega) h (by omega)]; frame_out; rw [read_unread_whole]

/-- What the last point stores. -/
theorem out_last (c : Dev nD) (t : Fin cfg0.N) (h : t.val % 4 = 3) :
    (outsAt0 m c t.val t.isLt).1 = k0_pay4 (F := Ideal) (grid0.coords t) (iblk m c 1 t) (iblk m c 0 t)
      (outsAt0 m c (t.val - 1) (Nat.lt_of_le_of_lt (Nat.sub_le _ _) t.isLt)).2 (iblk m c 2 t) := by
  funext x; rw [outsAt0_C m c t (by omega) (by omega) h]; frame_out; rw [read_unread_whole]

/-- The result after the run. -/
theorem final (c : Dev nD) : (dats m 0 c).arrAt 3 (cfgs 0).N
    = Cert.Reference21Ideal.Value.ref (m ((c : Thread nD τ).loc main_arg0)) (m ((c : Thread nD τ).loc main_arg1)) (m ((c : Thread nD τ).loc main_arg2)) := by
  refine (dats m 0 c).arrAt_eq_of_after_last 3 t0_3 (by decide +kernel) _ fun j => ?_
  blk_simp
  have e2 : (outsAt0 m c (t0_3.val - 1) (Nat.lt_of_le_of_lt (Nat.sub_le _ _) t0_3.isLt)).2 = _ := acc_next m c t0_2 (by decide)
  have e1 : (outsAt0 m c (t0_2.val - 1) (Nat.lt_of_le_of_lt (Nat.sub_le _ _) t0_2.isLt)).2 = _ := acc_next m c t0_1 (by decide)
  have e0 : (outsAt0 m c (t0_1.val - 1) (Nat.lt_of_le_of_lt (Nat.sub_le _ _) t0_1.isLt)).2 = _ := acc_first m c t0_0 rfl
  rw [after0_3, out_last m c t0_3 rfl, e2, e1, e0]
  simp only [blk_0, blk_1, blk_2]
  idx_vars j
  exact pure _ _ _ _ _ _

end Cert.Kernel21Ideal.Value

namespace Cert.Mm21Claims

/-- The reference ends with its arguments unchanged and every counter at zero. -/
theorem frame_reference : Cert.quiescent_Reference21Ideal := fun m ρ _ =>
  (θ_run Cert.Reference21Ideal.defs _ _).mono
    (fun r h => ⟨fun c => (h c).2, sem_eq_zero_of_no_sems (by decide) r.2⟩) (Cert.Reference21Ideal.Value.run_ref m ρ)

/-- The kernel over the reals and the reference end with equal results. -/
theorem algebraic : Cert.algebraic_Kernel21Ideal_Reference21Ideal := by
  intro m ρ m' ρ' _ hagree
  refine ⟨_, Cert.Kernel21Ideal.Value.run_blocks m ρ, ?_⟩
  refine (θ_run Cert.Reference21Ideal.defs _ _).mono
    (fun r h c => ⟨(h c).1.trans ?_, (h c).2⟩)
    (Cert.Reference21Ideal.Value.run_ref m' ρ')
  obtain ⟨h0, h1, h2⟩ := hagree c
  rw [h0, h1, h2]
  exact (Cert.Kernel21Ideal.Value.final m c).symm

end Cert.Mm21Claims

end
-- ==== Proof.Mm22.lean ====
/- Hand-written: the gradient of the context's narrow input projection, as a function of the argument arrays. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference22Ideal.Value

open Cert.Reference22Ideal Cert.Reference22Ideal.Gen Idealize.ShloMosaic.StableHlo

/-- The reference's result as a function of its arguments. -/
def ref (a0 : FVec Ideal S256x1024 .bf16) (a1 : FVec Ideal S256x128 .bf16) : FVec Ideal S1024x128 .f32 :=
  transpose S1024x128 [1, 0] (Host.dotGeneral dot_S256x128_S256x1024_S128x1024_0_0_1_1_n_n none (extf .f32 a1 bitsLt_bf16_f32) (extf .f32 a0 bitsLt_bf16_f32)) transposes_S128x1024_S1024x128_1_0

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference22Ideal.Value

namespace Cert.Kernel22Ideal.Value

open Cert.Kernel22Ideal Cert.Kernel22Ideal.Gen

/-- What a point stores is the reference's product at the same place. -/
theorem pure (a0 : FVec Ideal S256x1024 .bf16) (a1 : FVec Ideal S256x128 .bf16) (r : Fin 1024) (s : Fin 128) :
    k0_pay1 (F := Ideal) a1 a0 (ix2 r s)
      = Cert.Reference22Ideal.Value.ref a0 a1 (ix2 r s) := by
  pointwise [k0_pay1, Cert.Reference22Ideal.Value.ref]
  exact Finset.sum_congr rfl fun x _ => mul_comm _ _

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0] :=
  (by decide +kernel : ∀ t : Fin grid0.N, _)

/-- Argument 0, whole at every point. -/
theorem blk_0 (c : Dev nD) (t : Fin cfg0.N) : iblk m c 0 t = m ((c : Thread nD τ).loc main_arg0) := by
  funext y; blk_point [iblk, V, idx t]
/-- Argument 1, whole at every point. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference22Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ _ _).trans ?_
  generalize Cert.Reference22Ideal.Value.ref _ _ = G
  blk_point [idx t]

end Cert.Kernel22Ideal.Value

namespace Cert.Mm22Claims

/-- The reference ends with its arguments unchanged and every counter at zero. -/
theorem frame_reference : Cert.quiescent_Reference22Ideal := fun m ρ _ =>
  (θ_run Cert.Reference22Ideal.defs _ _).mono
    (fun r h => ⟨fun c => (h c).2, sem_eq_zero_of_no_sems (by decide) r.2⟩) (Cert.Reference22Ideal.Value.run_ref m ρ)

/-- The kernel over the reals and the reference end with equal results. -/
theorem algebraic : Cert.algebraic_Kernel22Ideal_Reference22Ideal := by
  intro m ρ m' ρ' _ hagree
  refine ⟨_, Cert.Kernel22Ideal.Value.run_blocks m ρ, ?_⟩
  refine (θ_run Cert.Reference22Ideal.defs _ _).mono
    (fun r h c => ⟨(h c).1.trans ?_, (h c).2⟩)
    (Cert.Reference22Ideal.Value.run_ref m' ρ')
  obtain ⟨h0, h1⟩ := hagree c
  rw [h0, h1]
  exact (Cert.Kernel22Ideal.Value.final m c).symm

end Cert.Mm22Claims

end
-- ==== Proof.Mm23.lean ====
/- Hand-written: the gradient of the rows through the narrow input projection, as a function of the argument arrays. -/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference23Ideal.Value

open Cert.Reference23Ideal Cert.Reference23Ideal.Gen Idealize.ShloMosaic.StableHlo

/-- The reference's result as a function of its arguments. -/
def ref (a0 : FVec Ideal S4096x128 .bf16) (a1 : FVec Ideal S1024x128 .bf16) : FVec Ideal S4096x1024 .f32 :=
  Host.dotGeneral dot_S4096x128_S1024x128_S4096x1024_1_1_0_0_n_n none (extf .f32 a0 bitsLt_bf16_f32) (extf .f32 a1 bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference23Ideal.Value

namespace Cert.Kernel23Ideal.Value

open Cert.Kernel23Ideal Cert.Kernel23Ideal.Gen

/-- The block `q` of 1024 rows. -/
def tileA (q : Fin 4) (a : FVec Ideal S4096x128 .bf16) : FVec Ideal S1024x128 .bf16 :=
  fun y => a (ix2 ⟨q.val * 1024 + (y 0).val, by have := q.isLt; have h : (y 0).val < 1024 := (y 0).isLt; omega⟩ (y 1))

/-- What a point stores is the reference's product at the same place. -/
theorem pure (a0 : FVec Ideal S4096x128 .bf16) (a1 : FVec Ideal S1024x128 .bf16) (q : Fin 4) (r : Fin 1024) (s : Fin 1024) :
    k0_pay1 (F := Ideal) a1 (tileA q a0) (ix2 r s)
      = Cert.Reference23Ideal.Value.ref a0 a1 (ix2 ⟨q.val * 1024 + r.val, by omega⟩ s) := by
  pointwise [k0_pay1, tileA, Cert.Reference23Ideal.Value.ref]

variable (m : (ℓ : Loc nD τ sig) → Buf (Elt Ideal) ℓ)

/-- The index maps of the windows, decided at every grid point. -/
theorem idx : ∀ t : Fin cfg0.N, win0_0.index t = ![t.val, 0] ∧ win0_1.index t = ![0, 0] ∧ win0_2.index t = ![t.val, 0] :=
  (by decide +kernel : ∀ t : Fin grid0.N, _)

/-- The number of the block at a point. -/
def row (t : Fin cfg0.N) : Fin 4 := ⟨t.val, lt_of_lt_of_eq t.isLt N_0⟩

/-- The block of argument 0 at a point. -/
theorem blk_0 (c : Dev nD) (t : Fin cfg0.N) : iblk m c 0 t = tileA (row t) (m ((c : Thread nD τ).loc main_arg0)) := by
  funext y; blk_point [iblk, V, tileA, row, idx t]
/-- Argument 1, whole at every point. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference23Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ (row t) _ _).trans ?_
  generalize Cert.Reference23Ideal.Value.ref _ _ = G
  blk_point [row, idx t]

end Cert.Kernel23Ideal.Value

namespace Cert.Mm23Claims

/-- The reference ends with its arguments unchanged and every counter at zero. -/
theorem frame_reference : Cert.quiescent_Reference23Ideal := fun m ρ _ =>
  (θ_run Cert.Reference23Ideal.defs _ _).mono
    (fun r h => ⟨fun c => (h c).2, sem_eq_zero_of_no_sems (by decide) r.2⟩) (Cert.Reference23Ideal.Value.run_ref m ρ)

/-- The kernel over the reals and the reference end with equal results. -/
theorem algebraic : Cert.algebraic_Kernel23Ideal_Reference23Ideal := by
  intro m ρ m' ρ' _ hagree
  refine ⟨_, Cert.Kernel23Ideal.Value.run_blocks m ρ, ?_⟩
  refine (θ_run Cert.Reference23Ideal.defs _ _).mono
    (fun r h c => ⟨(h c).1.trans ?_, (h c).2⟩)
    (Cert.Reference23Ideal.Value.run_ref m' ρ')
  obtain ⟨h0, h1⟩ := hagree c
  rw [h0, h1]
  exact (Cert.Kernel23Ideal.Value.final m c).symm

end Cert.Mm23Claims

end
-- ==== Proof.Mm24.lean ====
/- Hand-written: the gradient of the context's rows through the narrow input projection, as a function of the argument arrays. -/
module

public import proofs.«01_k».proof.Defs
public import proofs.«01_k».proof.Proof.Gen.Kernel24Ideal.Value
public import proofs.«01_k».proof.Proof.Gen.Reference24Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference24Ideal.Value

open Cert.Reference24Ideal Cert.Reference24Ideal.Gen Idealize.ShloMosaic.StableHlo

/-- The reference's result as a function of its arguments. -/
def ref (a0 : FVec Ideal S256x128 .bf16) (a1 : FVec Ideal S1024x128 .bf16) : FVec Ideal S256x1024 .f32 :=
  Host.dotGeneral dot_S256x128_S1024x128_S256x1024_1_1_0_0_n_n none (extf .f32 a0 bitsLt_bf16_f32) (extf .f32 a1 bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference24Ideal.Value

namespace Cert.Kernel24Ideal.Value

open Cert.Kernel24Ideal Cert.Kernel24Ideal.Gen

/-- What a point stores is the reference's product at the same place. -/
theorem pure (a0 : FVec Ideal S256x128 .bf16) (a1 : FVec Ideal S1024x128 .bf16) (r : Fin 256) (s : Fin 1024) :
    k0_pay1 (F := Ideal) a1 a0 (ix2 r s)
      = Cert.Reference24Ideal.Value.ref a0 a1 (ix2 r s) := by
  pointwise [k0_pay1, Cert.Reference24Ideal.Value.ref]

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0] :=
  (by decide +kernel : ∀ t : Fin grid0.N, _)

/-- Argument 0, whole at every point. -/
theorem blk_0 (c : Dev nD) (t : Fin cfg0.N) : iblk m c 0 t = m ((c : Thread nD τ).loc main_arg0) := by
  funext y; blk_point [iblk, V, idx t]
/-- Argument 1, whole at every point. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference24Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ _ _).trans ?_
  generalize Cert.Reference24Ideal.Value.ref _ _ = G
  blk_point [idx t]

end Cert.Kernel24Ideal.Value

namespace Cert.Mm24Claims

/-- The reference ends with its arguments unchanged and every counter at zero. -/
theorem frame_reference : Cert.quiescent_Reference24Ideal := fun m ρ _ =>
  (θ_run Cert.Reference24Ideal.defs _ _).mono
    (fun r h => ⟨fun c => (h c).2, sem_eq_zero_of_no_sems (by decide) r.2⟩) (Cert.Reference24Ideal.Value.run_ref m ρ)

/-- The kernel over the reals and the reference end with equal results. -/
theorem algebraic : Cert.algebraic_Kernel24Ideal_Reference24Ideal := by
  intro m ρ m' ρ' _ hagree
  refine ⟨_, Cert.Kernel24Ideal.Value.run_blocks m ρ, ?_⟩
  refine (θ_run Cert.Reference24Ideal.defs _ _).mono
    (fun r h c => ⟨(h c).1.trans ?_, (h c).2⟩)
    (Cert.Reference24Ideal.Value.run_ref m' ρ')
  obtain ⟨h0, h1⟩ := hagree c
  rw [h0, h1]
  exact (Cert.Kernel24Ideal.Value.final m c).symm

end Cert.Mm24Claims

end
-- ==== Proof.Mm25.lean ====
/- Hand-written: the modulated normalisation, as a function of the argument arrays. -/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference25Ideal.Value

open Cert.Reference25Ideal Cert.Reference25Ideal.Gen Idealize.ShloMosaic.StableHlo

/-- The reference's result as a function of its arguments. -/
def ref (a0 : FVec Ideal S4096x1024 .f32) (a1 : FVec Ideal S1x1024 .f32) (a2 : FVec Ideal S1x3072 .f32) (a3 : FVec Ideal S1x3072 .f32) : FVec Ideal S4096x1024 .bf16 :=
  truncf .bf16 (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S4096x1024 ![0, 1] bcast_S1x1024_S4096x1024_0_1 (shapeCast _ (extractStridedSlice S1x1x1024 ![0, 0, 0] (shapeCast _ (addf a2 a3) shapeCasts_S1x3072_S1x3x1024) slices_S1x3x1024_S1x1x1024_0_0_0) shapeCasts_S1x1x1024_S1x1024))) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = ref (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference25Ideal.Value

namespace Cert.Kernel25Ideal.Value

open Cert.Kernel25Ideal Cert.Kernel25Ideal.Gen

/-- The block `q` of 512 rows. -/
def tile (q : Fin 8) (a : FVec Ideal S4096x1024 .f32) : FVec Ideal S512x1024 .f32 :=
  fun y => a (ix2 ⟨q.val * 512 + (y 0).val, by have := q.isLt; have h : (y 0).val < 512 := (y 0).isLt; omega⟩ (y 1))

/-- What a point stores is the reference's value at the same rows. -/
theorem pure (a0 : FVec Ideal S4096x1024 .f32) (a1 : FVec Ideal S1x1024 .f32) (a2 a3 : FVec Ideal S1x3072 .f32) (q : Fin 8) (r : Fin 512) (s : Fin 1024) :
    k0_pay1 (F := Ideal) (tile q a0) a1 a2 a3 (ix2 r s)
      = Cert.Reference25Ideal.Value.ref a0 a1 a2 a3 (ix2 ⟨q.val * 512 + r.val, by omega⟩ s) := by
  pointwise [k0_pay1, tile, Cert.Reference25Ideal.Value.ref]

variable (m : (ℓ : Loc nD τ sig) → Buf (Elt Ideal) ℓ)

/-- The index maps of the windows, decided at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The number of the block of rows at a point. -/
def row (t : Fin cfg0.N) : Fin 8 := ⟨t.val, lt_of_lt_of_eq t.isLt N_0⟩

/-- The block of the rows at a point. -/
theorem blk_0 (c : Dev nD) (t : Fin cfg0.N) : iblk m c 0 t = tile (row t) (m ((c : Thread nD τ).loc main_arg0)) := by
  funext y; blk_point [iblk, V, tile, row, idx t]
/-- Argument 1, whole at every point. -/
theorem blk_1 (c : Dev nD) (t : Fin cfg0.N) : iblk m c 1 t = m ((c : Thread nD τ).loc main_arg1) := by
  funext y; blk_point [iblk, V, idx t]
/-- Argument 2, whole at every point. -/
theorem blk_2 (c : Dev nD) (t : Fin cfg0.N) : iblk m c 2 t = m ((c : Thread nD τ).loc main_arg2) := by
  funext y; blk_point [iblk, V, idx t]
/-- Argument 3, whole at every point. -/
theorem blk_3 (c : Dev nD) (t : Fin cfg0.N) : iblk m c 3 t = m ((c : Thread nD τ).loc main_arg3) := by
  funext y; blk_point [iblk, V, idx t]

/-- The result after the run. -/
theorem final (c : Dev nD) : (dats m 0 c).arrAt 4 (cfgs 0).N
    = Cert.Reference25Ideal.Value.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_0, blk_1, blk_2, blk_3]
  idx_vars y
  refine (pure _ _ _ _ (row t) _ _).trans ?_
  generalize Cert.Reference25Ideal.Value.ref _ _ _ _ = G
  blk_point [row, idx t]

end Cert.Kernel25Ideal.Value

namespace Cert.Mm25Claims

/-- The reference ends with its arguments unchanged and every counter at zero. -/
theorem frame_reference : Cert.quiescent_Reference25Ideal := fun m ρ _ =>
  (θ_run Cert.Reference25Ideal.defs _ _).mono
    (fun r h => ⟨fun c => (h c).2, sem_eq_zero_of_no_sems (by decide) r.2⟩) (Cert.Reference25Ideal.Value.run_ref m ρ)

/-- The kernel over the reals and the reference end with equal results. -/
theorem algebraic : Cert.algebraic_Kernel25Ideal_Reference25Ideal := by
  intro m ρ m' ρ' _ hagree
  refine ⟨_, Cert.Kernel25Ideal.Value.run_blocks m ρ, ?_⟩
  refine (θ_run Cert.Reference25Ideal.defs _ _).mono
    (fun r h c => ⟨(h c).1.trans ?_, (h c).2⟩)
    (Cert.Reference25Ideal.Value.run_ref m' ρ')
  obtain ⟨h0, h1, h2, h3⟩ := hagree c
  rw [h0, h1, h2, h3]
  exact (Cert.Kernel25Ideal.Value.final m c).symm

end Cert.Mm25Claims

end
-- ==== Proof.Mm26.lean ====
/- Hand-written: the modulated normalisation of the context, as a function of the argument arrays. -/
module

public import proofs.«01_k».proof.Defs
public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference26Ideal.Value

open Cert.Reference26Ideal Cert.Reference26Ideal.Gen Idealize.ShloMosaic.StableHlo

/-- The reference's result as a function of its arguments. -/
def ref (a0 : FVec Ideal S256x1024 .f32) (a1 : FVec Ideal S1x1024 .f32) (a2 : FVec Ideal S1x3072 .f32) (a3 : FVec Ideal S1x3072 .f32) : FVec Ideal S256x1024 .bf16 :=
  truncf .bf16 (addf (mulf (mulf (mulf a0 (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 a1)) (broadcastInDim S256x1024 ![0, 1] bcast_S1x1024_S256x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S256x1024 ![0, 1] bcast_S1x1024_S256x1024_0_1 (shapeCast _ (extractStridedSlice S1x1x1024 ![0, 0, 0] (shapeCast _ (addf a2 a3) shapeCasts_S1x3072_S1x3x1024) slices_S1x3x1024_S1x1x1024_0_0_0) shapeCasts_S1x1x1024_S1x1024))) bitsLt_bf16_f32

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = ref (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.Reference26Ideal.Value

namespace Cert.Kernel26Ideal.Value

open Cert.Kernel26Ideal Cert.Kernel26Ideal.Gen

/-- What a point stores is the reference's value at the same rows. -/
theorem pure (a0 : FVec Ideal S256x1024 .f32) (a1 : FVec Ideal S1x1024 .f32) (a2 a3 : FVec Ideal S1x3072 .f32) (r : Fin 256) (s : Fin 1024) :
    k0_pay1 (F := Ideal) a0 a1 a2 a3 (ix2 r s)
      = Cert.Reference26Ideal.Value.ref a0 a1 a2 a3 (ix2 r s) := by
  pointwise [k0_pay1, Cert.Reference26Ideal.Value.ref]

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- Argument 0, whole at every point. -/
theorem blk_0 (c : Dev nD) (t : Fin cfg0.N) : iblk m c 0 t = m ((c : Thread nD τ).loc main_arg0) := by
  funext y; blk_point [iblk, V, idx t]
/-- Argument 1, whole at every point. -/
theorem blk_1 (c : Dev nD) (t : Fin cfg0.N) : iblk m c 1 t = m ((c : Thread nD τ).loc main_arg1) := by
  funext y; blk_point [iblk, V, idx t]
/-- Argument 2, whole at every point. -/
theorem blk_2 (c : Dev nD) (t : Fin cfg0.N) : iblk m c 2 t = m ((c : Thread nD τ).loc main_arg2) := by
  funext y; blk_point [iblk, V, idx t]
/-- Argument 3, whole at every point. -/
theorem blk_3 (c : Dev nD) (t : Fin cfg0.N) : iblk m c 3 t = m ((c : Thread nD τ).loc main_arg3) := by
  funext y; blk_point [iblk, V, idx t]

/-- The result after the run. -/
theorem final (c : Dev nD) : (dats m 0 c).arrAt 4 (cfgs 0).N
    = Cert.Reference26Ideal.Value.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [blk_0, blk_1, blk_2, blk_3]
  idx_vars y
  refine (pure _ _ _ _ _ _).trans ?_
  generalize Cert.Reference26Ideal.Value.ref _ _ _ _ = G
  blk_point [idx t]

end Cert.Kernel26Ideal.Value

namespace Cert.Mm26Claims

/-- The reference ends with its arguments unchanged and every counter at zero. -/
theorem frame_reference : Cert.quiescent_Reference26Ideal := fun m ρ _ =>
  (θ_run Cert.Reference26Ideal.defs _ _).mono
    (fun r h => ⟨fun c => (h c).2, sem_eq_zero_of_no_sems (by decide) r.2⟩) (Cert.Reference26Ideal.Value.run_ref m ρ)

/-- The kernel over the reals and the reference end with equal results. -/
theorem algebraic : Cert.algebraic_Kernel26Ideal_Reference26Ideal := by
  intro m ρ m' ρ' _ hagree
  refine ⟨_, Cert.Kernel26Ideal.Value.run_blocks m ρ, ?_⟩
  refine (θ_run Cert.Reference26Ideal.defs _ _).mono
    (fun r h c => ⟨(h c).1.trans ?_, (h c).2⟩)
    (Cert.Reference26Ideal.Value.run_ref m' ρ')
  obtain ⟨h0, h1, h2, h3⟩ := hagree c
  rw [h0, h1, h2, h3]
  exact (Cert.Kernel26Ideal.Value.final m c).symm

end Cert.Mm26Claims

end
-- ==== Proof.Mm27.lean ====
/- Hand-written: the gradients of the modulated normalisation of the context, as functions of the argument arrays. -/
module

public import proofs.«01_k».proof.Defs
public import proofs.«01_k».proof.Proof.Gen.Kernel27Ideal.Value
public import proofs.«01_k».proof.Proof.Gen.Reference27Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference27Ideal.Value

open Cert.Reference27Ideal Cert.Reference27Ideal.Gen Idealize.ShloMosaic.StableHlo

/-- The gradient of the rows. -/
def refDx (a0 : FVec Ideal S256x1024 .f32) (a1 : FVec Ideal S1x1024 .f32) (a2 a3 : FVec Ideal S1x3072 .f32) (a4 : FVec Ideal S256x1024 .f32) : FVec Ideal S256x1024 .f32 :=
  addf (addf (mulf (mulf (mulf (shapeCast _ a4 shapeCasts_S256x1024_S256x1024) (broadcastInDim S256x1024 ![0, 1] bcast_S1x1024_S256x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S256x1024 ![0, 1] bcast_S1x1024_S256x1024_0_1 a1)) (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (mulf a0 (broadcastInDim S256x1024 ![0] bcast_S256_S256x1024_0 (Host.reduceAdd (Host.divf (mulf (shapeCast _ (Host.reduceAdd (mulf a0 (mulf (mulf (shapeCast _ a4 shapeCasts_S256x1024_S256x1024) (broadcastInDim S256x1024 ![0, 1] bcast_S1x1024_S256x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S256x1024 ![0, 1] bcast_S1x1024_S256x1024_0_1 a1))) (constant S_ .f32 0x00000000#32) reducesTo_S256x1024_S256_d1 h_S_) shapeCasts_S256_S256x1) (mulf (broadcastInDim S256x1 ![] bcast_S_S256x1 (constant S_ .f32 0xBF000000#32)) (Host.divf (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))) (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1 ![] bcast_S_S256x1 (constant S_ .f32 0x44800000#32))) (constant S_ .f32 0x00000000#32) reducesTo_S256x1_S256_d1 h_S_)))) (mulf (broadcastInDim S256x1024 ![0] bcast_S256_S256x1024_0 (Host.reduceAdd (Host.divf (mulf (shapeCast _ (Host.reduceAdd (mulf a0 (mulf (mulf (shapeCast _ a4 shapeCasts_S256x1024_S256x1024) (broadcastInDim S256x1024 ![0, 1] bcast_S1x1024_S256x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024)))) (broadcastInDim S256x1024 ![0, 1] bcast_S1x1024_S256x1024_0_1 a1))) (constant S_ .f32 0x00000000#32) reducesTo_S256x1024_S256_d1 h_S_) shapeCasts_S256_S256x1) (mulf (broadcastInDim S256x1 ![] bcast_S_S256x1 (constant S_ .f32 0xBF000000#32)) (Host.divf (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))) (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1 ![] bcast_S_S256x1 (constant S_ .f32 0x44800000#32))) (constant S_ .f32 0x00000000#32) reducesTo_S256x1_S256_d1 h_S_)) a0)

/-- The gradient of the gain. -/
def refDg (a0 : FVec Ideal S256x1024 .f32) (a1 : FVec Ideal S1x1024 .f32) (a2 a3 : FVec Ideal S1x3072 .f32) (a4 : FVec Ideal S256x1024 .f32) : FVec Ideal S1x1024 .f32 :=
  shapeCast _ (Host.reduceAdd (mulf (mulf a0 (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (mulf (shapeCast _ a4 shapeCasts_S256x1024_S256x1024) (broadcastInDim S256x1024 ![0, 1] bcast_S1x1024_S256x1024_0_1 (addf (broadcastInDim S1x1024 ![] bcast_S_S1x1024 (constant S_ .f32 0x3F800000#32)) (shapeCast _ (extractStridedSlice S1x1x1024 ![0, 1, 0] (shapeCast _ (addf a2 a3) shapeCasts_S1x3072_S1x3x1024) slices_S1x3x1024_S1x1x1024_0_1_0) shapeCasts_S1x1x1024_S1x1024))))) (constant S_ .f32 0x00000000#32) reducesTo_S256x1024_S1024_d0 h_S_) shapeCasts_S1024_S1x1024

/-- The gradient of the modulation. -/
def refDm (a0 : FVec Ideal S256x1024 .f32) (a1 : FVec Ideal S1x1024 .f32) (a2 a3 : FVec Ideal S1x3072 .f32) (a4 : FVec Ideal S256x1024 .f32) : FVec Ideal S1x3072 .f32 :=
  shapeCast _ (addf (pad S1x3x1024 ![0, 1, 0] ![0, 1, 0] ![0, 0, 0] (broadcastInDim S1x1x1024 ![0, 2] bcast_S1x1024_S1x1x1024_0_2 (shapeCast _ (Host.reduceAdd (mulf (mulf (mulf a0 (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 a1)) (shapeCast _ a4 shapeCasts_S256x1024_S256x1024)) (constant S_ .f32 0x00000000#32) reducesTo_S256x1024_S1024_d0 h_S_) shapeCasts_S1024_S1x1024)) (constant S_ .f32 0x00000000#32) pads_S1x1x1024_S1x3x1024_000_110_000 h_S_) (pad S1x3x1024 ![0, 0, 0] ![0, 2, 0] ![0, 0, 0] (broadcastInDim S1x1x1024 ![0, 2] bcast_S1x1024_S1x1x1024_0_2 (shapeCast _ (Host.reduceAdd a4 (constant S_ .f32 0x00000000#32) reducesTo_S256x1024_S1024_d0 h_S_) shapeCasts_S1024_S1x1024)) (constant S_ .f32 0x00000000#32) pads_S1x1x1024_S1x3x1024_000_020_000 h_S_)) shapeCasts_S1x3x1024_S1x3072

/-- The run of the reference, its three results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = refDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v37) = refDg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v59) = refDm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.Reference27Ideal.Value

namespace Cert.Kernel27Ideal.Value

open Cert.Kernel27Ideal Cert.Kernel27Ideal.Gen

/-- What the kernel stores for the rows is the reference's gradient. -/
theorem pure_dx (a0 : FVec Ideal S256x1024 .f32) (a1 : FVec Ideal S1x1024 .f32) (a2 a3 : FVec Ideal S1x3072 .f32) (a4 : FVec Ideal S256x1024 .f32) (i : Fin 256) (j : Fin 1024) :
    k0_pay1 (F := Ideal) a0 (k0_pay6 a0) (k0_pay7 a0) (k0_pay14 a4 a1 a2 a3) (k0_pay15 a4 a0 a1 a2 a3) (ix2 i j)
      = Cert.Reference27Ideal.Value.refDx a0 a1 a2 a3 a4 (ix2 i j) := by
  pointwise [k0_pay1, k0_pay5, k0_pay6, k0_pay7, k0_pay8, k0_pay9, k0_pay12, k0_pay14, k0_pay15, Cert.Reference27Ideal.Value.refDx]

/-- What the kernel stores for the gain is the reference's gradient. -/
theorem pure_dg (a0 : FVec Ideal S256x1024 .f32) (a1 : FVec Ideal S1x1024 .f32) (a2 a3 : FVec Ideal S1x3072 .f32) (a4 : FVec Ideal S256x1024 .f32) (i : Fin 1) (j : Fin 1024) :
    k0_pay13 (F := Ideal) a4 a0 a2 a3 (ix2 i j) = Cert.Reference27Ideal.Value.refDg a0 a1 a2 a3 a4 (ix2 i j) := by
  pointwise [k0_pay5, k0_pay6, k0_pay8, k0_pay9, k0_pay12, k0_pay13, Cert.Reference27Ideal.Value.refDg]

/-- What the kernel stores for the modulation is the reference's gradient. -/
theorem pure_dm (a0 : FVec Ideal S256x1024 .f32) (a1 : FVec Ideal S1x1024 .f32) (a2 a3 : FVec Ideal S1x3072 .f32) (a4 : FVec Ideal S256x1024 .f32) (i : Fin 1) (j : Fin 3072) :
    k0_pay2 (F := Ideal) (k0_pay10 a4) (k0_pay11 a4 a0 a1) (ix2 i j)
      = Cert.Reference27Ideal.Value.refDm a0 a1 a2 a3 a4 (ix2 i j) := by
  pointwise [k0_pay2, k0_pay5, k0_pay6, k0_pay8, k0_pay9, k0_pay10, k0_pay11, Cert.Reference27Ideal.Value.refDm]
  have hj := j.isLt
  by_cases h1 : j.val < 1024
  · have h2 : j.val < 2048 := by omega
    have hd : ¬(1 ≤ j.val / 1024 ∧ j.val / 1024 - 1 < 1) := by omega
    have hc : j.val / 1024 < 1 ∧ j.val % 1024 < 1024 := by omega
    have hm : (⟨j.val % 1024, Nat.mod_lt _ (by decide)⟩ : Fin 1024) = ⟨j.val, h1⟩ := Fin.ext (Nat.mod_eq_of_lt h1)
    simp only [h1, h2, hd, hc, false_and, and_self, ↓reduceDIte, zero_add, hm]
  · by_cases h2 : j.val < 2048
    · have hd : (1 ≤ j.val / 1024 ∧ j.val / 1024 - 1 < 1) ∧ j.val % 1024 < 1024 := by omega
      have hc : ¬(j.val / 1024 < 1) := by omega
      have hm : (⟨j.val % 1024, Nat.mod_lt _ (by decide)⟩ : Fin 1024) = ⟨j.val - 1024, by omega⟩ :=
        Fin.ext (show j.val % 1024 = j.val - 1024 by omega)
      simp only [h1, h2, hd, hc, false_and, and_self, ↓reduceDIte, add_zero, hm]
    · have hd : ¬(1 ≤ j.val / 1024 ∧ j.val / 1024 - 1 < 1) := by omega
      have hc : ¬(j.val / 1024 < 1) := by omega
      simp only [h1, h2, hd, hc, false_and, ↓reduceDIte, add_zero]

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- Argument 0, whole. -/
theorem blk_0 (c : Dev nD) (t : Fin cfg0.N) : iblk m c 0 t = m ((c : Thread nD τ).loc main_arg0) := by
  funext y; blk_point [iblk, V, idx t]
/-- Argument 1, whole. -/
theorem blk_1 (c : Dev nD) (t : Fin cfg0.N) : iblk m c 1 t = m ((c : Thread nD τ).loc main_arg1) := by
  funext y; blk_point [iblk, V, idx t]
/-- Argument 2, whole. -/
theorem blk_2 (c : Dev nD) (t : Fin cfg0.N) : iblk m c 2 t = m ((c : Thread nD τ).loc main_arg2) := by
  funext y; blk_point [iblk, V, idx t]
/-- Argument 3, whole. -/
theorem blk_3 (c : Dev nD) (t : Fin cfg0.N) : iblk m c 3 t = m ((c : Thread nD τ).loc main_arg3) := by
  funext y; blk_point [iblk, V, idx t]
/-- Argument 4, whole. -/
theorem blk_4 (c : Dev nD) (t : Fin cfg0.N) : iblk m c 4 t = m ((c : Thread nD τ).loc main_arg4) := by
  funext y; blk_point [iblk, V, idx t]

/-- The gradient of the rows after the run. -/
theorem final_5 (c : Dev nD) : (dats m 0 c).arrAt 5 (cfgs 0).N
    = Cert.Reference27Ideal.Value.refDx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have key : (outsAt0 m c t).1 = k0_pay1 (F := Ideal) (iblk m c 0 t) (k0_pay6 (iblk m c 0 t)) (k0_pay7 (iblk m c 0 t)) (k0_pay14 (iblk m c 4 t) (iblk m c 1 t) (iblk m c 2 t) (iblk m c 3 t))
      (k0_pay15 (iblk m c 4 t) (iblk m c 0 t) (iblk m c 1 t) (iblk m c 2 t) (iblk m c 3 t)) := by
    funext x; unfold outsAt0; frame_out
  rw [key, blk_0, blk_1, blk_2, blk_3, blk_4]
  idx_vars y
  refine (pure_dx (m ((c : Thread nD τ).loc main_arg0)) (m ((c : Thread nD τ).loc main_arg1)) (m ((c : Thread nD τ).loc main_arg2)) (m ((c : Thread nD τ).loc main_arg3)) (m ((c : Thread nD τ).loc main_arg4)) _ _).trans ?_
  generalize Cert.Reference27Ideal.Value.refDx _ _ _ _ _ = G
  blk_point [idx t]

/-- The gradient of the gain after the run. -/
theorem final_6 (c : Dev nD) : (dats m 0 c).arrAt 6 (cfgs 0).N
    = Cert.Reference27Ideal.Value.refDg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have key : (outsAt0 m c t).2.1 = k0_pay13 (F := Ideal) (iblk m c 4 t) (iblk m c 0 t) (iblk m c 2 t) (iblk m c 3 t) := by
    funext x; unfold outsAt0; frame_out
  rw [key, blk_0, blk_2, blk_3, blk_4]
  idx_vars y
  refine (pure_dg (m ((c : Thread nD τ).loc main_arg0)) (m ((c : Thread nD τ).loc main_arg1)) (m ((c : Thread nD τ).loc main_arg2)) (m ((c : Thread nD τ).loc main_arg3)) (m ((c : Thread nD τ).loc main_arg4)) _ _).trans ?_
  generalize Cert.Reference27Ideal.Value.refDg _ _ _ _ _ = G
  blk_point [idx t]

/-- The gradient of the modulation after the run. -/
theorem final_7 (c : Dev nD) : (dats m 0 c).arrAt 7 (cfgs 0).N
    = Cert.Reference27Ideal.Value.refDm (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  have key : (outsAt0 m c t).2.2 = k0_pay2 (F := Ideal) (k0_pay10 (iblk m c 4 t)) (k0_pay11 (iblk m c 4 t) (iblk m c 0 t) (iblk m c 1 t)) := by
    funext x; unfold outsAt0; frame_out
  rw [key, blk_0, blk_1, blk_4]
  idx_vars y
  refine (pure_dm (m ((c : Thread nD τ).loc main_arg0)) (m ((c : Thread nD τ).loc main_arg1)) (m ((c : Thread nD τ).loc main_arg2)) (m ((c : Thread nD τ).loc main_arg3)) (m ((c : Thread nD τ).loc main_arg4)) _ _).trans ?_
  generalize Cert.Reference27Ideal.Value.refDm _ _ _ _ _ = G
  blk_point [idx t]

end Cert.Kernel27Ideal.Value

namespace Cert.Mm27Claims

/-- The reference ends with its arguments unchanged and every counter at zero. -/
theorem frame_reference : Cert.quiescent_Reference27Ideal := fun m ρ _ =>
  (θ_run Cert.Reference27Ideal.defs _ _).mono
    (fun r h => ⟨fun c => (h c).2.2.2, sem_eq_zero_of_no_sems (by decide) r.2⟩) (Cert.Reference27Ideal.Value.run_ref m ρ)

/-- The kernel over the reals and the reference end with equal results. -/
theorem algebraic : Cert.algebraic_Kernel27Ideal_Reference27Ideal := by
  intro m ρ m' ρ' _ hagree
  refine ⟨_, _, _, Cert.Kernel27Ideal.Value.run_blocks m ρ, ?_⟩
  refine (θ_run Cert.Reference27Ideal.defs _ _).mono
    (fun r h c => ⟨(h c).1.trans ?_, (h c).2.1.trans ?_, (h c).2.2.1.trans ?_, (h c).2.2.2⟩)
    (Cert.Reference27Ideal.Value.run_ref m' ρ')
  all_goals
    obtain ⟨h0, h1, h2, h3, h4⟩ := hagree c
    rw [h0, h1, h2, h3, h4]
  · exact (Cert.Kernel27Ideal.Value.final_5 m c).symm
  · exact (Cert.Kernel27Ideal.Value.final_6 m c).symm
  · exact (Cert.Kernel27Ideal.Value.final_7 m c).symm

end Cert.Mm27Claims

end
-- ==== Proof.Mm28.lean ====
/- Hand-written: the activation of the conditioning, as a function of the argument arrays. -/
module

public import proofs.«01_k».proof.Defs
public import proofs.«01_k».proof.Proof.Gen.Kernel28Ideal.Value
public import proofs.«01_k».proof.Proof.Gen.Reference28Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference28Ideal.Value

open Cert.Reference28Ideal Cert.Reference28Ideal.Gen Idealize.ShloMosaic.StableHlo

/-- The reference's result as a function of its arguments. -/
def ref (a0 : FVec Ideal S16x1024 .f32) : FVec Ideal S16x1024 .f32 :=
  mulf a0 (Host.divf (broadcastInDim S16x1024 ![] bcast_S_S16x1024 (constant S_ .f32 0x3F800000#32)) (addf (broadcastInDim S16x1024 ![] bcast_S_S16x1024 (constant S_ .f32 0x3F800000#32)) (Host.exp (Host.negf a0))))

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = ref (m ((c.tc : Thread nD τ).loc main_arg0))
      ∧ r.2.mem ((c.tc : Thread nD τ).loc main_arg0) = m ((c.tc : Thread nD τ).loc main_arg0) :=
  run m ρ

end Cert.Reference28Ideal.Value

namespace Cert.Kernel28Ideal.Value

open Cert.Kernel28Ideal Cert.Kernel28Ideal.Gen

/-- What the kernel stores is the reference's value. -/
theorem pure (a0 : FVec Ideal S16x1024 .f32) (r : Fin 16) (s : Fin 1024) :
    k0_pay1 (F := Ideal) a0 (ix2 r s) = Cert.Reference28Ideal.Value.ref a0 (ix2 r s) := by
  pointwise [k0_pay1, Cert.Reference28Ideal.Value.ref]
  rfl

variable (m : (ℓ : Loc nD τ sig) → Buf (Elt Ideal) ℓ)

/-- The index maps of the windows, decided at every grid point. -/
theorem idx : ∀ t : Fin cfg0.N, win0_0.index t = ![0, 0] ∧ win0_1.index t = ![0, 0] :=
  (by decide +kernel : ∀ t : Fin grid0.N, _)

/-- Argument 0, whole. -/
theorem blk_0 (c : Dev nD) (t : Fin cfg0.N) : iblk m c 0 t = m ((c : Thread nD τ).loc main_arg0) := by
  funext y; blk_point [iblk, V, idx t]

/-- The result after the run. -/
theorem final (c : Dev nD) : (dats m 0 c).arrAt 1 (cfgs 0).N
    = Cert.Reference28Ideal.Value.ref (m ((c : Thread nD τ).loc main_arg0)) := by
  refine (dats m 0 c).arrAt_eq_of_covers 1 _ (by decide +kernel) fun t hf y => ?_
  blk_simp
  rw [after0_1]
  frame_out
  rw [blk_0]
  idx_vars y
  refine (pure _ _ _).trans ?_
  generalize Cert.Reference28Ideal.Value.ref _ = G
  blk_point [idx t]

end Cert.Kernel28Ideal.Value

namespace Cert.Mm28Claims

/-- The reference ends with its arguments unchanged and every counter at zero. -/
theorem frame_reference : Cert.quiescent_Reference28Ideal := fun m ρ _ =>
  (θ_run Cert.Reference28Ideal.defs _ _).mono
    (fun r h => ⟨fun c => (h c).2, sem_eq_zero_of_no_sems (by decide) r.2⟩) (Cert.Reference28Ideal.Value.run_ref m ρ)

/-- The kernel over the reals and the reference end with equal results. -/
theorem algebraic : Cert.algebraic_Kernel28Ideal_Reference28Ideal := by
  intro m ρ m' ρ' _ hagree
  refine ⟨_, Cert.Kernel28Ideal.Value.run_blocks m ρ, ?_⟩
  refine (θ_run Cert.Reference28Ideal.defs _ _).mono
    (fun r h c => ⟨(h c).1.trans ?_, (h c).2⟩)
    (Cert.Reference28Ideal.Value.run_ref m' ρ')
  have h0 := hagree c
  rw [h0]
  exact (Cert.Kernel28Ideal.Value.final m c).symm

end Cert.Mm28Claims

end
-- ==== Proof.Mm29.lean ====
/- Hand-written: the gradient through the activation of the conditioning, as a function of the argument arrays. -/
module

public import proofs.«01_k».proof.Defs
public import proofs.«01_k».proof.Proof.Gen.Kernel29Ideal.Value
public import proofs.«01_k».proof.Proof.Gen.Reference29Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference29Ideal.Value

open Cert.Reference29Ideal Cert.Reference29Ideal.Gen Idealize.ShloMosaic.StableHlo

/-- The reference's result as a function of its arguments. -/
def ref (a0 : FVec Ideal S8x1024 .f32) (a1 : FVec Ideal S8x1024 .f32) : FVec Ideal S8x1024 .f32 :=
  addf (mulf a1 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) (mulf (mulf a0 a1) (mulf (Host.divf (broadcastInDim S8x1024 ![] bcast_S_S8x1024 (constant S_ .f32 0x3F800000#32)) (addf (broadcastInDim S8x1024 ![] bcast_S_S8x1024 (constant S_ .f32 0x3F800000#32)) (Host.exp (Host.negf a0)))) (subf (broadcastInDim S8x1024 ![] bcast_S_S8x1024 (constant S_ .f32 0x3F800000#32)) (Host.divf (broadcastInDim S8x1024 ![] bcast_S_S8x1024 (constant S_ .f32 0x3F800000#32)) (addf (broadcastInDim S8x1024 ![] bcast_S_S8x1024 (constant S_ .f32 0x3F800000#32)) (Host.exp (Host.negf a0)))))))

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference29Ideal.Value

namespace Cert.Kernel29Ideal.Value

open Cert.Kernel29Ideal Cert.Kernel29Ideal.Gen

/-- What the kernel stores is the reference's value. -/
theorem pure (a0 : FVec Ideal S8x1024 .f32) (a1 : FVec Ideal S8x1024 .f32) (r : Fin 8) (s : Fin 1024) :
    k0_pay1 (F := Ideal) a0 a1 (ix2 r s) = Cert.Reference29Ideal.Value.ref a0 a1 (ix2 r s) := by
  pointwise [k0_pay1, Cert.Reference29Ideal.Value.ref]
  rfl

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0] :=
  (by decide +kernel : ∀ t : Fin grid0.N, _)

/-- Argument 0, whole. -/
theorem blk_0 (c : Dev nD) (t : Fin cfg0.N) : iblk m c 0 t = m ((c : Thread nD τ).loc main_arg0) := by
  funext y; blk_point [iblk, V, idx t]
/-- Argument 1, whole. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference29Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ _ _).trans ?_
  generalize Cert.Reference29Ideal.Value.ref _ _ = G
  blk_point [idx t]

end Cert.Kernel29Ideal.Value

namespace Cert.Mm29Claims

/-- The reference ends with its arguments unchanged and every counter at zero. -/
theorem frame_reference : Cert.quiescent_Reference29Ideal := fun m ρ _ =>
  (θ_run Cert.Reference29Ideal.defs _ _).mono
    (fun r h => ⟨fun c => (h c).2, sem_eq_zero_of_no_sems (by decide) r.2⟩) (Cert.Reference29Ideal.Value.run_ref m ρ)

/-- The kernel over the reals and the reference end with equal results. -/
theorem algebraic : Cert.algebraic_Kernel29Ideal_Reference29Ideal := by
  intro m ρ m' ρ' _ hagree
  refine ⟨_, Cert.Kernel29Ideal.Value.run_blocks m ρ, ?_⟩
  refine (θ_run Cert.Reference29Ideal.defs _ _).mono
    (fun r h c => ⟨(h c).1.trans ?_, (h c).2⟩)
    (Cert.Reference29Ideal.Value.run_ref m' ρ')
  obtain ⟨h0, h1⟩ := hagree c
  rw [h0, h1]
  exact (Cert.Kernel29Ideal.Value.final m c).symm

end Cert.Mm29Claims

end
-- ==== Proof.Mm30.lean ====
/- Hand-written: the modulation's product, as a function of the argument arrays. -/
module

public import proofs.«01_k».proof.Defs
public import proofs.«01_k».proof.Proof.Gen.Kernel30Ideal.Value
public import proofs.«01_k».proof.Proof.Gen.Reference30Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference30Ideal.Value

open Cert.Reference30Ideal Cert.Reference30Ideal.Gen Idealize.ShloMosaic.StableHlo

/-- The reference's result as a function of its arguments. -/
def ref (a0 : FVec Ideal S16x1024 .f32) (a1 : FVec Ideal S4x1024x768 .bf16) : FVec Ideal S16x3072 .f32 :=
  Host.dotGeneral dot_S16x1024_S1024x3072_S16x3072_1_0_0_1_n_n none a0 (extf .f32 ((concatenate S1024x3072 1 [⟨S1024x768, ((shapeCast _ (extractStridedSlice S1x1024x768 ![0, 0, 0] a1 slices_S4x1024x768_S1x1024x768_0_0_0) shapeCasts_S1x1024x768_S1024x768) : (⟨S1024x768, .bf16⟩ : BufTy).Contents (Elt Ideal))⟩, ⟨S1024x768, ((shapeCast _ (extractStridedSlice S1x1024x768 ![1, 0, 0] a1 slices_S4x1024x768_S1x1024x768_1_0_0) shapeCasts_S1x1024x768_S1024x768) : (⟨S1024x768, .bf16⟩ : BufTy).Contents (Elt Ideal))⟩, ⟨S1024x768, ((shapeCast _ (extractStridedSlice S1x1024x768 ![2, 0, 0] a1 slices_S4x1024x768_S1x1024x768_2_0_0) shapeCasts_S1x1024x768_S1024x768) : (⟨S1024x768, .bf16⟩ : BufTy).Contents (Elt Ideal))⟩, ⟨S1024x768, ((shapeCast _ (extractStridedSlice S1x1024x768 ![3, 0, 0] a1 slices_S4x1024x768_S1x1024x768_3_0_0) shapeCasts_S1x1024x768_S1024x768) : (⟨S1024x768, .bf16⟩ : BufTy).Contents (Elt Ideal))⟩] concatenates_S1024x768_S1024x768_S1024x768_S1024x768_S1024x3072_d1 : (⟨S1024x3072, .bf16⟩ : BufTy).Contents (Elt Ideal))) bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference30Ideal.Value

namespace Cert.Kernel30Ideal.Value

open Cert.Kernel30Ideal Cert.Kernel30Ideal.Gen

/-- Of four blocks of 768 columns laid side by side, the one a column lies in. -/
theorem pick (j : Fin 4) (s : Fin 768) (f : Fin 4 → Fin 768 → EReal) (n : ℕ) (hn : n = j.val * 768 + s.val) :
    (if h : n < 768 then f 0 ⟨n, h⟩ else if h : n - 768 < 768 then f 1 ⟨n - 768, h⟩
      else if h : n - 768 - 768 < 768 then f 2 ⟨n - 768 - 768, h⟩ else f 3 ⟨n - 768 - 768 - 768, by have := j.isLt; have := s.isLt; omega⟩) = f j s := by
  have hj := j.isLt
  have hs := s.isLt
  split_ifs with h1 h2 h3
  · exact congrArg₂ f (Fin.ext (show 0 = j.val by omega)) (Fin.ext (show n = s.val by omega))
  · exact congrArg₂ f (Fin.ext (show 1 = j.val by omega)) (Fin.ext (show n - 768 = s.val by omega))
  · exact congrArg₂ f (Fin.ext (show 2 = j.val by omega)) (Fin.ext (show n - 768 - 768 = s.val by omega))
  · exact congrArg₂ f (Fin.ext (show 3 = j.val by omega)) (Fin.ext (show n - 768 - 768 - 768 = s.val by omega))

/-- The section `j` of the weight. -/
def tile (j : Fin 4) (a : FVec Ideal S4x1024x768 .bf16) : FVec Ideal S1x1024x768 .bf16 :=
  fun y => a (ix3 j (y 1) (y 2))

/-- What a point stores is the reference's product at the same columns. -/
theorem pure (a0 : FVec Ideal S16x1024 .f32) (a1 : FVec Ideal S4x1024x768 .bf16) (j : Fin 4) (r : Fin 16) (s : Fin 768) :
    k0_pay1 (F := Ideal) (tile j a1) a0 (ix2 r s)
      = Cert.Reference30Ideal.Value.ref a0 a1 (ix2 r ⟨j.val * 768 + s.val, by omega⟩) := by
  pointwise [k0_pay1, tile, Cert.Reference30Ideal.Value.ref]
  exact Finset.sum_congr rfl fun x _ => congrArg (_ * ·) (pick j s (fun q k => a1 (ix3 q x k)) _ rfl).symm

variable (m : (ℓ : Loc nD τ sig) → Buf (Elt Ideal) ℓ)

/-- The index maps of the windows, decided at every grid point. -/
theorem idx : ∀ t : Fin cfg0.N, win0_0.index t = ![0, 0] ∧ win0_1.index t = ![t.val, 0, 0] ∧ win0_2.index t = ![0, t.val] :=
  (by decide +kernel : ∀ t : Fin grid0.N, _)

/-- The number of the section at a point. -/
def row (t : Fin cfg0.N) : Fin 4 := ⟨t.val, lt_of_lt_of_eq t.isLt N_0⟩

/-- The rows, whole at every point. -/
theorem blk_0 (c : Dev nD) (t : Fin cfg0.N) : iblk m c 0 t = m ((c : Thread nD τ).loc main_arg0) := by
  funext y; blk_point [iblk, V, idx t]
/-- The section of the weight at a point. -/
theorem blk_1 (c : Dev nD) (t : Fin cfg0.N) : iblk m c 1 t = tile (row t) (m ((c : Thread nD τ).loc main_arg1)) := by
  funext y; blk_point [iblk, V, tile, row, idx t]

/-- The result after the run. -/
theorem final (c : Dev nD) : (dats m 0 c).arrAt 2 (cfgs 0).N
    = Cert.Reference30Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ (row t) _ _).trans ?_
  generalize Cert.Reference30Ideal.Value.ref _ _ = G
  blk_point [row, idx t]

end Cert.Kernel30Ideal.Value

namespace Cert.Mm30Claims

/-- The reference ends with its arguments unchanged and every counter at zero. -/
theorem frame_reference : Cert.quiescent_Reference30Ideal := fun m ρ _ =>
  (θ_run Cert.Reference30Ideal.defs _ _).mono
    (fun r h => ⟨fun c => (h c).2, sem_eq_zero_of_no_sems (by decide) r.2⟩) (Cert.Reference30Ideal.Value.run_ref m ρ)

/-- The kernel over the reals and the reference end with equal results. -/
theorem algebraic : Cert.algebraic_Kernel30Ideal_Reference30Ideal := by
  intro m ρ m' ρ' _ hagree
  refine ⟨_, Cert.Kernel30Ideal.Value.run_blocks m ρ, ?_⟩
  refine (θ_run Cert.Reference30Ideal.defs _ _).mono
    (fun r h c => ⟨(h c).1.trans ?_, (h c).2⟩)
    (Cert.Reference30Ideal.Value.run_ref m' ρ')
  obtain ⟨h0, h1⟩ := hagree c
  rw [h0, h1]
  exact (Cert.Kernel30Ideal.Value.final m c).symm

end Cert.Mm30Claims

end
-- ==== Proof.Mm31.lean ====
/- Hand-written: the gradient of the conditioning through the modulation's product, as a function of the argument arrays. -/
module

public import proofs.«01_k».proof.Defs
public import proofs.«01_k».proof.Proof.Gen.Kernel31Ideal.Value
public import proofs.«01_k».proof.Proof.Gen.Reference31Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference31Ideal.Value

open Cert.Reference31Ideal Cert.Reference31Ideal.Gen Idealize.ShloMosaic.StableHlo

/-- The reference's result as a function of its arguments. -/
def ref (a0 : FVec Ideal S16x3072 .f32) (a1 : FVec Ideal S4x1024x768 .bf16) : FVec Ideal S16x1024 .f32 :=
  Host.dotGeneral dot_S16x3072_S1024x3072_S16x1024_1_1_0_0_n_n none a0 (extf .f32 ((concatenate S1024x3072 1 [⟨S1024x768, ((shapeCast _ (extractStridedSlice S1x1024x768 ![0, 0, 0] a1 slices_S4x1024x768_S1x1024x768_0_0_0) shapeCasts_S1x1024x768_S1024x768) : (⟨S1024x768, .bf16⟩ : BufTy).Contents (Elt Ideal))⟩, ⟨S1024x768, ((shapeCast _ (extractStridedSlice S1x1024x768 ![1, 0, 0] a1 slices_S4x1024x768_S1x1024x768_1_0_0) shapeCasts_S1x1024x768_S1024x768) : (⟨S1024x768, .bf16⟩ : BufTy).Contents (Elt Ideal))⟩, ⟨S1024x768, ((shapeCast _ (extractStridedSlice S1x1024x768 ![2, 0, 0] a1 slices_S4x1024x768_S1x1024x768_2_0_0) shapeCasts_S1x1024x768_S1024x768) : (⟨S1024x768, .bf16⟩ : BufTy).Contents (Elt Ideal))⟩, ⟨S1024x768, ((shapeCast _ (extractStridedSlice S1x1024x768 ![3, 0, 0] a1 slices_S4x1024x768_S1x1024x768_3_0_0) shapeCasts_S1x1024x768_S1024x768) : (⟨S1024x768, .bf16⟩ : BufTy).Contents (Elt Ideal))⟩] concatenates_S1024x768_S1024x768_S1024x768_S1024x768_S1024x3072_d1 : (⟨S1024x3072, .bf16⟩ : BufTy).Contents (Elt Ideal))) bitsLt_bf16_f32)

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference31Ideal.Value

namespace Cert.Kernel31Ideal.Value

open Cert.Kernel31Ideal Cert.Kernel31Ideal.Gen

/-- The block `j` of 768 columns of the cotangent. -/
def tileA (j : Fin 4) (a : FVec Ideal S16x3072 .f32) : FVec Ideal S16x768 .f32 :=
  fun y => a (ix2 (y 0) ⟨j.val * 768 + (y 1).val, by have := j.isLt; have h : (y 1).val < 768 := (y 1).isLt; omega⟩)

/-- Of four blocks of 768 columns laid side by side, the one a column lies in. -/
theorem pick (j : Fin 4) (s : Fin 768) (f : Fin 4 → Fin 768 → EReal) (n : ℕ) (hn : n = j.val * 768 + s.val) :
    (if h : n < 768 then f 0 ⟨n, h⟩ else if h : n - 768 < 768 then f 1 ⟨n - 768, h⟩
      else if h : n - 768 - 768 < 768 then f 2 ⟨n - 768 - 768, h⟩ else f 3 ⟨n - 768 - 768 - 768, by have := j.isLt; have := s.isLt; omega⟩) = f j s := by
  have hj := j.isLt
  have hs := s.isLt
  split_ifs with h1 h2 h3
  · exact congrArg₂ f (Fin.ext (show 0 = j.val by omega)) (Fin.ext (show n = s.val by omega))
  · exact congrArg₂ f (Fin.ext (show 1 = j.val by omega)) (Fin.ext (show n - 768 = s.val by omega))
  · exact congrArg₂ f (Fin.ext (show 2 = j.val by omega)) (Fin.ext (show n - 768 - 768 = s.val by omega))
  · exact congrArg₂ f (Fin.ext (show 3 = j.val by omega)) (Fin.ext (show n - 768 - 768 - 768 = s.val by omega))

/-- The section `j` of the weight. -/
def tileB (j : Fin 4) (a : FVec Ideal S4x1024x768 .bf16) : FVec Ideal S1x1024x768 .bf16 :=
  fun y => a (ix3 j (y 1) (y 2))

/-- The four sections added up are the reference's gradient. -/
theorem pure (a0 : FVec Ideal S16x3072 .f32) (a1 : FVec Ideal S4x1024x768 .bf16) (r : Fin 16) (s : Fin 1024) :
    k0_pay4 (F := Ideal) (tileB 3 a1) (tileA 3 a0) (k0_pay3 (F := Ideal) (tileB 2 a1) (tileA 2 a0) (k0_pay3 (F := Ideal) (tileB 1 a1) (tileA 1 a0)
        (k0_pay2 (F := Ideal) (tileB 0 a1) (tileA 0 a0)))) (ix2 r s)
      = Cert.Reference31Ideal.Value.ref a0 a1 (ix2 r s) := by
  pointwise [k0_pay4, k0_pay3, k0_pay2, k0_pay1, tileA, tileB, Cert.Reference31Ideal.Value.ref]
  rw [Fin.sum_univ_tiles 4 768 rfl, Fin.sum_univ_four]
  exact congrArg₂ (· + ·) (congrArg₂ (· + ·) (congrArg₂ (· + ·)
    (Finset.sum_congr rfl fun x _ => congrArg₂ (· * ·) (by simp only [Fin.val_zero, Nat.zero_mul, Nat.zero_add]) (pick 0 x (fun q k => a1 (ix3 q s k)) _ rfl).symm)
    (Finset.sum_congr rfl fun x _ => congrArg₂ (· * ·) (by simp only [Fin.val_one, Nat.one_mul]) (pick 1 x (fun q k => a1 (ix3 q s k)) _ rfl).symm))
    (Finset.sum_congr rfl fun x _ => congrArg₂ (· * ·) rfl (pick 2 x (fun q k => a1 (ix3 q s k)) _ rfl).symm))
    (Finset.sum_congr rfl fun x _ => congrArg₂ (· * ·) rfl (pick 3 x (fun q k => a1 (ix3 q s k)) _ rfl).symm)

variable (m : (ℓ : Loc nD τ sig) → Buf (Elt Ideal) ℓ)

/-- The index maps of the windows, decided at every grid point. -/
theorem idx : ∀ t : Fin cfg0.N, win0_0.index t = ![0, t.val] ∧ win0_1.index t = ![t.val, 0, 0] ∧ win0_2.index t = ![0, 0] :=
  (by decide +kernel : ∀ t : Fin grid0.N, _)

/-- The number of the section at a point. -/
def row (t : Fin cfg0.N) : Fin 4 := ⟨t.val, lt_of_lt_of_eq t.isLt N_0⟩

/-- The block of the cotangent at a point. -/
theorem blk_0 (c : Dev nD) (t : Fin cfg0.N) : iblk m c 0 t = tileA (row t) (m ((c : Thread nD τ).loc main_arg0)) := by
  funext y; blk_point [iblk, V, tileA, row, idx t]
/-- The section of the weight at a point. -/
theorem blk_1 (c : Dev nD) (t : Fin cfg0.N) : iblk m c 1 t = tileB (row t) (m ((c : Thread nD τ).loc main_arg1)) := by
  funext y; blk_point [iblk, V, tileB, row, idx t]

/-- What the first point leaves in the accumulator. -/
theorem acc_first (c : Dev nD) (t : Fin cfg0.N) (h : t.val % 4 = 0) :
    (outsAt0 m c t.val t.isLt).2 = k0_pay2 (F := Ideal) (iblk m c 1 t) (iblk m c 0 t) := by
  funext x; rw [outsAt0_A m c t h (by omega) (by omega)]; frame_out

/-- What a middle point leaves in the accumulator. -/
theorem acc_next (c : Dev nD) (t : Fin cfg0.N) (h : 1 ≤ t.val % 4 ∧ t.val % 4 ≤ 2) :
    (outsAt0 m c t.val t.isLt).2 = k0_pay3 (F := Ideal) (iblk m c 1 t) (iblk m c 0 t)
      (outsAt0 m c (t.val - 1) (Nat.lt_of_le_of_lt (Nat.sub_le _ _) t.isLt)).2 := by
  funext x; rw [outsAt0_B m c t (by omega) h (by omega)]; frame_out; rw [read_unread_whole]

/-- What the last point stores. -/
theorem out_last (c : Dev nD) (t : Fin cfg0.N) (h : t.val % 4 = 3) :
    (outsAt0 m c t.val t.isLt).1 = k0_pay4 (F := Ideal) (iblk m c 1 t) (iblk m c 0 t)
      (outsAt0 m c (t.val - 1) (Nat.lt_of_le_of_lt (Nat.sub_le _ _) t.isLt)).2 := by
  funext x; rw [outsAt0_C m c t (by omega) (by omega) h]; frame_out; rw [read_unread_whole]

/-- The result after the run. -/
theorem final (c : Dev nD) : (dats m 0 c).arrAt 2 (cfgs 0).N
    = Cert.Reference31Ideal.Value.ref (m ((c : Thread nD τ).loc main_arg0)) (m ((c : Thread nD τ).loc main_arg1)) := by
  refine (dats m 0 c).arrAt_eq_of_after_last 2 t0_3 (by decide +kernel) _ fun j => ?_
  blk_simp
  have e2 : (outsAt0 m c (t0_3.val - 1) (Nat.lt_of_le_of_lt (Nat.sub_le _ _) t0_3.isLt)).2 = _ := acc_next m c t0_2 (by decide)
  have e1 : (outsAt0 m c (t0_2.val - 1) (Nat.lt_of_le_of_lt (Nat.sub_le _ _) t0_2.isLt)).2 = _ := acc_next m c t0_1 (by decide)
  have e0 : (outsAt0 m c (t0_1.val - 1) (Nat.lt_of_le_of_lt (Nat.sub_le _ _) t0_1.isLt)).2 = _ := acc_first m c t0_0 rfl
  rw [after0_2, out_last m c t0_3 rfl, e2, e1, e0]
  simp only [blk_0, blk_1]
  idx_vars j
  exact pure _ _ _ _

end Cert.Kernel31Ideal.Value

namespace Cert.Mm31Claims

/-- The reference ends with its arguments unchanged and every counter at zero. -/
theorem frame_reference : Cert.quiescent_Reference31Ideal := fun m ρ _ =>
  (θ_run Cert.Reference31Ideal.defs _ _).mono
    (fun r h => ⟨fun c => (h c).2, sem_eq_zero_of_no_sems (by decide) r.2⟩) (Cert.Reference31Ideal.Value.run_ref m ρ)

/-- The kernel over the reals and the reference end with equal results. -/
theorem algebraic : Cert.algebraic_Kernel31Ideal_Reference31Ideal := by
  intro m ρ m' ρ' _ hagree
  refine ⟨_, Cert.Kernel31Ideal.Value.run_blocks m ρ, ?_⟩
  refine (θ_run Cert.Reference31Ideal.defs _ _).mono
    (fun r h c => ⟨(h c).1.trans ?_, (h c).2⟩)
    (Cert.Reference31Ideal.Value.run_ref m' ρ')
  obtain ⟨h0, h1⟩ := hagree c
  rw [h0, h1]
  exact (Cert.Kernel31Ideal.Value.final m c).symm

end Cert.Mm31Claims

end
-- ==== Proof.Mm32.lean ====
/- Hand-written: the gradient of the modulation's weight, as a function of the argument arrays. -/
module

public import proofs.«01_k».proof.Defs
public import proofs.«01_k».proof.Proof.Gen.Kernel32Ideal.Value
public import proofs.«01_k».proof.Proof.Gen.Reference32Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference32Ideal.Value

open Cert.Reference32Ideal Cert.Reference32Ideal.Gen Idealize.ShloMosaic.StableHlo

/-- The reference's result as a function of its arguments. -/
def ref (a0 : FVec Ideal S16x1024 .f32) (a1 : FVec Ideal S16x768 .f32) : FVec Ideal S1024x768 .f32 :=
  transpose S1024x768 [1, 0] (Host.dotGeneral dot_S16x768_S16x1024_S768x1024_0_0_1_1_n_n none a1 a0) transposes_S768x1024_S1024x768_1_0

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference32Ideal.Value

namespace Cert.Kernel32Ideal.Value

open Cert.Kernel32Ideal Cert.Kernel32Ideal.Gen

/-- What a point stores is the reference's product at the same place. -/
theorem pure (a0 : FVec Ideal S16x1024 .f32) (a1 : FVec Ideal S16x768 .f32) (r : Fin 1024) (s : Fin 768) :
    k0_pay1 (F := Ideal) a1 a0 (ix2 r s)
      = Cert.Reference32Ideal.Value.ref a0 a1 (ix2 r s) := by
  pointwise [k0_pay1, Cert.Reference32Ideal.Value.ref]
  exact Finset.sum_congr rfl fun x _ => mul_comm _ _

variable (m : (ℓ : Loc nD τ sig) → Buf (Elt Ideal) ℓ)

/-- The index maps of the windows, decided at every grid point. -/
theorem idx : ∀ t : Fin cfg0.N, win0_0.index t = ![0, 0] ∧ win0_1.index t = ![0, 0] ∧ win0_2.index t = ![0, 0] :=
  (by decide +kernel : ∀ t : Fin grid0.N, _)

/-- Argument 0, whole at every point. -/
theorem blk_0 (c : Dev nD) (t : Fin cfg0.N) : iblk m c 0 t = m ((c : Thread nD τ).loc main_arg0) := by
  funext y; blk_point [iblk, V, idx t]
/-- Argument 1, whole at every point. -/
theorem blk_1 (c : Dev nD) (t : Fin cfg0.N) : iblk m c 1 t = m ((c : Thread nD τ).loc main_arg1) := by
  funext y; blk_point [iblk, V, idx t]

/-- The result after the run. -/
theorem final (c : Dev nD) : (dats m 0 c).arrAt 2 (cfgs 0).N
    = Cert.Reference32Ideal.Value.ref (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [blk_0, blk_1]
  idx_vars y
  refine (pure _ _ _ _).trans ?_
  generalize Cert.Reference32Ideal.Value.ref _ _ = G
  blk_point [idx t]

end Cert.Kernel32Ideal.Value

namespace Cert.Mm32Claims

/-- The reference ends with its arguments unchanged and every counter at zero. -/
theorem frame_reference : Cert.quiescent_Reference32Ideal := fun m ρ _ =>
  (θ_run Cert.Reference32Ideal.defs _ _).mono
    (fun r h => ⟨fun c => (h c).2, sem_eq_zero_of_no_sems (by decide) r.2⟩) (Cert.Reference32Ideal.Value.run_ref m ρ)

/-- The kernel over the reals and the reference end with equal results. -/
theorem algebraic : Cert.algebraic_Kernel32Ideal_Reference32Ideal := by
  intro m ρ m' ρ' _ hagree
  refine ⟨_, Cert.Kernel32Ideal.Value.run_blocks m ρ, ?_⟩
  refine (θ_run Cert.Reference32Ideal.defs _ _).mono
    (fun r h c => ⟨(h c).1.trans ?_, (h c).2⟩)
    (Cert.Reference32Ideal.Value.run_ref m' ρ')
  obtain ⟨h0, h1⟩ := hagree c
  rw [h0, h1]
  exact (Cert.Kernel32Ideal.Value.final m c).symm

end Cert.Mm32Claims

end
-- ==== Proof.Gates.lean ====
/- Hand-written: running sums inside a chunk of 64 rows, as windows and as masked products. -/
module

public import Idealize.ShloMosaic.Lib.Pointwise
public import Idealize.ShloMosaic.Lib.IdealHost
public import Idealize.ShloMosaic.PureOps

@[expose] public section

set_option maxRecDepth 16384

noncomputable section

open Idealize.ShloMosaic

namespace Cert.Gates

/-- A left fold that adds is the start plus the sum. -/
theorem fold_add {ι : Type} (l : List ι) (f : ι → EReal) (v : EReal) :
    l.foldl (fun r i => r + f i) v = v + (l.map f).sum := by
  induction l generalizing v with
  | nil => simp
  | cons a l ih => rw [List.foldl_cons, ih, List.map_cons, List.sum_cons, add_assoc]

/-- The positions of a window of one row, 64 places and one column, by the place. -/
def middle : Shape.Idx ⟨3, ![1, 64, 1]⟩ ≃ Fin 64 where
  toFun w := w 1
  invFun k := ix3 0 k 0
  left_inv w := by
    funext a
    match a with
    | ⟨0, _⟩ => exact Fin.ext (by have h : (w 0).val < 1 := (w 0).isLt; show 0 = (w 0).val; omega)
    | ⟨1, _⟩ => rfl
    | ⟨2, _⟩ => exact Fin.ext (by have h : (w 2).val < 1 := (w 2).isLt; show 0 = (w 2).val; omega)
  right_inv _ := rfl

/-- A window of 64 positions along the middle axis, padded by 63 rows before: the sum of the rows up to the position. -/
theorem window_up {A : ℕ} (x : FVec Ideal ⟨3, ![A, 64, 8]⟩ .f32) (init : FVec Ideal ⟨0, ![]⟩ .f32)
    (h : Shape.ReduceWindows (s := ⟨3, ![A, 64, 8]⟩) ![1, 64, 1] ![1, 1, 1] ![0, 63, 0] ![0, 0, 0] ⟨3, ![A, 64, 8]⟩)
    (hu : 0 < Shape.numel ⟨0, ![]⟩) (hi : init (Shape.Idx.first hu) = 0) (c : Fin A) (p : Fin 64) (s : Fin 8) :
    Host.reduceWindowAdd ![1, 64, 1] ![1, 1, 1] ![0, 63, 0] ![0, 0, 0] x init h hu (ix3 c p s)
      = ∑ j : Fin 64, if j.val ≤ p.val then x (ix3 c j s) else 0 := by
  unfold Host.reduceWindowAdd
  rw [Ideal.hostReduceWindowAdd_def]
  unfold Ideal.hostReduceWindowAdd Host.reduceWindow
  dsimp only
  rw [fold_add, ← Fin.sum_univ_def, hi, zero_add]
  refine Fintype.sum_equiv (((Shape.rowMajor ⟨3, ![1, 64, 1]⟩).symm.trans middle).trans (Equiv.addRight (p + 1))) _ _ fun n => ?_
  obtain ⟨j, hj⟩ : ∃ j : Fin 64, j = (((Shape.rowMajor ⟨3, ![1, 64, 1]⟩).symm.trans middle).trans (Equiv.addRight (p + 1))) n := ⟨_, rfl⟩
  rw [← hj]
  have hjv : j.val = ((((Shape.rowMajor ⟨3, ![1, 64, 1]⟩).symm n) 1).val + (p.val + 1)) % 64 := by
    rw [hj]
    show (middle (((Shape.rowMajor ⟨3, ![1, 64, 1]⟩).symm n)) + (p + 1)).val = ((middle (((Shape.rowMajor ⟨3, ![1, 64, 1]⟩).symm n))).val + (p.val + 1)) % 64
    generalize middle (((Shape.rowMajor ⟨3, ![1, 64, 1]⟩).symm n)) = k
    simp [Fin.val_add]
  clear hj
  have hp := p.isLt
  have hc := c.isLt
  have hs := s.isLt
  have h0 : (((Shape.rowMajor ⟨3, ![1, 64, 1]⟩).symm n) 0).val < 1 := (((Shape.rowMajor ⟨3, ![1, 64, 1]⟩).symm n) 0).isLt
  have h1 : (((Shape.rowMajor ⟨3, ![1, 64, 1]⟩).symm n) 1).val < 64 := (((Shape.rowMajor ⟨3, ![1, 64, 1]⟩).symm n) 1).isLt
  have h2 : (((Shape.rowMajor ⟨3, ![1, 64, 1]⟩).symm n) 2).val < 1 := (((Shape.rowMajor ⟨3, ![1, 64, 1]⟩).symm n) 2).isLt
  by_cases hk : 63 ≤ p.val + (((Shape.rowMajor ⟨3, ![1, 64, 1]⟩).symm n) 1).val
  · rw [dif_pos, if_pos (by omega)]
    · refine congrArg x (funext fun a => Fin.ext ?_)
      match a with
      | ⟨0, _⟩ => show c.val * 1 + (((Shape.rowMajor ⟨3, ![1, 64, 1]⟩).symm n) 0).val - 0 = c.val; omega
      | ⟨1, _⟩ => show p.val * 1 + (((Shape.rowMajor ⟨3, ![1, 64, 1]⟩).symm n) 1).val - 63 = j.val; omega
      | ⟨2, _⟩ => show s.val * 1 + (((Shape.rowMajor ⟨3, ![1, 64, 1]⟩).symm n) 2).val - 0 = s.val; omega
    · intro a
      match a with
      | ⟨0, _⟩ => show 0 ≤ c.val * 1 + (((Shape.rowMajor ⟨3, ![1, 64, 1]⟩).symm n) 0).val ∧ c.val * 1 + (((Shape.rowMajor ⟨3, ![1, 64, 1]⟩).symm n) 0).val - 0 < A; omega
      | ⟨1, _⟩ => show 63 ≤ p.val * 1 + (((Shape.rowMajor ⟨3, ![1, 64, 1]⟩).symm n) 1).val ∧ p.val * 1 + (((Shape.rowMajor ⟨3, ![1, 64, 1]⟩).symm n) 1).val - 63 < 64; omega
      | ⟨2, _⟩ => show 0 ≤ s.val * 1 + (((Shape.rowMajor ⟨3, ![1, 64, 1]⟩).symm n) 2).val ∧ s.val * 1 + (((Shape.rowMajor ⟨3, ![1, 64, 1]⟩).symm n) 2).val - 0 < 8; omega
  · rw [dif_neg, if_neg (by omega)]
    intro hin
    have hw : 63 ≤ p.val * 1 + (((Shape.rowMajor ⟨3, ![1, 64, 1]⟩).symm n) 1).val ∧ p.val * 1 + (((Shape.rowMajor ⟨3, ![1, 64, 1]⟩).symm n) 1).val - 63 < 64 := hin 1
    omega

/-- A window of 64 positions along the middle axis, padded by 63 rows after: the sum of the rows from the position on. -/
theorem window_down {A : ℕ} (x : FVec Ideal ⟨3, ![A, 64, 8]⟩ .f32) (init : FVec Ideal ⟨0, ![]⟩ .f32)
    (h : Shape.ReduceWindows (s := ⟨3, ![A, 64, 8]⟩) ![1, 64, 1] ![1, 1, 1] ![0, 0, 0] ![0, 63, 0] ⟨3, ![A, 64, 8]⟩)
    (hu : 0 < Shape.numel ⟨0, ![]⟩) (hi : init (Shape.Idx.first hu) = 0) (c : Fin A) (p : Fin 64) (s : Fin 8) :
    Host.reduceWindowAdd ![1, 64, 1] ![1, 1, 1] ![0, 0, 0] ![0, 63, 0] x init h hu (ix3 c p s)
      = ∑ j : Fin 64, if p.val ≤ j.val then x (ix3 c j s) else 0 := by
  unfold Host.reduceWindowAdd
  rw [Ideal.hostReduceWindowAdd_def]
  unfold Ideal.hostReduceWindowAdd Host.reduceWindow
  dsimp only
  rw [fold_add, ← Fin.sum_univ_def, hi, zero_add]
  refine Fintype.sum_equiv (((Shape.rowMajor ⟨3, ![1, 64, 1]⟩).symm.trans middle).trans (Equiv.addRight p)) _ _ fun n => ?_
  obtain ⟨j, hj⟩ : ∃ j : Fin 64, j = (((Shape.rowMajor ⟨3, ![1, 64, 1]⟩).symm.trans middle).trans (Equiv.addRight p)) n := ⟨_, rfl⟩
  rw [← hj]
  have hjv : j.val = ((((Shape.rowMajor ⟨3, ![1, 64, 1]⟩).symm n) 1).val + (p.val)) % 64 := by
    rw [hj]
    show (middle (((Shape.rowMajor ⟨3, ![1, 64, 1]⟩).symm n)) + p).val = ((middle (((Shape.rowMajor ⟨3, ![1, 64, 1]⟩).symm n))).val + (p.val)) % 64
    generalize middle (((Shape.rowMajor ⟨3, ![1, 64, 1]⟩).symm n)) = k
    simp [Fin.val_add]
  clear hj
  have hp := p.isLt
  have hc := c.isLt
  have hs := s.isLt
  have h0 : (((Shape.rowMajor ⟨3, ![1, 64, 1]⟩).symm n) 0).val < 1 := (((Shape.rowMajor ⟨3, ![1, 64, 1]⟩).symm n) 0).isLt
  have h1 : (((Shape.rowMajor ⟨3, ![1, 64, 1]⟩).symm n) 1).val < 64 := (((Shape.rowMajor ⟨3, ![1, 64, 1]⟩).symm n) 1).isLt
  have h2 : (((Shape.rowMajor ⟨3, ![1, 64, 1]⟩).symm n) 2).val < 1 := (((Shape.rowMajor ⟨3, ![1, 64, 1]⟩).symm n) 2).isLt
  by_cases hk : p.val + (((Shape.rowMajor ⟨3, ![1, 64, 1]⟩).symm n) 1).val < 64
  · rw [dif_pos, if_pos (by omega)]
    · refine congrArg x (funext fun a => Fin.ext ?_)
      match a with
      | ⟨0, _⟩ => show c.val * 1 + (((Shape.rowMajor ⟨3, ![1, 64, 1]⟩).symm n) 0).val - 0 = c.val; omega
      | ⟨1, _⟩ => show p.val * 1 + (((Shape.rowMajor ⟨3, ![1, 64, 1]⟩).symm n) 1).val - 0 = j.val; omega
      | ⟨2, _⟩ => show s.val * 1 + (((Shape.rowMajor ⟨3, ![1, 64, 1]⟩).symm n) 2).val - 0 = s.val; omega
    · intro a
      match a with
      | ⟨0, _⟩ => show 0 ≤ c.val * 1 + (((Shape.rowMajor ⟨3, ![1, 64, 1]⟩).symm n) 0).val ∧ c.val * 1 + (((Shape.rowMajor ⟨3, ![1, 64, 1]⟩).symm n) 0).val - 0 < A; omega
      | ⟨1, _⟩ => show 0 ≤ p.val * 1 + (((Shape.rowMajor ⟨3, ![1, 64, 1]⟩).symm n) 1).val ∧ p.val * 1 + (((Shape.rowMajor ⟨3, ![1, 64, 1]⟩).symm n) 1).val - 0 < 64; omega
      | ⟨2, _⟩ => show 0 ≤ s.val * 1 + (((Shape.rowMajor ⟨3, ![1, 64, 1]⟩).symm n) 2).val ∧ s.val * 1 + (((Shape.rowMajor ⟨3, ![1, 64, 1]⟩).symm n) 2).val - 0 < 8; omega
  · rw [dif_neg, if_neg (by omega)]
    intro hin
    have hw : 0 ≤ p.val * 1 + (((Shape.rowMajor ⟨3, ![1, 64, 1]⟩).symm n) 1).val ∧ p.val * 1 + (((Shape.rowMajor ⟨3, ![1, 64, 1]⟩).symm n) 1).val - 0 < 64 := hin 1
    omega

/-- A small number as a signed word. -/
theorem toInt_small : ∀ n : Fin 256, (BitVec.ofNat 32 n.val).toInt = (n.val : ℤ) := by decide +kernel

/-- The number of the chunk of a row, as a word. -/
theorem shift_six : ∀ n : Fin 256, IntOp.shrsi .vector (BitVec.ofNat 32 n.val) 6#32 = BitVec.ofNat 32 (n.val / 64) := by decide +kernel

/-- Two rows lie in the same chunk, as words. -/
theorem same_chunk (r x : Fin 256) : IntOp.cmpi .eq (IntOp.shrsi .vector (BitVec.ofNat 32 r.val) 6#32) (IntOp.shrsi .vector (BitVec.ofNat 32 x.val) 6#32)
    = BitVec.ofBool (decide (x.val / 64 = r.val / 64)) := by
  rw [shift_six, shift_six]
  have hr := r.isLt
  have hx := x.isLt
  refine congrArg BitVec.ofBool ?_
  by_cases h : x.val / 64 = r.val / 64
  · rw [h]; simp
  · have hne : BitVec.ofNat 32 (r.val / 64) ≠ BitVec.ofNat 32 (x.val / 64) := fun e => by
      have e' := congrArg BitVec.toNat e
      rw [BitVec.toNat_ofNat, BitVec.toNat_ofNat, Nat.mod_eq_of_lt (by omega), Nat.mod_eq_of_lt (by omega)] at e'
      exact h e'.symm
    simp [h, hne]

/-- One row is not after another, as words. -/
theorem row_le (r x : Fin 256) : BitVec.sle (BitVec.ofNat 32 x.val) (BitVec.ofNat 32 r.val) = decide (x.val ≤ r.val) := by
  unfold BitVec.sle
  rw [toInt_small, toInt_small]
  exact decide_eq_decide.mpr Int.ofNat_le

/-- The conjunction of two decided bits. -/
theorem and_bits (P Q : Prop) [Decidable P] [Decidable Q] : IntOp.andi (BitVec.ofBool (decide P)) (BitVec.ofBool (decide Q)) = if P ∧ Q then 1#1 else 0#1 := by
  by_cases hP : P <;> by_cases hQ : Q <;> simp [hP, hQ, IntOp.andi]

/-- The mask of the rows of the same chunk up to a row, as words. -/
theorem mask_up (r x : Fin 256) : IntOp.andi (IntOp.cmpi .eq (IntOp.shrsi .vector (BitVec.ofNat 32 r.val) 6#32) (IntOp.shrsi .vector (BitVec.ofNat 32 x.val) 6#32))
      (IntOp.cmpi .sle (BitVec.ofNat 32 x.val) (BitVec.ofNat 32 r.val)) = if x.val / 64 = r.val / 64 ∧ x.val ≤ r.val then 1#1 else 0#1 := by
  rw [same_chunk, ← and_bits]
  exact congrArg (fun b => IntOp.andi _ (BitVec.ofBool b)) (row_le r x)

/-- The mask of the rows of the same chunk from a row on, as words. -/
theorem mask_down (r x : Fin 256) : IntOp.andi (IntOp.cmpi .eq (IntOp.shrsi .vector (BitVec.ofNat 32 r.val) 6#32) (IntOp.shrsi .vector (BitVec.ofNat 32 x.val) 6#32))
      (IntOp.cmpi .sge (BitVec.ofNat 32 x.val) (BitVec.ofNat 32 r.val)) = if x.val / 64 = r.val / 64 ∧ r.val ≤ x.val then 1#1 else 0#1 := by
  rw [same_chunk, ← and_bits]
  exact congrArg (fun b => IntOp.andi _ (BitVec.ofBool b)) (row_le x r)

/-- A column below a bound, as words. -/
theorem lane8 : ∀ s : Fin 128, IntOp.cmpi .slt (BitVec.ofNat 32 s.val) 8#32 = if s.val < 8 then 1#1 else 0#1 := by decide +kernel
/-- A column below a bound, as words. -/
theorem lane16 : ∀ s : Fin 128, IntOp.cmpi .slt (BitVec.ofNat 32 s.val) 16#32 = if s.val < 16 then 1#1 else 0#1 := by decide +kernel
/-- A column below a bound, as words. -/
theorem lane32 : ∀ s : Fin 128, IntOp.cmpi .slt (BitVec.ofNat 32 s.val) 32#32 = if s.val < 32 then 1#1 else 0#1 := by decide +kernel

/-- A selection by a decided bit. -/
theorem select_ite (P : Prop) [Decidable P] (a b : EReal) : Scalar.select (if P then 1#1 else 0#1) a b = if P then a else b := by
  split <;> rfl

/-- A sum over 256 rows of those in a row's chunk that a condition on their place in it keeps. -/
theorem sum_chunk (r : Fin 256) (P : ℕ → Prop) [DecidablePred P] (g : Fin 256 → EReal) :
    (∑ x : Fin 256, if x.val / 64 = r.val / 64 ∧ P (x.val % 64) then g x else 0)
      = ∑ j : Fin 64, if P j.val then g ⟨r.val / 64 * 64 + j.val, by have := r.isLt; have := j.isLt; omega⟩ else 0 := by
  rw [Fin.sum_univ_tiles 4 64 rfl, Finset.sum_eq_single (⟨r.val / 64, by have := r.isLt; omega⟩ : Fin 4)]
  · refine Finset.sum_congr rfl fun j _ => ?_
    have hj := j.isLt
    refine if_congr ?_ rfl rfl
    have h1 : (r.val / 64 * 64 + j.val) / 64 = r.val / 64 := by omega
    have h2 : (r.val / 64 * 64 + j.val) % 64 = j.val := by omega
    simp only [h1, h2, true_and]
  · intro a _ ha
    refine Finset.sum_eq_zero fun j _ => if_neg ?_
    have hj := j.isLt
    rintro ⟨h1, _⟩
    have h1' : (a.val * 64 + j.val) / 64 = r.val / 64 := h1
    exact ha (Fin.ext (show a.val = r.val / 64 by omega))
  · exact fun h => absurd (Finset.mem_univ _) h

/-- The masked product that adds the rows of a chunk up to a row. -/
theorem prod_up (r : Fin 256) (g : Fin 256 → EReal) :
    (∑ x : Fin 256, Scalar.select (IntOp.andi (IntOp.cmpi .eq (IntOp.shrsi .vector (BitVec.ofNat 32 r.val) 6#32) (IntOp.shrsi .vector (BitVec.ofNat 32 x.val) 6#32))
      (IntOp.cmpi .sle (BitVec.ofNat 32 x.val) (BitVec.ofNat 32 r.val))) (g x) 0)
      = ∑ j : Fin 64, if j.val ≤ r.val % 64 then g ⟨r.val / 64 * 64 + j.val, by have := r.isLt; have := j.isLt; omega⟩ else 0 := by
  refine Eq.trans (Finset.sum_congr rfl fun x _ => ?_) (sum_chunk r (· ≤ r.val % 64) g)
  rw [mask_up, select_ite]
  exact if_congr ⟨fun h => ⟨h.1, by have := h.1; have := h.2; omega⟩, fun h => ⟨h.1, by have := h.1; have := h.2; omega⟩⟩ rfl rfl

/-- The masked product that adds the rows of a chunk from a row on. -/
theorem prod_down (r : Fin 256) (g : Fin 256 → EReal) :
    (∑ x : Fin 256, Scalar.select (IntOp.andi (IntOp.cmpi .eq (IntOp.shrsi .vector (BitVec.ofNat 32 r.val) 6#32) (IntOp.shrsi .vector (BitVec.ofNat 32 x.val) 6#32))
      (IntOp.cmpi .sge (BitVec.ofNat 32 x.val) (BitVec.ofNat 32 r.val))) (g x) 0)
      = ∑ j : Fin 64, if r.val % 64 ≤ j.val then g ⟨r.val / 64 * 64 + j.val, by have := r.isLt; have := j.isLt; omega⟩ else 0 := by
  refine Eq.trans (Finset.sum_congr rfl fun x _ => ?_) (sum_chunk r (r.val % 64 ≤ ·) g)
  rw [mask_down, select_ite]
  exact if_congr ⟨fun h => ⟨h.1, by have := h.1; have := h.2; omega⟩, fun h => ⟨h.1, by have := h.1; have := h.2; omega⟩⟩ rfl rfl

end Cert.Gates

end
-- ==== Proof.Mm33.lean ====
/- Hand-written: the gates of the recurrence, as a function of the argument arrays. -/
module

public import proofs.«01_k».proof.Defs
public import proofs.«01_k».proof.Proof.Gen.Kernel33Ideal.Value
public import proofs.«01_k».proof.Proof.Gen.Reference33Ideal.Run
public import proofs.«01_k».proof.Proof.Gates
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference33Ideal.Value

open Cert.Reference33Ideal Cert.Reference33Ideal.Gen Idealize.ShloMosaic.StableHlo

/-- The decay logits with their bias. -/
def logit (a0 : FVec Ideal S4096x128 .f32) (a2 : FVec Ideal S1x128 .f32) : FVec Ideal S4096x16 .f32 :=
  addf (extractStridedSlice S4096x16 ![0, 0] a0 slices_S4096x128_S4096x16_0_0) (broadcastInDim S4096x16 ![0, 1] bcast_S1x16_S4096x16_0_1 (extractStridedSlice S1x16 ![0, 0] a2 slices_S1x128_S1x16_0_0))

/-- The softplus of an array. -/
def softplus (x : FVec Ideal S4096x16 .f32) : FVec Ideal S4096x16 .f32 :=
  select (cmpf .une (subf x (broadcastInDim S4096x16 ![] bcast_S_S4096x16 (constant S_ .f32 0x00000000#32))) (subf x (broadcastInDim S4096x16 ![] bcast_S_S4096x16 (constant S_ .f32 0x00000000#32)))) (addf x (broadcastInDim S4096x16 ![] bcast_S_S4096x16 (constant S_ .f32 0x00000000#32))) (addf (maximumf x (broadcastInDim S4096x16 ![] bcast_S_S4096x16 (constant S_ .f32 0x00000000#32))) (Host.log1p (Host.exp (Host.negf (Host.absf (subf x (broadcastInDim S4096x16 ![] bcast_S_S4096x16 (constant S_ .f32 0x00000000#32))))))))

/-- The log-decay of every row. -/
def decay (a0 : FVec Ideal S4096x128 .f32) (a1 a2 : FVec Ideal S1x128 .f32) : FVec Ideal S4096x16 .f32 :=
  mulf (broadcastInDim S4096x16 ![0, 1] bcast_S1x16_S4096x16_0_1 (Host.negf (Host.exp (extractStridedSlice S1x16 ![0, 0] a1 slices_S1x128_S1x16_0_0)))) (softplus (logit a0 a2))

/-- The running sum inside a chunk, forward. -/
def forward (g : FVec Ideal S4096x16 .f32) : FVec Ideal S64x64x8 .f32 :=
  Host.reduceWindowAdd ![1, 64, 1] ![1, 1, 1] ![0, 63, 0] ![0, 0, 0] (extractStridedSlice S64x64x8 ![0, 0, 0] (shapeCast _ g shapeCasts_S4096x16_S64x64x16) slices_S64x64x16_S64x64x8_0_0_0) (broadcastInDim S_ ![] bcast_S_S_ (constant S_ .f32 0x00000000#32)) reduceWindows_S64x64x8_S64x64x8_w1s1p0_0_w64s1p63_0_w1s1p0_0 h_S_

/-- The running sum inside a chunk, backward. -/
def backward (g : FVec Ideal S4096x16 .f32) : FVec Ideal S64x64x8 .f32 :=
  Host.reduceWindowAdd ![1, 64, 1] ![1, 1, 1] ![0, 0, 0] ![0, 63, 0] (extractStridedSlice S64x64x8 ![0, 0, 8] (shapeCast _ g shapeCasts_S4096x16_S64x64x16) slices_S64x64x16_S64x64x8_0_0_8) (broadcastInDim S_ ![] bcast_S_S_ (constant S_ .f32 0x00000000#32)) reduceWindows_S64x64x8_S64x64x8_w1s1p0_0_w64s1p0_63_w1s1p0_0 h_S_

/-- The logistic of the beta logits. -/
def beta (a0 : FVec Ideal S4096x128 .f32) : FVec Ideal S4096x16 .f32 :=
  Host.divf (broadcastInDim S4096x16 ![] bcast_S_S4096x16 (constant S_ .f32 0x3F800000#32)) (addf (broadcastInDim S4096x16 ![] bcast_S_S4096x16 (constant S_ .f32 0x3F800000#32)) (Host.exp (Host.negf (extractStridedSlice S4096x16 ![0, 16] a0 slices_S4096x128_S4096x16_0_16))))

/-- The reference's result as a function of its arguments. -/
def ref (a0 : FVec Ideal S4096x128 .f32) (a1 a2 : FVec Ideal S1x128 .f32) : FVec Ideal S4096x128 .f32 :=
  concatenate S4096x128 1 [⟨S4096x16, (shapeCast _ (concatenate S64x64x16 2 [⟨S64x64x8, forward (decay a0 a1 a2)⟩, ⟨S64x64x8, backward (decay a0 a1 a2)⟩] concatenates_S64x64x8_S64x64x8_S64x64x16_d2) shapeCasts_S64x64x16_S4096x16 : FVec Ideal S4096x16 .f32)⟩, ⟨S4096x16, beta a0⟩, ⟨S4096x96, (broadcastInDim S4096x96 ![] bcast_S_S4096x96 (constant S_ .f32 0x00000000#32) : FVec Ideal S4096x96 .f32)⟩] concatenates_S4096x16_S4096x16_S4096x96_S4096x128_d1

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

/-- The log-decay at a row and a column, written out. -/
def decayAt (a0 : FVec Ideal S4096x128 .f32) (a1 a2 : FVec Ideal S1x128 .f32) (r : Fin 4096) (s : Fin 128) : EReal :=
  (0 - Ideal.exp (a1 (ix2 0 s))) * (max (a0 (ix2 r s) + a2 (ix2 0 s)) 0 + Ideal.log (1 + Ideal.exp (0 - FloatOps.absf (F := Ideal) (φ := .f32) (a0 (ix2 r s) + a2 (ix2 0 s)))))

/-- The log-decay at a row and a column. -/
theorem decay_at (a0 : FVec Ideal S4096x128 .f32) (a1 a2 : FVec Ideal S1x128 .f32) (r : Fin 4096) (s : Fin 16) :
    decay a0 a1 a2 (ix2 r s) = decayAt a0 a1 a2 r ⟨s.val, by omega⟩ := by
  unfold decayAt
  pointwise [decay, softplus, logit]
  simp only [ne_eq, not_true_eq_false, if_false, ↓reduceIte, sub_eq_add_neg, zero_add]
  rfl

/-- The running sum forward, written out. -/
theorem forward_at (g : FVec Ideal S4096x16 .f32) (c : Fin 64) (p : Fin 64) (s : Fin 8) :
    forward g (ix3 c p s) = ∑ j : Fin 64, if j.val ≤ p.val then g (ix2 ⟨c.val * 64 + j.val, by omega⟩ ⟨s.val, by omega⟩) else 0 := by
  unfold forward
  rw [Cert.Gates.window_up _ _ _ _ (by pointwise [])]
  refine Finset.sum_congr rfl fun j _ => if_congr Iff.rfl ?_ rfl
  pointwise []

/-- The running sum backward, written out. -/
theorem backward_at (g : FVec Ideal S4096x16 .f32) (c : Fin 64) (p : Fin 64) (s : Fin 8) :
    backward g (ix3 c p s) = ∑ j : Fin 64, if p.val ≤ j.val then g (ix2 ⟨c.val * 64 + j.val, by omega⟩ ⟨8 + s.val, by omega⟩) else 0 := by
  unfold backward
  rw [Cert.Gates.window_down _ _ _ _ (by pointwise [])]
  refine Finset.sum_congr rfl fun j _ => if_congr Iff.rfl ?_ rfl
  pointwise []

/-- The result at a row and a column. -/
theorem ref_at (a0 : FVec Ideal S4096x128 .f32) (a1 a2 : FVec Ideal S1x128 .f32) (r : Fin 4096) (s : Fin 128) :
    ref a0 a1 a2 (ix2 r s)
      = if s.val < 8 then ∑ j : Fin 64, if j.val ≤ r.val % 64 then decayAt a0 a1 a2 ⟨r.val / 64 * 64 + j.val, by omega⟩ s else 0
        else if s.val < 16 then ∑ j : Fin 64, if r.val % 64 ≤ j.val then decayAt a0 a1 a2 ⟨r.val / 64 * 64 + j.val, by omega⟩ s else 0
        else if s.val < 32 then Ideal.logistic (a0 (ix2 r s)) else 0 := by
  have hs := s.isLt
  by_cases h8 : s.val < 8
  · rw [if_pos h8]
    pointwise [ref, beta]
    rw [dif_pos (by omega), dif_pos h8, forward_at]
    refine Finset.sum_congr rfl fun j _ => if_congr Iff.rfl ?_ rfl
    rw [decay_at]
  · rw [if_neg h8]
    by_cases h16 : s.val < 16
    · rw [if_pos h16]
      pointwise [ref, beta]
      rw [dif_pos h16, dif_neg h8, backward_at]
      refine Finset.sum_congr rfl fun j _ => if_congr Iff.rfl ?_ rfl
      rw [decay_at]
      exact congrArg (decayAt a0 a1 a2 _) (Fin.ext (show 8 + (s.val - 8) = s.val by omega))
    · rw [if_neg h16]
      pointwise [ref, beta]
      rw [dif_neg h16]
      by_cases h32 : s.val < 32
      · rw [if_pos h32, dif_pos (by omega)]
        have e : (⟨16 + (s.val - 16), by omega⟩ : Fin 128) = s := Fin.ext (show 16 + (s.val - 16) = s.val by omega)
        rw [e]
        rfl
      · rw [if_neg h32, dif_neg (by omega)]

end Cert.Reference33Ideal.Value

namespace Cert.Kernel33Ideal.Value

open Cert.Kernel33Ideal Cert.Kernel33Ideal.Gen

/-- The block `q` of 256 rows. -/
def tile (q : Fin 16) (a : FVec Ideal S4096x128 .f32) : FVec Ideal S256x128 .f32 :=
  fun y => a (ix2 ⟨q.val * 256 + (y 0).val, by have := q.isLt; have h : (y 0).val < 256 := (y 0).isLt; omega⟩ (y 1))

/-- The log-decays of a tile at a row and a column. -/
theorem pay2_at (a0 : FVec Ideal S256x128 .f32) (a1 a2 : FVec Ideal S1x128 .f32) (r : Fin 256) (s : Fin 128) :
    k0_pay2 (F := Ideal) a0 a1 a2 (ix2 r s)
      = if s.val < 16 then (0 - Ideal.exp (a1 (ix2 0 s))) * (max (a0 (ix2 r s) + a2 (ix2 0 s)) 0 + Ideal.log (1 + Ideal.exp (0 - FloatOps.absf (F := Ideal) (φ := .f32) (a0 (ix2 r s) + a2 (ix2 0 s))))) else 0 := by
  rw [← Cert.Gates.select_ite, ← Cert.Gates.lane16]
  pointwise [k0_pay2]

/-- The sums of a tile's chunks up to a row. -/
theorem pay4_at (a0 : FVec Ideal S256x128 .f32) (a1 a2 : FVec Ideal S1x128 .f32) (r : Fin 256) (s : Fin 128) :
    k0_pay4 (F := Ideal) a0 a1 a2 (ix2 r s)
      = ∑ j : Fin 64, if j.val ≤ r.val % 64 then k0_pay2 (F := Ideal) a0 a1 a2 (ix2 ⟨r.val / 64 * 64 + j.val, by omega⟩ s) else 0 := by
  unfold k0_pay4
  generalize k0_pay2 (F := Ideal) a0 a1 a2 = g
  refine Eq.trans ?_ (Cert.Gates.prod_up r fun x => g (ix2 x s))
  pointwise [k0_pay3]

/-- What a tile stores at a row and a column. -/
theorem pay1_at (a0 : FVec Ideal S256x128 .f32) (v24 v37 : FVec Ideal S256x128 .f32) (r : Fin 256) (s : Fin 128) :
    k0_pay1 (F := Ideal) a0 (iota .tc S256x128 32 [1] iota_S256x128_d1_w32) v24 v37 k0_pay5 (Scalar.ofBits .f32 0x3F800000#32) (Scalar.ofBits .f32 0x00000000#32) (ix2 r s)
      = if s.val < 8 then v37 (ix2 r s)
        else if s.val < 16 then ∑ j : Fin 64, if r.val % 64 ≤ j.val then v24 (ix2 ⟨r.val / 64 * 64 + j.val, by omega⟩ s) else 0
        else if s.val < 32 then Ideal.logistic (a0 (ix2 r s)) else 0 := by
  rw [← Cert.Gates.prod_down r fun x => v24 (ix2 x s)]
  rw [← Cert.Gates.select_ite, ← Cert.Gates.lane8, ← Cert.Gates.select_ite, ← Cert.Gates.lane16, ← Cert.Gates.select_ite, ← Cert.Gates.lane32]
  pointwise [k0_pay1, k0_pay5, k0_pay3]

/-- What a point stores is the reference's result at the same place. -/
theorem pure (a0 : FVec Ideal S4096x128 .f32) (a1 a2 : FVec Ideal S1x128 .f32) (q : Fin 16) (r : Fin 256) (s : Fin 128) :
    k0_pay1 (F := Ideal) (tile q a0) (iota .tc S256x128 32 [1] iota_S256x128_d1_w32) (k0_pay2 (tile q a0) a1 a2) (k0_pay4 (tile q a0) a1 a2) k0_pay5 (Scalar.ofBits .f32 0x3F800000#32) (Scalar.ofBits .f32 0x00000000#32) (ix2 r s)
      = Cert.Reference33Ideal.Value.ref a0 a1 a2 (ix2 ⟨q.val * 256 + r.val, by omega⟩ s) := by
  rw [pay1_at, Cert.Reference33Ideal.Value.ref_at]
  by_cases h8 : s.val < 8
  · rw [if_pos h8, if_pos h8, pay4_at]
    refine Finset.sum_congr rfl fun j _ => if_congr (by
        have e : (q.val * 256 + r.val) % 64 = r.val % 64 := by omega
        show _ ↔ _ ≤ (q.val * 256 + r.val) % 64
        rw [e]) ?_ rfl
    · rw [pay2_at, if_pos (by omega)]
      have e : (⟨(q.val * 256 + r.val) / 64 * 64 + j.val, by omega⟩ : Fin 4096) = ⟨q.val * 256 + (r.val / 64 * 64 + j.val), by omega⟩ := Fin.ext (show (q.val * 256 + r.val) / 64 * 64 + j.val = q.val * 256 + (r.val / 64 * 64 + j.val) by omega)
      refine Eq.trans ?_ (congrArg (fun i => Cert.Reference33Ideal.Value.decayAt a0 a1 a2 i s) e.symm)
      rfl
  · rw [if_neg h8, if_neg h8]
    by_cases h16 : s.val < 16
    · rw [if_pos h16, if_pos h16]
      refine Finset.sum_congr rfl fun j _ => if_congr (by
        have e : (q.val * 256 + r.val) % 64 = r.val % 64 := by omega
        show _ ↔ (q.val * 256 + r.val) % 64 ≤ _
        rw [e]) ?_ rfl
      rw [pay2_at, if_pos h16]
      have e : (⟨(q.val * 256 + r.val) / 64 * 64 + j.val, by omega⟩ : Fin 4096) = ⟨q.val * 256 + (r.val / 64 * 64 + j.val), by omega⟩ := Fin.ext (show (q.val * 256 + r.val) / 64 * 64 + j.val = q.val * 256 + (r.val / 64 * 64 + j.val) by omega)
      refine Eq.trans ?_ (congrArg (fun i => Cert.Reference33Ideal.Value.decayAt a0 a1 a2 i s) e.symm)
      rfl
    · rw [if_neg h16, if_neg h16]
      rfl

variable (m : (ℓ : Loc nD τ sig) → Buf (Elt Ideal) ℓ)

/-- The index maps of the windows, decided at every grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The number of the block at a point. -/
def row (t : Fin cfg0.N) : Fin 16 := ⟨t.val, lt_of_lt_of_eq t.isLt N_0⟩

/-- The block of argument 0 at a point. -/
theorem blk_0 (c : Dev nD) (t : Fin cfg0.N) : iblk m c 0 t = tile (row t) (m ((c : Thread nD τ).loc main_arg0)) := by
  funext y; blk_point [iblk, V, tile, row, idx t]
/-- Argument 1, whole at every point. -/
theorem blk_1 (c : Dev nD) (t : Fin cfg0.N) : iblk m c 1 t = m ((c : Thread nD τ).loc main_arg1) := by
  funext y; blk_point [iblk, V, idx t]
/-- Argument 2, whole at every point. -/
theorem blk_2 (c : Dev nD) (t : Fin cfg0.N) : iblk m c 2 t = m ((c : Thread nD τ).loc main_arg2) := by
  funext y; blk_point [iblk, V, idx t]

/-- The result after the run. -/
theorem final (c : Dev nD) : (dats m 0 c).arrAt 3 (cfgs 0).N
    = Cert.Reference33Ideal.Value.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [blk_0, blk_1, blk_2]
  idx_vars y
  refine (pure _ _ _ (row t) _ _).trans ?_
  generalize Cert.Reference33Ideal.Value.ref _ _ _ = G
  blk_point [row, idx t]

end Cert.Kernel33Ideal.Value

namespace Cert.Mm33Claims

/-- The reference ends with its arguments unchanged and every counter at zero. -/
theorem frame_reference : Cert.quiescent_Reference33Ideal := fun m ρ _ =>
  (θ_run Cert.Reference33Ideal.defs _ _).mono
    (fun r h => ⟨fun c => (h c).2, sem_eq_zero_of_no_sems (by decide) r.2⟩) (Cert.Reference33Ideal.Value.run_ref m ρ)

/-- The kernel over the reals and the reference end with equal results. -/
theorem algebraic : Cert.algebraic_Kernel33Ideal_Reference33Ideal := by
  intro m ρ m' ρ' _ hagree
  refine ⟨_, Cert.Kernel33Ideal.Value.run_blocks m ρ, ?_⟩
  refine (θ_run Cert.Reference33Ideal.defs _ _).mono
    (fun r h c => ⟨(h c).1.trans ?_, (h c).2⟩)
    (Cert.Reference33Ideal.Value.run_ref m' ρ')
  obtain ⟨h0, h1, h2⟩ := hagree c
  rw [h0, h1, h2]
  exact (Cert.Kernel33Ideal.Value.final m c).symm

end Cert.Mm33Claims

end
-- ==== Proof.Mm34.lean ====
/- Hand-written: the gates of the recurrence over the context, as a function of the argument arrays. -/
module

public import proofs.«01_k».proof.Defs
public import proofs.«01_k».proof.Proof.Gen.Kernel34Ideal.Value
public import proofs.«01_k».proof.Proof.Gen.Reference34Ideal.Run
public import proofs.«01_k».proof.Proof.Gates
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference34Ideal.Value

open Cert.Reference34Ideal Cert.Reference34Ideal.Gen Idealize.ShloMosaic.StableHlo

/-- The decay logits with their bias. -/
def logit (a0 : FVec Ideal S256x128 .f32) (a2 : FVec Ideal S1x128 .f32) : FVec Ideal S256x16 .f32 :=
  addf (extractStridedSlice S256x16 ![0, 0] a0 slices_S256x128_S256x16_0_0) (broadcastInDim S256x16 ![0, 1] bcast_S1x16_S256x16_0_1 (extractStridedSlice S1x16 ![0, 0] a2 slices_S1x128_S1x16_0_0))

/-- The softplus of an array. -/
def softplus (x : FVec Ideal S256x16 .f32) : FVec Ideal S256x16 .f32 :=
  select (cmpf .une (subf x (broadcastInDim S256x16 ![] bcast_S_S256x16 (constant S_ .f32 0x00000000#32))) (subf x (broadcastInDim S256x16 ![] bcast_S_S256x16 (constant S_ .f32 0x00000000#32)))) (addf x (broadcastInDim S256x16 ![] bcast_S_S256x16 (constant S_ .f32 0x00000000#32))) (addf (maximumf x (broadcastInDim S256x16 ![] bcast_S_S256x16 (constant S_ .f32 0x00000000#32))) (Host.log1p (Host.exp (Host.negf (Host.absf (subf x (broadcastInDim S256x16 ![] bcast_S_S256x16 (constant S_ .f32 0x00000000#32))))))))

/-- The log-decay of every row. -/
def decay (a0 : FVec Ideal S256x128 .f32) (a1 a2 : FVec Ideal S1x128 .f32) : FVec Ideal S256x16 .f32 :=
  mulf (broadcastInDim S256x16 ![0, 1] bcast_S1x16_S256x16_0_1 (Host.negf (Host.exp (extractStridedSlice S1x16 ![0, 0] a1 slices_S1x128_S1x16_0_0)))) (softplus (logit a0 a2))

/-- The running sum inside a chunk, forward. -/
def forward (g : FVec Ideal S256x16 .f32) : FVec Ideal S4x64x8 .f32 :=
  Host.reduceWindowAdd ![1, 64, 1] ![1, 1, 1] ![0, 63, 0] ![0, 0, 0] (extractStridedSlice S4x64x8 ![0, 0, 0] (shapeCast _ g shapeCasts_S256x16_S4x64x16) slices_S4x64x16_S4x64x8_0_0_0) (broadcastInDim S_ ![] bcast_S_S_ (constant S_ .f32 0x00000000#32)) reduceWindows_S4x64x8_S4x64x8_w1s1p0_0_w64s1p63_0_w1s1p0_0 h_S_

/-- The running sum inside a chunk, backward. -/
def backward (g : FVec Ideal S256x16 .f32) : FVec Ideal S4x64x8 .f32 :=
  Host.reduceWindowAdd ![1, 64, 1] ![1, 1, 1] ![0, 0, 0] ![0, 63, 0] (extractStridedSlice S4x64x8 ![0, 0, 8] (shapeCast _ g shapeCasts_S256x16_S4x64x16) slices_S4x64x16_S4x64x8_0_0_8) (broadcastInDim S_ ![] bcast_S_S_ (constant S_ .f32 0x00000000#32)) reduceWindows_S4x64x8_S4x64x8_w1s1p0_0_w64s1p0_63_w1s1p0_0 h_S_

/-- The logistic of the beta logits. -/
def beta (a0 : FVec Ideal S256x128 .f32) : FVec Ideal S256x16 .f32 :=
  Host.divf (broadcastInDim S256x16 ![] bcast_S_S256x16 (constant S_ .f32 0x3F800000#32)) (addf (broadcastInDim S256x16 ![] bcast_S_S256x16 (constant S_ .f32 0x3F800000#32)) (Host.exp (Host.negf (extractStridedSlice S256x16 ![0, 16] a0 slices_S256x128_S256x16_0_16))))

/-- The reference's result as a function of its arguments. -/
def ref (a0 : FVec Ideal S256x128 .f32) (a1 a2 : FVec Ideal S1x128 .f32) : FVec Ideal S256x128 .f32 :=
  concatenate S256x128 1 [⟨S256x16, (shapeCast _ (concatenate S4x64x16 2 [⟨S4x64x8, forward (decay a0 a1 a2)⟩, ⟨S4x64x8, backward (decay a0 a1 a2)⟩] concatenates_S4x64x8_S4x64x8_S4x64x16_d2) shapeCasts_S4x64x16_S256x16 : FVec Ideal S256x16 .f32)⟩, ⟨S256x16, beta a0⟩, ⟨S256x96, (broadcastInDim S256x96 ![] bcast_S_S256x96 (constant S_ .f32 0x00000000#32) : FVec Ideal S256x96 .f32)⟩] concatenates_S256x16_S256x16_S256x96_S256x128_d1

/-- The run of the reference, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = ref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

/-- The log-decay at a row and a column, written out. -/
def decayAt (a0 : FVec Ideal S256x128 .f32) (a1 a2 : FVec Ideal S1x128 .f32) (r : Fin 256) (s : Fin 128) : EReal :=
  (0 - Ideal.exp (a1 (ix2 0 s))) * (max (a0 (ix2 r s) + a2 (ix2 0 s)) 0 + Ideal.log (1 + Ideal.exp (0 - FloatOps.absf (F := Ideal) (φ := .f32) (a0 (ix2 r s) + a2 (ix2 0 s)))))

/-- The log-decay at a row and a column. -/
theorem decay_at (a0 : FVec Ideal S256x128 .f32) (a1 a2 : FVec Ideal S1x128 .f32) (r : Fin 256) (s : Fin 16) :
    decay a0 a1 a2 (ix2 r s) = decayAt a0 a1 a2 r ⟨s.val, by omega⟩ := by
  unfold decayAt
  pointwise [decay, softplus, logit]
  simp only [ne_eq, not_true_eq_false, if_false, ↓reduceIte, sub_eq_add_neg, zero_add]
  rfl

/-- The running sum forward, written out. -/
theorem forward_at (g : FVec Ideal S256x16 .f32) (c : Fin 4) (p : Fin 64) (s : Fin 8) :
    forward g (ix3 c p s) = ∑ j : Fin 64, if j.val ≤ p.val then g (ix2 ⟨c.val * 64 + j.val, by omega⟩ ⟨s.val, by omega⟩) else 0 := by
  unfold forward
  rw [Cert.Gates.window_up _ _ _ _ (by pointwise [])]
  refine Finset.sum_congr rfl fun j _ => if_congr Iff.rfl ?_ rfl
  pointwise []

/-- The running sum backward, written out. -/
theorem backward_at (g : FVec Ideal S256x16 .f32) (c : Fin 4) (p : Fin 64) (s : Fin 8) :
    backward g (ix3 c p s) = ∑ j : Fin 64, if p.val ≤ j.val then g (ix2 ⟨c.val * 64 + j.val, by omega⟩ ⟨8 + s.val, by omega⟩) else 0 := by
  unfold backward
  rw [Cert.Gates.window_down _ _ _ _ (by pointwise [])]
  refine Finset.sum_congr rfl fun j _ => if_congr Iff.rfl ?_ rfl
  pointwise []

/-- The result at a row and a column. -/
theorem ref_at (a0 : FVec Ideal S256x128 .f32) (a1 a2 : FVec Ideal S1x128 .f32) (r : Fin 256) (s : Fin 128) :
    ref a0 a1 a2 (ix2 r s)
      = if s.val < 8 then ∑ j : Fin 64, if j.val ≤ r.val % 64 then decayAt a0 a1 a2 ⟨r.val / 64 * 64 + j.val, by omega⟩ s else 0
        else if s.val < 16 then ∑ j : Fin 64, if r.val % 64 ≤ j.val then decayAt a0 a1 a2 ⟨r.val / 64 * 64 + j.val, by omega⟩ s else 0
        else if s.val < 32 then Ideal.logistic (a0 (ix2 r s)) else 0 := by
  have hs := s.isLt
  by_cases h8 : s.val < 8
  · rw [if_pos h8]
    pointwise [ref, beta]
    rw [dif_pos (by omega), dif_pos h8, forward_at]
    refine Finset.sum_congr rfl fun j _ => if_congr Iff.rfl ?_ rfl
    rw [decay_at]
  · rw [if_neg h8]
    by_cases h16 : s.val < 16
    · rw [if_pos h16]
      pointwise [ref, beta]
      rw [dif_pos h16, dif_neg h8, backward_at]
      refine Finset.sum_congr rfl fun j _ => if_congr Iff.rfl ?_ rfl
      rw [decay_at]
      exact congrArg (decayAt a0 a1 a2 _) (Fin.ext (show 8 + (s.val - 8) = s.val by omega))
    · rw [if_neg h16]
      pointwise [ref, beta]
      rw [dif_neg h16]
      by_cases h32 : s.val < 32
      · rw [if_pos h32, dif_pos (by omega)]
        have e : (⟨16 + (s.val - 16), by omega⟩ : Fin 128) = s := Fin.ext (show 16 + (s.val - 16) = s.val by omega)
        rw [e]
        rfl
      · rw [if_neg h32, dif_neg (by omega)]

end Cert.Reference34Ideal.Value

namespace Cert.Kernel34Ideal.Value

open Cert.Kernel34Ideal Cert.Kernel34Ideal.Gen

/-- The log-decays of a tile at a row and a column. -/
theorem pay2_at (a0 : FVec Ideal S256x128 .f32) (a1 a2 : FVec Ideal S1x128 .f32) (r : Fin 256) (s : Fin 128) :
    k0_pay2 (F := Ideal) a0 a1 a2 (ix2 r s)
      = if s.val < 16 then (0 - Ideal.exp (a1 (ix2 0 s))) * (max (a0 (ix2 r s) + a2 (ix2 0 s)) 0 + Ideal.log (1 + Ideal.exp (0 - FloatOps.absf (F := Ideal) (φ := .f32) (a0 (ix2 r s) + a2 (ix2 0 s))))) else 0 := by
  rw [← Cert.Gates.select_ite, ← Cert.Gates.lane16]
  pointwise [k0_pay2]

/-- The sums of a tile's chunks up to a row. -/
theorem pay4_at (a0 : FVec Ideal S256x128 .f32) (a1 a2 : FVec Ideal S1x128 .f32) (r : Fin 256) (s : Fin 128) :
    k0_pay4 (F := Ideal) a0 a1 a2 (ix2 r s)
      = ∑ j : Fin 64, if j.val ≤ r.val % 64 then k0_pay2 (F := Ideal) a0 a1 a2 (ix2 ⟨r.val / 64 * 64 + j.val, by omega⟩ s) else 0 := by
  unfold k0_pay4
  generalize k0_pay2 (F := Ideal) a0 a1 a2 = g
  refine Eq.trans ?_ (Cert.Gates.prod_up r fun x => g (ix2 x s))
  pointwise [k0_pay3]

/-- What a tile stores at a row and a column. -/
theorem pay1_at (a0 : FVec Ideal S256x128 .f32) (v24 v37 : FVec Ideal S256x128 .f32) (r : Fin 256) (s : Fin 128) :
    k0_pay1 (F := Ideal) a0 (iota .tc S256x128 32 [1] iota_S256x128_d1_w32) v24 v37 k0_pay5 (Scalar.ofBits .f32 0x3F800000#32) (Scalar.ofBits .f32 0x00000000#32) (ix2 r s)
      = if s.val < 8 then v37 (ix2 r s)
        else if s.val < 16 then ∑ j : Fin 64, if r.val % 64 ≤ j.val then v24 (ix2 ⟨r.val / 64 * 64 + j.val, by omega⟩ s) else 0
        else if s.val < 32 then Ideal.logistic (a0 (ix2 r s)) else 0 := by
  rw [← Cert.Gates.prod_down r fun x => v24 (ix2 x s)]
  rw [← Cert.Gates.select_ite, ← Cert.Gates.lane8, ← Cert.Gates.select_ite, ← Cert.Gates.lane16, ← Cert.Gates.select_ite, ← Cert.Gates.lane32]
  pointwise [k0_pay1, k0_pay5, k0_pay3]

/-- What a point stores is the reference's result at the same place. -/
theorem pure (a0 : FVec Ideal S256x128 .f32) (a1 a2 : FVec Ideal S1x128 .f32) (r : Fin 256) (s : Fin 128) :
    k0_pay1 (F := Ideal) a0 (iota .tc S256x128 32 [1] iota_S256x128_d1_w32) (k0_pay2 a0 a1 a2) (k0_pay4 a0 a1 a2) k0_pay5 (Scalar.ofBits .f32 0x3F800000#32) (Scalar.ofBits .f32 0x00000000#32) (ix2 r s)
      = Cert.Reference34Ideal.Value.ref a0 a1 a2 (ix2 r s) := by
  rw [pay1_at, Cert.Reference34Ideal.Value.ref_at]
  by_cases h8 : s.val < 8
  · rw [if_pos h8, if_pos h8, pay4_at]
    refine Finset.sum_congr rfl fun j _ => if_congr Iff.rfl ?_ rfl
    · rw [pay2_at, if_pos (by omega)]
      rfl
  · rw [if_neg h8, if_neg h8]
    by_cases h16 : s.val < 16
    · rw [if_pos h16, if_pos h16]
      refine Finset.sum_congr rfl fun j _ => if_congr Iff.rfl ?_ rfl
      rw [pay2_at, if_pos h16]
      rfl
    · rw [if_neg h16, if_neg h16]

variable (m : (ℓ : Loc nD τ sig) → Buf (Elt Ideal) ℓ)

/-- The one point's value is the reference's result. -/
theorem final (c : Dev nD) : (dats m 0 c).arrAt 3 (cfgs 0).N
    = Cert.Reference34Ideal.Value.ref (m ((c : Thread nD τ).loc main_arg0)) (m ((c : Thread nD τ).loc main_arg1)) (m ((c : Thread nD τ).loc main_arg2)) := by
  refine (final3 m c).trans ?_
  funext y
  idx_vars y
  exact pure _ _ _ _ _

end Cert.Kernel34Ideal.Value

namespace Cert.Mm34Claims

/-- The reference ends with its arguments unchanged and every counter at zero. -/
theorem frame_reference : Cert.quiescent_Reference34Ideal := fun m ρ _ =>
  (θ_run Cert.Reference34Ideal.defs _ _).mono
    (fun r h => ⟨fun c => (h c).2, sem_eq_zero_of_no_sems (by decide) r.2⟩) (Cert.Reference34Ideal.Value.run_ref m ρ)

/-- The kernel over the reals and the reference end with equal results. -/
theorem algebraic : Cert.algebraic_Kernel34Ideal_Reference34Ideal := by
  intro m ρ m' ρ' _ hagree
  refine ⟨_, Cert.Kernel34Ideal.Value.run_blocks m ρ, ?_⟩
  refine (θ_run Cert.Reference34Ideal.defs _ _).mono
    (fun r h c => ⟨(h c).1.trans ?_, (h c).2⟩)
    (Cert.Reference34Ideal.Value.run_ref m' ρ')
  obtain ⟨h0, h1, h2⟩ := hagree c
  rw [h0, h1, h2]
  exact (Cert.Kernel34Ideal.Value.final m c).symm

end Cert.Mm34Claims

end
-- ==== Proof.lean ====
/- The proof of the five claims of each program: the frames, the idealization, and the equality with the plain mathematics. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Mm2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Mm3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Mm4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Mm5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Mm6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Mm7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Mm8
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Ad10
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Ad11
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Ad12
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Ad13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Ad14
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Ad15
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Mm16
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Mm17
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Mm18
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Mm19
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Mm20
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Mm21
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Mm22
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Mm23
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Mm24
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Mm25
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Mm26
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Mm27
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Mm28
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Mm29
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Mm30
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Mm31
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel32Ideal.Value
public import proofs.«01_k».proof.Proof.Gen.Reference32Ideal.Run
public import proofs.«01_k».proof.Proof.Mm32
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel33Ideal.Value
public import proofs.«01_k».proof.Proof.Gen.Reference33Ideal.Run
public import proofs.«01_k».proof.Proof.Mm33
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel34Ideal.Value
public import proofs.«01_k».proof.Proof.Gen.Reference34Ideal.Run
public import proofs.«01_k».proof.Proof.Mm34
public import Idealize.ShloMosaic.Adequacy
public import Idealize.ShloMosaic.Init
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame

@[expose] public section

noncomputable section

namespace Cert.Proof

open Idealize.ShloMosaic Idealize.SL.Sem Cert.Kernel

/-- The five claims of each program. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Kernel36.Gen.facts, Cert.Kernel36Ideal.Gen.facts, Cert.Kernel37.Gen.facts, Cert.Kernel37Ideal.Gen.facts, Cert.Kernel38.Gen.facts, Cert.Kernel38Ideal.Gen.facts, Cert.Kernel40.Gen.facts, Cert.Kernel40Ideal.Gen.facts, Cert.Kernel41.Gen.facts, Cert.Kernel41Ideal.Gen.facts, Cert.Kernel42.Gen.facts, Cert.Kernel42Ideal.Gen.facts,
  fun m ρ _ => Cert.Kernel.Gen.frame m ρ,
  fun m ρ _ => Cert.KernelIdeal.Gen.frame m ρ,
  Cert.NormClaims.frame_reference,
  fun m ρ _ => Cert.Kernel2.Gen.frame m ρ,
  fun m ρ _ => Cert.Kernel2Ideal.Gen.frame m ρ,
  Cert.Mm2Claims.frame_reference,
  fun m ρ _ => Cert.Kernel3.Gen.frame m ρ,
  fun m ρ _ => Cert.Kernel3Ideal.Gen.frame m ρ,
  Cert.Mm3Claims.frame_reference,
  fun m ρ _ => Cert.Kernel4.Gen.frame m ρ,
  fun m ρ _ => Cert.Kernel4Ideal.Gen.frame m ρ,
  Cert.Mm4Claims.frame_reference,
  fun m ρ _ => Cert.Kernel5.Gen.frame m ρ,
  fun m ρ _ => Cert.Kernel5Ideal.Gen.frame m ρ,
  Cert.Mm5Claims.frame_reference,
  fun m ρ _ => Cert.Kernel6.Gen.frame m ρ,
  fun m ρ _ => Cert.Kernel6Ideal.Gen.frame m ρ,
  Cert.Mm6Claims.frame_reference,
  fun m ρ _ => Cert.Kernel7.Gen.frame m ρ,
  fun m ρ _ => Cert.Kernel7Ideal.Gen.frame m ρ,
  Cert.Mm7Claims.frame_reference,
  fun m ρ _ => Cert.Kernel8.Gen.frame m ρ,
  fun m ρ _ => Cert.Kernel8Ideal.Gen.frame m ρ,
  Cert.Mm8Claims.frame_reference,
  fun m ρ _ => Cert.Kernel10.Gen.frame m ρ,
  fun m ρ _ => Cert.Kernel10Ideal.Gen.frame m ρ,
  Cert.Ad10Claims.frame_reference,
  fun m ρ _ => Cert.Kernel11.Gen.frame m ρ,
  fun m ρ _ => Cert.Kernel11Ideal.Gen.frame m ρ,
  Cert.Ad11Claims.frame_reference,
  fun m ρ _ => Cert.Kernel12.Gen.frame m ρ,
  fun m ρ _ => Cert.Kernel12Ideal.Gen.frame m ρ,
  Cert.Ad12Claims.frame_reference,
  fun m ρ _ => Cert.Kernel13.Gen.frame m ρ,
  fun m ρ _ => Cert.Kernel13Ideal.Gen.frame m ρ,
  Cert.Ad13Claims.frame_reference,
  fun m ρ _ => Cert.Kernel14.Gen.frame m ρ,
  fun m ρ _ => Cert.Kernel14Ideal.Gen.frame m ρ,
  Cert.Ad14Claims.frame_reference,
  fun m ρ _ => Cert.Kernel15.Gen.frame m ρ,
  fun m ρ _ => Cert.Kernel15Ideal.Gen.frame m ρ,
  Cert.Ad15Claims.frame_reference,
  fun m ρ _ => Cert.Kernel16.Gen.frame m ρ,
  fun m ρ _ => Cert.Kernel16Ideal.Gen.frame m ρ,
  Cert.Mm16Claims.frame_reference,
  fun m ρ _ => Cert.Kernel17.Gen.frame m ρ,
  fun m ρ _ => Cert.Kernel17Ideal.Gen.frame m ρ,
  Cert.Mm17Claims.frame_reference,
  fun m ρ _ => Cert.Kernel18.Gen.frame m ρ,
  fun m ρ _ => Cert.Kernel18Ideal.Gen.frame m ρ,
  Cert.Mm18Claims.frame_reference,
  fun m ρ _ => Cert.Kernel19.Gen.frame m ρ,
  fun m ρ _ => Cert.Kernel19Ideal.Gen.frame m ρ,
  Cert.Mm19Claims.frame_reference,
  fun m ρ _ => Cert.Kernel20.Gen.frame m ρ,
  fun m ρ _ => Cert.Kernel20Ideal.Gen.frame m ρ,
  Cert.Mm20Claims.frame_reference,
  fun m ρ _ => Cert.Kernel21.Gen.frame m ρ,
  fun m ρ _ => Cert.Kernel21Ideal.Gen.frame m ρ,
  Cert.Mm21Claims.frame_reference,
  fun m ρ _ => Cert.Kernel22.Gen.frame m ρ,
  fun m ρ _ => Cert.Kernel22Ideal.Gen.frame m ρ,
  Cert.Mm22Claims.frame_reference,
  fun m ρ _ => Cert.Kernel23.Gen.frame m ρ,
  fun m ρ _ => Cert.Kernel23Ideal.Gen.frame m ρ,
  Cert.Mm23Claims.frame_reference,
  fun m ρ _ => Cert.Kernel24.Gen.frame m ρ,
  fun m ρ _ => Cert.Kernel24Ideal.Gen.frame m ρ,
  Cert.Mm24Claims.frame_reference,
  fun m ρ _ => Cert.Kernel25.Gen.frame m ρ,
  fun m ρ _ => Cert.Kernel25Ideal.Gen.frame m ρ,
  Cert.Mm25Claims.frame_reference,
  fun m ρ _ => Cert.Kernel26.Gen.frame m ρ,
  fun m ρ _ => Cert.Kernel26Ideal.Gen.frame m ρ,
  Cert.Mm26Claims.frame_reference,
  fun m ρ _ => Cert.Kernel27.Gen.frame m ρ,
  fun m ρ _ => Cert.Kernel27Ideal.Gen.frame m ρ,
  Cert.Mm27Claims.frame_reference,
  fun m ρ _ => Cert.Kernel28.Gen.frame m ρ,
  fun m ρ _ => Cert.Kernel28Ideal.Gen.frame m ρ,
  Cert.Mm28Claims.frame_reference,
  fun m ρ _ => Cert.Kernel29.Gen.frame m ρ,
  fun m ρ _ => Cert.Kernel29Ideal.Gen.frame m ρ,
  Cert.Mm29Claims.frame_reference,
  fun m ρ _ => Cert.Kernel30.Gen.frame m ρ,
  fun m ρ _ => Cert.Kernel30Ideal.Gen.frame m ρ,
  Cert.Mm30Claims.frame_reference,
  fun m ρ _ => Cert.Kernel31.Gen.frame m ρ,
  fun m ρ _ => Cert.Kernel31Ideal.Gen.frame m ρ,
  Cert.Mm31Claims.frame_reference,
  fun m ρ _ => Cert.Kernel32.Gen.frame m ρ,
  fun m ρ _ => Cert.Kernel32Ideal.Gen.frame m ρ,
  Cert.Mm32Claims.frame_reference,
  fun m ρ _ => Cert.Kernel33.Gen.frame m ρ,
  fun m ρ _ => Cert.Kernel33Ideal.Gen.frame m ρ,
  Cert.Mm33Claims.frame_reference,
  fun m ρ _ => Cert.Kernel34.Gen.frame m ρ,
  fun m ρ _ => Cert.Kernel34Ideal.Gen.frame m ρ,
  Cert.Mm34Claims.frame_reference,
  fun m ρ _ => Cert.Kernel35.Gen.frame m ρ,
  fun m ρ _ => Cert.Kernel35Ideal.Gen.frame m ρ,
  fun m ρ _ => Cert.Kernel36.Gen.frame m ρ,
  fun m ρ _ => Cert.Kernel36Ideal.Gen.frame m ρ,
  fun m ρ _ => Cert.Kernel37.Gen.frame m ρ,
  fun m ρ _ => Cert.Kernel37Ideal.Gen.frame m ρ,
  fun m ρ _ => Cert.Kernel38.Gen.frame m ρ,
  fun m ρ _ => Cert.Kernel38Ideal.Gen.frame m ρ,
  fun m ρ _ => Cert.Kernel40.Gen.frame m ρ,
  fun m ρ _ => Cert.Kernel40Ideal.Gen.frame m ρ,
  fun m ρ _ => Cert.Kernel41.Gen.frame m ρ,
  fun m ρ _ => Cert.Kernel41Ideal.Gen.frame m ρ,
  fun m ρ _ => Cert.Kernel42.Gen.frame m ρ,
  fun m ρ _ => Cert.Kernel42Ideal.Gen.frame m ρ,
  trivial, Cert.NormClaims.algebraic,
  trivial, Cert.Mm2Claims.algebraic,
  trivial, Cert.Mm3Claims.algebraic,
  trivial, Cert.Mm4Claims.algebraic,
  trivial, Cert.Mm5Claims.algebraic,
  trivial, Cert.Mm6Claims.algebraic,
  trivial, Cert.Mm7Claims.algebraic,
  trivial, Cert.Mm8Claims.algebraic,
  Cert.Ad10Claims.preserves, Cert.Ad10Claims.algebraic,
  Cert.Ad11Claims.preserves, Cert.Ad11Claims.algebraic,
  Cert.Ad12Claims.preserves, Cert.Ad12Claims.algebraic,
  Cert.Ad13Claims.preserves, Cert.Ad13Claims.algebraic,
  Cert.Ad14Claims.preserves, Cert.Ad14Claims.algebraic,
  Cert.Ad15Claims.preserves, Cert.Ad15Claims.algebraic,
  trivial, Cert.Mm16Claims.algebraic,
  trivial, Cert.Mm17Claims.algebraic,
  trivial, Cert.Mm18Claims.algebraic,
  trivial, Cert.Mm19Claims.algebraic,
  trivial, Cert.Mm20Claims.algebraic,
  trivial, Cert.Mm21Claims.algebraic,
  trivial, Cert.Mm22Claims.algebraic,
  trivial, Cert.Mm23Claims.algebraic,
  trivial, Cert.Mm24Claims.algebraic,
  trivial, Cert.Mm25Claims.algebraic,
  trivial, Cert.Mm26Claims.algebraic,
  trivial, Cert.Mm27Claims.algebraic,
  trivial, Cert.Mm28Claims.algebraic,
  trivial, Cert.Mm29Claims.algebraic,
  trivial, Cert.Mm30Claims.algebraic,
  trivial, Cert.Mm31Claims.algebraic,
  trivial, Cert.Mm32Claims.algebraic,
  trivial, Cert.Mm33Claims.algebraic,
  trivial, Cert.Mm34Claims.algebraic,
  trivial, trivial, trivial, trivial, trivial, trivial, trivial⟩

end Cert.Proof

end
